-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200x64 : Shape := ⟨3, ![1024, 200, 64]⟩
abbrev S1024x200 : Shape := ⟨2, ![1024, 200]⟩
abbrev S64 : Shape := ⟨1, ![64]⟩
abbrev S1 : Shape := ⟨1, ![1]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : FVec F S1024x200x64 .f32) (main_arg1 : IVec S1024x200 32) (main_arg2 : FVec F S64 .f32) (main_arg3 : FVec F S1 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg1 main_v0
  let main_c_0 : IVec S_ 32 := constantI S_ 32 100000#32
  let main_v2 : IVec S1024x200 32 := broadcastInDim S1024x200 ![] bcast_S_S1024x200 main_c_0
  let main_v3 : IVec S1024x200 1 := cmpi .slt main_arg1 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200x64 : Shape := ⟨3, ![1024, 200, 64]⟩
abbrev S1024x200 : Shape := ⟨2, ![1024, 200]⟩
abbrev S64 : Shape := ⟨1, ![64]⟩
abbrev S1 : Shape := ⟨1, ![1]⟩
abbrev S200x64x1024 : Shape := ⟨3, ![200, 64, 1024]⟩
abbrev S200x1024 : Shape := ⟨2, ![200, 1024]⟩
abbrev S200x64x128 : Shape := ⟨3, ![200, 64, 128]⟩
abbrev S200x128 : Shape := ⟨2, ![200, 128]⟩
abbrev S128x200 : Shape := ⟨2, ![128, 200]⟩
abbrev S1x64x128 : Shape := ⟨3, ![1, 64, 128]⟩
abbrev S1x64x1 : Shape := ⟨3, ![1, 64, 1]⟩
abbrev S128 : Shape := ⟨1, ![128]⟩
abbrev S1x128 : Shape := ⟨2, ![1, 128]⟩
abbrev S204800 : Shape := ⟨1, ![204800]⟩
abbrev S1024x100000 : Shape := ⟨2, ![1024, 100000]⟩
abbrev S8x8192 : Shape := ⟨2, ![8, 8192]⟩
abbrev S8x1696 : Shape := ⟨2, ![8, 1696]⟩
abbrev S1616 : Shape := ⟨1, ![1616]⟩
abbrev S16 : Shape := ⟨1, ![16]⟩
abbrev S1x16 : Shape := ⟨2, ![1, 16]⟩
abbrev S_ : Shape := ⟨0, ![]⟩
abbrev S1600 : Shape := ⟨1, ![1600]⟩

abbrev nBuf : Table → Nat
  | .hbm => 10
  | .local .tc .vmem => 8
  | .local .scVector .vmem => 4
  | _ => 0

abbrev bufTy : (tb : Table) → Fin (nBuf tb) → BufTy
  | .hbm, ⟨0, _⟩ => ⟨S1024x200x64, .f32⟩
  | .hbm, ⟨1, _⟩ => ⟨S1024x200, .i32⟩
  | .hbm, ⟨2, _⟩ => ⟨S64, .f32⟩
  | .hbm, ⟨3, _⟩ => ⟨S1, .f32⟩
  | .hbm, ⟨4, _⟩ => ⟨S200x64x1024, .f32⟩
  | .hbm, ⟨5, _⟩ => ⟨S200x1024, .i32⟩
  | .hbm, ⟨6, _⟩ => ⟨S1024x200, .f32⟩
  | .hbm, ⟨7, _⟩ => ⟨S204800, .i32⟩
  | .hbm, ⟨8, _⟩ => ⟨S204800, .f32⟩
  | .hbm, ⟨9, _⟩ => ⟨S1024x100000, .f32⟩
  | .local .tc .vmem, ⟨0, _⟩ => ⟨S200x64x128, .f32⟩
  | .local .tc .vmem, ⟨1, _⟩ => ⟨S200x64x128, .f32⟩
  | .local .tc .vmem, ⟨2, _⟩ => ⟨S200x128, .i32⟩
  | .local .tc .vmem, ⟨3, _⟩ => ⟨S200x128, .i32⟩
  | .local .tc .vmem, ⟨4, _⟩ => ⟨S64, .f32⟩
  | .local .tc .vmem, ⟨5, _⟩ => ⟨S1, .f32⟩
  | .local .tc .vmem, ⟨6, _⟩ => ⟨S128x200, .f32⟩
  | .local .tc .vmem, ⟨7, _⟩ => ⟨S128x200, .f32⟩
  | .local .scVector .vmem, ⟨0, _⟩ => ⟨S8x8192, .f32⟩
  | .local .scVector .vmem, ⟨1, _⟩ => ⟨S8x1696, .f32⟩
  | .local .scVector .vmem, ⟨2, _⟩ => ⟨S1616, .i32⟩
  | .local .scVector .vmem, ⟨3, _⟩ => ⟨S1616, .f32⟩
  | _, _ => ⟨S1024x200x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

@[reducible] def k1_t1_loop : Scf.Loop 32 :=
  let c0_i32 : BitVec 32 := 0#32
  let c512_i32 : BitVec 32 := 512#32
  let v6 : BitVec 32 := Scalar.addi c0_i32 c512_i32
  let c1_i32 : BitVec 32 := 1#32
  ⟨c0_i32, v6, c1_i32⟩
def k1_off1 (k1_t1 : Fin k1_t1_loop.trips) : Fin 2 → Nat :=
  let c0_i32_63 : BitVec 32 := 0#32
  let v24 : Index := Scalar.indexCast c0_i32_63
  let c0_i32 : BitVec 32 := 0#32
  let c1_i32 : BitVec 32 := 1#32
  let arg9 : BitVec 32 := Scf.iv c0_i32 c1_i32 k1_t1
  let c16_i32 : BitVec 32 := 16#32
  let v23 : BitVec 32 := Scalar.muli arg9 c16_i32
  let v25 : Index := Scalar.indexCast v23
  ![0, v25.toNat]
@[reducible] def k1_t2_loop : Scf.Loop 32 :=
  let c0_i32_1 : BitVec 32 := 0#32
  let c106_i32 : BitVec 32 := 106#32
  let v7 : BitVec 32 := Scalar.addi c0_i32_1 c106_i32
  let c1_i32_2 : BitVec 32 := 1#32
  ⟨c0_i32_1, v7, c1_i32_2⟩
def k1_off2 (k1_t2 : Fin k1_t2_loop.trips) : Fin 2 → Nat :=
  let c0_i32_63 : BitVec 32 := 0#32
  let v24 : Index := Scalar.indexCast c0_i32_63
  let c0_i32_1 : BitVec 32 := 0#32
  let c1_i32_2 : BitVec 32 := 1#32
  let arg9 : BitVec 32 := Scf.iv c0_i32_1 c1_i32_2 k1_t2
  let c16_i32 : BitVec 32 := 16#32
  let v23 : BitVec 32 := Scalar.muli arg9 c16_i32
  let v25 : Index := Scalar.indexCast v23
  ![0, v25.toNat]
@[reducible] def k1_t3_loop : Scf.Loop 32 :=
  let c0_i32_4 : BitVec 32 := 0#32
  let c512_i32_5 : BitVec 32 := 512#32
  let v8 : BitVec 32 := Scalar.addi c0_i32_4 c512_i32_5
  let c1_i32_6 : BitVec 32 := 1#32
  ⟨c0_i32_4, v8, c1_i32_6⟩
def k1_off3 (k1_t3 : Fin k1_t3_loop.trips) : Fin 2 → Nat :=
  let c1_i32_63 : BitVec 32 := 1#32
  let v24 : Index := Scalar.indexCast c1_i32_63
  let c0_i32_4 : BitVec 32 := 0#32
  let c1_i32_6 : BitVec 32 := 1#32
  let arg9 : BitVec 32 := Scf.iv c0_i32_4 c1_i32_6 k1_t3
  let c16_i32 : BitVec 32 := 16#32
  let v23 : BitVec 32 := Scalar.muli arg9 c16_i32
  let v25 : Index := Scalar.indexCast v23
  ![1, v25.toNat]
@[reducible] def k1_t4_loop : Scf.Loop 32 :=
  let c0_i32_8 : BitVec 32 := 0#32
  let c106_i32_9 : BitVec 32 := 106#32
  let v9 : BitVec 32 := Scalar.addi c0_i32_8 c106_i32_9
  let c1_i32_10 : BitVec 32 := 1#32
  ⟨c0_i32_8, v9, c1_i32_10⟩
def k1_off4 (k1_t4 : Fin k1_t4_loop.trips) : Fin 2 → Nat :=
  let c1_i32_63 : BitVec 32 := 1#32
  let v24 : Index := Scalar.indexCast c1_i32_63
  let c0_i32_8 : BitVec 32 := 0#32
  let c1_i32_10 : BitVec 32 := 1#32
  let arg9 : BitVec 32 := Scf.iv c0_i32_8 c1_i32_10 k1_t4
  let c16_i32 : BitVec 32 := 16#32
  let v23 : BitVec 32 := Scalar.muli arg9 c16_i32
  let v25 : Index := Scalar.indexCast v23
  ![1, v25.toNat]
@[reducible] def k1_t5_loop : Scf.Loop 32 :=
  let c0_i32_12 : BitVec 32 := 0#32
  let c512_i32_13 : BitVec 32 := 512#32
  let v10 : BitVec 32 := Scalar.addi c0_i32_12 c512_i32_13
  let c1_i32_14 : BitVec 32 := 1#32
  ⟨c0_i32_12, v10, c1_i32_14⟩
def k1_off5 (k1_t5 : Fin k1_t5_loop.trips) : Fin 2 → Nat :=
  let c2_i32_63 : BitVec 32 := 2#32
  let v24 : Index := Scalar.indexCast c2_i32_63
  let c0_i32_12 : BitVec 32 := 0#32
  let c1_i32_14 : BitVec 32 := 1#32
  let arg9 : BitVec 32 := Scf.iv c0_i32_12 c1_i32_14 k1_t5
  let c16_i32 : BitVec 32 := 16#32
  let v23 : BitVec 32 := Scalar.muli arg9 c16_i32
  let v25 : Index := Scalar.indexCast v23
  ![2, v25.toNat]
@[reducible] def k1_t6_loop : Scf.Loop 32 :=
  let c0_i32_16 : BitVec 32 := 0#32
  let c106_i32_17 : BitVec 32 := 106#32
  let v11 : BitVec 32 := Scalar.addi c0_i32_16 c106_i32_17
  let c1_i32_18 : BitVec 32 := 1#32
  ⟨c0_i32_16, v11, c1_i32_18⟩
def k1_off6 (k1_t6 : Fin k1_t6_loop.trips) : Fin 2 → Nat :=
  let c2_i32_63 : BitVec 32 := 2#32
  let v24 : Index := Scalar.indexCast c2_i32_63
  let c0_i32_16 : BitVec 32 := 0#32
  let c1_i32_18 : BitVec 32 := 1#32
  let arg9 : BitVec 32 := Scf.iv c0_i32_16 c1_i32_18 k1_t6
  let c16_i32 : BitVec 32 := 16#32
  let v23 : BitVec 32 := Scalar.muli arg9 c16_i32
  let v25 : Index := Scalar.indexCast v23
  ![2, v25.toNat]
@[reducible] def k1_t7_loop : Scf.Loop 32 :=
  let c0_i32_20 : BitVec 32 := 0#32
  let c512_i32_21 : BitVec 32 := 512#32
  let v12 : BitVec 32 := Scalar.addi c0_i32_20 c512_i32_21
  let c1_i32_22 : BitVec 32 := 1#32
  ⟨c0_i32_20, v12, c1_i32_22⟩
def k1_off7 (k1_t7 : Fin k1_t7_loop.trips) : Fin 2 → Nat :=
  let c3_i32 : BitVec 32 := 3#32
  let v24 : Index := Scalar.indexCast c3_i32
  let c0_i32_20 : BitVec 32 := 0#32
  let c1_i32_22 : BitVec 32 := 1#32
  let arg9 : BitVec 32 := Scf.iv c0_i32_20 c1_i32_22 k1_t7
  let c16_i32 : BitVec 32 := 16#32
  let v23 : BitVec 32 := Scalar.muli arg9 c16_i32
  let v25 : Index := Scalar.indexCast v23
  ![3, v25.toNat]
@[reducible] def k1_t8_loop : Scf.Loop 32 :=
  let c0_i32_24 : BitVec 32 := 0#32
  let c106_i32_25 : BitVec 32 := 106#32
  let v13 : BitVec 32 := Scalar.addi c0_i32_24 c106_i32_25
  let c1_i32_26 : BitVec 32 := 1#32
  ⟨c0_i32_24, v13, c1_i32_26⟩
def k1_off8 (k1_t8 : Fin k1_t8_loop.trips) : Fin 2 → Nat :=
  let c3_i32 : BitVec 32 := 3#32
  let v24 : Index := Scalar.indexCast c3_i32
  let c0_i32_24 : BitVec 32 := 0#32
  let c1_i32_26 : BitVec 32 := 1#32
  let arg9 : BitVec 32 := Scf.iv c0_i32_24 c1_i32_26 k1_t8
  let c16_i32 : BitVec 32 := 16#32
  let v23 : BitVec 32 := Scalar.muli arg9 c16_i32
  let v25 : Index := Scalar.indexCast v23
  ![3, v25.toNat]
@[reducible] def k1_t9_loop : Scf.Loop 32 :=
  let c0_i32_28 : BitVec 32 := 0#32
  let c512_i32_29 : BitVec 32 := 512#32
  let v14 : BitVec 32 := Scalar.addi c0_i32_28 c512_i32_29
  let c1_i32_30 : BitVec 32 := 1#32
  ⟨c0_i32_28, v14, c1_i32_30⟩
def k1_off9 (k1_t9 : Fin k1_t9_loop.trips) : Fin 2 → Nat :=
  let c4_i32_63 : BitVec 32 := 4#32
  let v24 : Index := Scalar.indexCast c4_i32_63
  let c0_i32_28 : BitVec 32 := 0#32
  let c1_i32_30 : BitVec 32 := 1#32
  let arg9 : BitVec 32 := Scf.iv c0_i32_28 c1_i32_30 k1_t9
  let c16_i32 : BitVec 32 := 16#32
  let v23 : BitVec 32 := Scalar.muli arg9 c16_i32
  let v25 : Index := Scalar.indexCast v23
  ![4, v25.toNat]
@[reducible] def k1_t10_loop : Scf.Loop 32 :=
  let c0_i32_32 : BitVec 32 := 0#32
  let c106_i32_33 : BitVec 32 := 106#32
  let v15 : BitVec 32 := Scalar.addi c0_i32_32 c106_i32_33
  let c1_i32_34 : BitVec 32 := 1#32
  ⟨c0_i32_32, v15, c1_i32_34⟩
def k1_off10 (k1_t10 : Fin k1_t10_loop.trips) : Fin 2 → Nat :=
  let c4_i32_63 : BitVec 32 := 4#32
  let v24 : Index := Scalar.indexCast c4_i32_63
  let c0_i32_32 : BitVec 32 := 0#32
  let c1_i32_34 : BitVec 32 := 1#32
  let arg9 : BitVec 32 := Scf.iv c0_i32_32 c1_i32_34 k1_t10
  let c16_i32 : BitVec 32 := 16#32
  let v23 : BitVec 32 := Scalar.muli arg9 c16_i32
  let v25 : Index := Scalar.indexCast v23
  ![4, v25.toNat]
@[reducible] def k1_t11_loop : Scf.Loop 32 :=
  let c0_i32_36 : BitVec 32 := 0#32
  let c512_i32_37 : BitVec 32 := 512#32
  let v16 : BitVec 32 := Scalar.addi c0_i32_36 c512_i32_37
  let c1_i32_38 : BitVec 32 := 1#32
  ⟨c0_i32_36, v16, c1_i32_38⟩
def k1_off11 (k1_t11 : Fin k1_t11_loop.trips) : Fin 2 → Nat :=
  let c5_i32 : BitVec 32 := 5#32
  let v24 : Index := Scalar.indexCast c5_i32
  let c0_i32_36 : BitVec 32 := 0#32
  let c1_i32_38 : BitVec 32 := 1#32
  let arg9 : BitVec 32 := Scf.iv c0_i32_36 c1_i32_38 k1_t11
  let c16_i32 : BitVec 32 := 16#32
  let v23 : BitVec 32 := Scalar.muli arg9 c16_i32
  let v25 : Index := Scalar.indexCast v23
  ![5, v25.toNat]
@[reducible] def k1_t12_loop : Scf.Loop 32 :=
  let c0_i32_40 : BitVec 32 := 0#32
  let c106_i32_41 : BitVec 32 := 106#32
  let v17 : BitVec 32 := Scalar.addi c0_i32_40 c106_i32_41
  let c1_i32_42 : BitVec 32 := 1#32
  ⟨c0_i32_40, v17, c1_i32_42⟩
def k1_off12 (k1_t12 : Fin k1_t12_loop.trips) : Fin 2 → Nat :=
  let c5_i32 : BitVec 32 := 5#32
  let v24 : Index := Scalar.indexCast c5_i32
  let c0_i32_40 : BitVec 32 := 0#32
  let c1_i32_42 : BitVec 32 := 1#32
  let arg9 : BitVec 32 := Scf.iv c0_i32_40 c1_i32_42 k1_t12
  let c16_i32 : BitVec 32 := 16#32
  let v23 : BitVec 32 := Scalar.muli arg9 c16_i32
  let v25 : Index := Scalar.indexCast v23
  ![5, v25.toNat]
@[reducible] def k1_t13_loop : Scf.Loop 32 :=
  let c0_i32_44 : BitVec 32 := 0#32
  let c512_i32_45 : BitVec 32 := 512#32
  let v18 : BitVec 32 := Scalar.addi c0_i32_44 c512_i32_45
  let c1_i32_46 : BitVec 32 := 1#32
  ⟨c0_i32_44, v18, c1_i32_46⟩
def k1_off13 (k1_t13 : Fin k1_t13_loop.trips) : Fin 2 → Nat :=
  let c6_i32 : BitVec 32 := 6#32
  let v24 : Index := Scalar.indexCast c6_i32
  let c0_i32_44 : BitVec 32 := 0#32
  let c1_i32_46 : BitVec 32 := 1#32
  let arg9 : BitVec 32 := Scf.iv c0_i32_44 c1_i32_46 k1_t13
  let c16_i32 : BitVec 32 := 16#32
  let v23 : BitVec 32 := Scalar.muli arg9 c16_i32
  let v25 : Index := Scalar.indexCast v23
  ![6, v25.toNat]
@[reducible] def k1_t14_loop : Scf.Loop 32 :=
  let c0_i32_48 : BitVec 32 := 0#32
  let c106_i32_49 : BitVec 32 := 106#32
  let v19 : BitVec 32 := Scalar.addi c0_i32_48 c106_i32_49
  let c1_i32_50 : BitVec 32 := 1#32
  ⟨c0_i32_48, v19, c1_i32_50⟩
def k1_off14 (k1_t14 : Fin k1_t14_loop.trips) : Fin 2 → Nat :=
  let c6_i32 : BitVec 32 := 6#32
  let v24 : Index := Scalar.indexCast c6_i32
  let c0_i32_48 : BitVec 32 := 0#32
  let c1_i32_50 : BitVec 32 := 1#32
  let arg9 : BitVec 32 := Scf.iv c0_i32_48 c1_i32_50 k1_t14
  let c16_i32 : BitVec 32 := 16#32
  let v23 : BitVec 32 := Scalar.muli arg9 c16_i32
  let v25 : Index := Scalar.indexCast v23
  ![6, v25.toNat]
@[reducible] def k1_t15_loop : Scf.Loop 32 :=
  let c0_i32_52 : BitVec 32 := 0#32
  let c512_i32_53 : BitVec 32 := 512#32
  let v20 : BitVec 32 := Scalar.addi c0_i32_52 c512_i32_53
  let c1_i32_54 : BitVec 32 := 1#32
  ⟨c0_i32_52, v20, c1_i32_54⟩
def k1_off15 (k1_t15 : Fin k1_t15_loop.trips) : Fin 2 → Nat :=
  let c7_i32 : BitVec 32 := 7#32
  let v24 : Index := Scalar.indexCast c7_i32
  let c0_i32_52 : BitVec 32 := 0#32
  let c1_i32_54 : BitVec 32 := 1#32
  let arg9 : BitVec 32 := Scf.iv c0_i32_52 c1_i32_54 k1_t15
  let c16_i32 : BitVec 32 := 16#32
  let v23 : BitVec 32 := Scalar.muli arg9 c16_i32
  let v25 : Index := Scalar.indexCast v23
  ![7, v25.toNat]
@[reducible] def k1_t16_loop : Scf.Loop 32 :=
  let c0_i32_56 : BitVec 32 := 0#32
  let c106_i32_57 : BitVec 32 := 106#32
  let v21 : BitVec 32 := Scalar.addi c0_i32_56 c106_i32_57
  let c1_i32_58 : BitVec 32 := 1#32
  ⟨c0_i32_56, v21, c1_i32_58⟩
def k1_off16 (k1_t16 : Fin k1_t16_loop.trips) : Fin 2 → Nat :=
  let c7_i32 : BitVec 32 := 7#32
  let v24 : Index := Scalar.indexCast c7_i32
  let c0_i32_56 : BitVec 32 := 0#32
  let c1_i32_58 : BitVec 32 := 1#32
  let arg9 : BitVec 32 := Scf.iv c0_i32_56 c1_i32_58 k1_t16
  let c16_i32 : BitVec 32 := 16#32
  let v23 : BitVec 32 := Scalar.muli arg9 c16_i32
  let v25 : Index := Scalar.indexCast v23
  ![7, v25.toNat]
@[reducible] def k1_t17_loop : Scf.Loop 32 :=
  let c0_i32_60 : BitVec 32 := 0#32
  let c4_i32 : BitVec 32 := 4#32
  let v22 : BitVec 32 := Scalar.addi c0_i32_60 c4_i32
  let c1_i32_61 : BitVec 32 := 1#32
  ⟨c0_i32_60, v22, c1_i32_61⟩
def k1_off17 (i : grid1.Coords) (k1_t17 : Fin k1_t17_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_63 : BitVec 32 := 4#32
  let v23 : BitVec 32 := Scalar.muli v1 c4_i32_63
  let c0_i32_60 : BitVec 32 := 0#32
  let c1_i32_61 : BitVec 32 := 1#32
  let arg9 : BitVec 32 := Scf.iv c0_i32_60 c1_i32_61 k1_t17
  let v24 : BitVec 32 := Scalar.addi v23 arg9
  let c1600_i32 : BitVec 32 := 1600#32
  let v26 : BitVec 32 := Scalar.muli v24 c1600_i32
  ![v26.toNat]
@[reducible] def k1_t18_loop : Scf.Loop 32 :=
  let c0_i32_66 : BitVec 32 := 0#32
  let c12_i32 : BitVec 32 := 12#32
  let v28 : BitVec 32 := Scalar.addi c0_i32_66 c12_i32
  let c1_i32_67 : BitVec 32 := 1#32
  ⟨c0_i32_66, v28, c1_i32_67⟩

def k1_chk1 (v2037 : IVec S16 32) (v2044 : IVec S16 32) : Prop :=
  (∀ a x, ((![v2037, v2044] : Fin 2 → IVec S16 32) a x).toNat < S8x8192.size a)
theorem k1_idx1_inb : ∀ (v2037 : IVec S16 32) (v2044 : IVec S16 32) (k1_hw1 : k1_chk1 v2037 v2044), ∀ a x, ((![v2037, v2044] : Fin 2 → IVec S16 32) a x).toNat < S8x8192.size a := fun v2037 v2044 k1_hw1 => k1_hw1

def k1_chk2 (v2037 : IVec S16 32) (v2052 : IVec S16 32) : Prop :=
  (∀ a x, ((![v2037, v2052] : Fin 2 → IVec S16 32) a x).toNat < S8x8192.size a)
theorem k1_idx2_inb : ∀ (v2037 : IVec S16 32) (v2052 : IVec S16 32) (k1_hw2 : k1_chk2 v2037 v2052), ∀ a x, ((![v2037, v2052] : Fin 2 → IVec S16 32) a x).toNat < S8x8192.size a := fun v2037 v2052 k1_hw2 => k1_hw2

def k1_chk3 (v2037 : IVec S16 32) (v2060 : IVec S16 32) : Prop :=
  (∀ a x, ((![v2037, v2060] : Fin 2 → IVec S16 32) a x).toNat < S8x8192.size a)
theorem k1_idx3_inb : ∀ (v2037 : IVec S16 32) (v2060 : IVec S16 32) (k1_hw3 : k1_chk3 v2037 v2060), ∀ a x, ((![v2037, v2060] : Fin 2 → IVec S16 32) a x).toNat < S8x8192.size a := fun v2037 v2060 k1_hw3 => k1_hw3

def k1_chk4 (v2037 : IVec S16 32) (v2068 : IVec S16 32) : Prop :=
  (∀ a x, ((![v2037, v2068] : Fin 2 → IVec S16 32) a x).toNat < S8x8192.size a)
theorem k1_idx4_inb : ∀ (v2037 : IVec S16 32) (v2068 : IVec S16 32) (k1_hw4 : k1_chk4 v2037 v2068), ∀ a x, ((![v2037, v2068] : Fin 2 → IVec S16 32) a x).toNat < S8x8192.size a := fun v2037 v2068 k1_hw4 => k1_hw4

def k1_chk5 (v2037 : IVec S16 32) (v2076 : IVec S16 32) : Prop :=
  (∀ a x, ((![v2037, v2076] : Fin 2 → IVec S16 32) a x).toNat < S8x8192.size a)
theorem k1_idx5_inb : ∀ (v2037 : IVec S16 32) (v2076 : IVec S16 32) (k1_hw5 : k1_chk5 v2037 v2076), ∀ a x, ((![v2037, v2076] : Fin 2 → IVec S16 32) a x).toNat < S8x8192.size a := fun v2037 v2076 k1_hw5 => k1_hw5

def k1_chk6 (v2037 : IVec S16 32) (v2084 : IVec S16 32) : Prop :=
  (∀ a x, ((![v2037, v2084] : Fin 2 → IVec S16 32) a x).toNat < S8x8192.size a)
theorem k1_idx6_inb : ∀ (v2037 : IVec S16 32) (v2084 : IVec S16 32) (k1_hw6 : k1_chk6 v2037 v2084), ∀ a x, ((![v2037, v2084] : Fin 2 → IVec S16 32) a x).toNat < S8x8192.size a := fun v2037 v2084 k1_hw6 => k1_hw6

def k1_chk7 (v2037 : IVec S16 32) (v2092 : IVec S16 32) : Prop :=
  (∀ a x, ((![v2037, v2092] : Fin 2 → IVec S16 32) a x).toNat < S8x8192.size a)
theorem k1_idx7_inb : ∀ (v2037 : IVec S16 32) (v2092 : IVec S16 32) (k1_hw7 : k1_chk7 v2037 v2092), ∀ a x, ((![v2037, v2092] : Fin 2 → IVec S16 32) a x).toNat < S8x8192.size a := fun v2037 v2092 k1_hw7 => k1_hw7

def k1_chk8 (v2037 : IVec S16 32) (v2100 : IVec S16 32) : Prop :=
  (∀ a x, ((![v2037, v2100] : Fin 2 → IVec S16 32) a x).toNat < S8x8192.size a)
theorem k1_idx8_inb : ∀ (v2037 : IVec S16 32) (v2100 : IVec S16 32) (k1_hw8 : k1_chk8 v2037 v2100), ∀ a x, ((![v2037, v2100] : Fin 2 → IVec S16 32) a x).toNat < S8x8192.size a := fun v2037 v2100 k1_hw8 => k1_hw8

def k1_chk9 (v2037 : IVec S16 32) (v2108 : IVec S16 32) : Prop :=
  (∀ a x, ((![v2037, v2108] : Fin 2 → IVec S16 32) a x).toNat < S8x8192.size a)
theorem k1_idx9_inb : ∀ (v2037 : IVec S16 32) (v2108 : IVec S16 32) (k1_hw9 : k1_chk9 v2037 v2108), ∀ a x, ((![v2037, v2108] : Fin 2 → IVec S16 32) a x).toNat < S8x8192.size a := fun v2037 v2108 k1_hw9 => k1_hw9

def k1_chk10 (v2037 : IVec S16 32) (v2116 : IVec S16 32) : Prop :=
  (∀ a x, ((![v2037, v2116] : Fin 2 → IVec S16 32) a x).toNat < S8x8192.size a)
theorem k1_idx10_inb : ∀ (v2037 : IVec S16 32) (v2116 : IVec S16 32) (k1_hw10 : k1_chk10 v2037 v2116), ∀ a x, ((![v2037, v2116] : Fin 2 → IVec S16 32) a x).toNat < S8x8192.size a := fun v2037 v2116 k1_hw10 => k1_hw10

def k1_chk11 (v2037 : IVec S16 32) (v2124 : IVec S16 32) : Prop :=
  (∀ a x, ((![v2037, v2124] : Fin 2 → IVec S16 32) a x).toNat < S8x8192.size a)
theorem k1_idx11_inb : ∀ (v2037 : IVec S16 32) (v2124 : IVec S16 32) (k1_hw11 : k1_chk11 v2037 v2124), ∀ a x, ((![v2037, v2124] : Fin 2 → IVec S16 32) a x).toNat < S8x8192.size a := fun v2037 v2124 k1_hw11 => k1_hw11

def k1_chk12 (v2037 : IVec S16 32) (v2132 : IVec S16 32) : Prop :=
  (∀ a x, ((![v2037, v2132] : Fin 2 → IVec S16 32) a x).toNat < S8x8192.size a)
theorem k1_idx12_inb : ∀ (v2037 : IVec S16 32) (v2132 : IVec S16 32) (k1_hw12 : k1_chk12 v2037 v2132), ∀ a x, ((![v2037, v2132] : Fin 2 → IVec S16 32) a x).toNat < S8x8192.size a := fun v2037 v2132 k1_hw12 => k1_hw12

def k1_chk13 (v2037 : IVec S16 32) (v2141 : IVec S16 32) : Prop :=
  (∀ a x, ((![v2037, v2141] : Fin 2 → IVec S16 32) a x).toNat < S8x8192.size a)
theorem k1_idx13_inb : ∀ (v2037 : IVec S16 32) (v2141 : IVec S16 32) (k1_hw13 : k1_chk13 v2037 v2141), ∀ a x, ((![v2037, v2141] : Fin 2 → IVec S16 32) a x).toNat < S8x8192.size a := fun v2037 v2141 k1_hw13 => k1_hw13

def k1_chk14 (v2143 : IVec S16 32) (v2150 : IVec S16 32) : Prop :=
  (∀ a x, ((![v2143, v2150] : Fin 2 → IVec S16 32) a x).toNat < S8x8192.size a)
theorem k1_idx14_inb : ∀ (v2143 : IVec S16 32) (v2150 : IVec S16 32) (k1_hw14 : k1_chk14 v2143 v2150), ∀ a x, ((![v2143, v2150] : Fin 2 → IVec S16 32) a x).toNat < S8x8192.size a := fun v2143 v2150 k1_hw14 => k1_hw14

def k1_chk15 (v2143 : IVec S16 32) (v2158 : IVec S16 32) : Prop :=
  (∀ a x, ((![v2143, v2158] : Fin 2 → IVec S16 32) a x).toNat < S8x8192.size a)
theorem k1_idx15_inb : ∀ (v2143 : IVec S16 32) (v2158 : IVec S16 32) (k1_hw15 : k1_chk15 v2143 v2158), ∀ a x, ((![v2143, v2158] : Fin 2 → IVec S16 32) a x).toNat < S8x8192.size a := fun v2143 v2158 k1_hw15 => k1_hw15

def k1_chk16 (v2143 : IVec S16 32) (v2166 : IVec S16 32) : Prop :=
  (∀ a x, ((![v2143, v2166] : Fin 2 → IVec S16 32) a x).toNat < S8x8192.size a)
theorem k1_idx16_inb : ∀ (v2143 : IVec S16 32) (v2166 : IVec S16 32) (k1_hw16 : k1_chk16 v2143 v2166), ∀ a x, ((![v2143, v2166] : Fin 2 → IVec S16 32) a x).toNat < S8x8192.size a := fun v2143 v2166 k1_hw16 => k1_hw16

def k1_chk17 (v2143 : IVec S16 32) (v2174 : IVec S16 32) : Prop :=
  (∀ a x, ((![v2143, v2174] : Fin 2 → IVec S16 32) a x).toNat < S8x8192.size a)
theorem k1_idx17_inb : ∀ (v2143 : IVec S16 32) (v2174 : IVec S16 32) (k1_hw17 : k1_chk17 v2143 v2174), ∀ a x, ((![v2143, v2174] : Fin 2 → IVec S16 32) a x).toNat < S8x8192.size a := fun v2143 v2174 k1_hw17 => k1_hw17

def k1_chk18 (v2143 : IVec S16 32) (v2182 : IVec S16 32) : Prop :=
  (∀ a x, ((![v2143, v2182] : Fin 2 → IVec S16 32) a x).toNat < S8x8192.size a)
theorem k1_idx18_inb : ∀ (v2143 : IVec S16 32) (v2182 : IVec S16 32) (k1_hw18 : k1_chk18 v2143 v2182), ∀ a x, ((![v2143, v2182] : Fin 2 → IVec S16 32) a x).toNat < S8x8192.size a := fun v2143 v2182 k1_hw18 => k1_hw18

def k1_chk19 (v2143 : IVec S16 32) (v2190 : IVec S16 32) : Prop :=
  (∀ a x, ((![v2143, v2190] : Fin 2 → IVec S16 32) a x).toNat < S8x8192.size a)
theorem k1_idx19_inb : ∀ (v2143 : IVec S16 32) (v2190 : IVec S16 32) (k1_hw19 : k1_chk19 v2143 v2190), ∀ a x, ((![v2143, v2190] : Fin 2 → IVec S16 32) a x).toNat < S8x8192.size a := fun v2143 v2190 k1_hw19 => k1_hw19

def k1_chk20 (v2143 : IVec S16 32) (v2198 : IVec S16 32) : Prop :=
  (∀ a x, ((![v2143, v2198] : Fin 2 → IVec S16 32) a x).toNat < S8x8192.size a)
theorem k1_idx20_inb : ∀ (v2143 : IVec S16 32) (v2198 : IVec S16 32) (k1_hw20 : k1_chk20 v2143 v2198), ∀ a x, ((![v2143, v2198] : Fin 2 → IVec S16 32) a x).toNat < S8x8192.size a := fun v2143 v2198 k1_hw20 => k1_hw20

def k1_chk21 (v2143 : IVec S16 32) (v2206 : IVec S16 32) : Prop :=
  (∀ a x, ((![v2143, v2206] : Fin 2 → IVec S16 32) a x).toNat < S8x8192.size a)
theorem k1_idx21_inb : ∀ (v2143 : IVec S16 32) (v2206 : IVec S16 32) (k1_hw21 : k1_chk21 v2143 v2206), ∀ a x, ((![v2143, v2206] : Fin 2 → IVec S16 32) a x).toNat < S8x8192.size a := fun v2143 v2206 k1_hw21 => k1_hw21

def k1_chk22 (v2143 : IVec S16 32) (v2214 : IVec S16 32) : Prop :=
  (∀ a x, ((![v2143, v2214] : Fin 2 → IVec S16 32) a x).toNat < S8x8192.size a)
theorem k1_idx22_inb : ∀ (v2143 : IVec S16 32) (v2214 : IVec S16 32) (k1_hw22 : k1_chk22 v2143 v2214), ∀ a x, ((![v2143, v2214] : Fin 2 → IVec S16 32) a x).toNat < S8x8192.size a := fun v2143 v2214 k1_hw22 => k1_hw22

def k1_chk23 (v2143 : IVec S16 32) (v2222 : IVec S16 32) : Prop :=
  (∀ a x, ((![v2143, v2222] : Fin 2 → IVec S16 32) a x).toNat < S8x8192.size a)
theorem k1_idx23_inb : ∀ (v2143 : IVec S16 32) (v2222 : IVec S16 32) (k1_hw23 : k1_chk23 v2143 v2222), ∀ a x, ((![v2143, v2222] : Fin 2 → IVec S16 32) a x).toNat < S8x8192.size a := fun v2143 v2222 k1_hw23 => k1_hw23

def k1_chk24 (v2143 : IVec S16 32) (v2230 : IVec S16 32) : Prop :=
  (∀ a x, ((![v2143, v2230] : Fin 2 → IVec S16 32) a x).toNat < S8x8192.size a)
theorem k1_idx24_inb : ∀ (v2143 : IVec S16 32) (v2230 : IVec S16 32) (k1_hw24 : k1_chk24 v2143 v2230), ∀ a x, ((![v2143, v2230] : Fin 2 → IVec S16 32) a x).toNat < S8x8192.size a := fun v2143 v2230 k1_hw24 => k1_hw24

def k1_chk25 (v2143 : IVec S16 32) (v2238 : IVec S16 32) : Prop :=
  (∀ a x, ((![v2143, v2238] : Fin 2 → IVec S16 32) a x).toNat < S8x8192.size a)
theorem k1_idx25_inb : ∀ (v2143 : IVec S16 32) (v2238 : IVec S16 32) (k1_hw25 : k1_chk25 v2143 v2238), ∀ a x, ((![v2143, v2238] : Fin 2 → IVec S16 32) a x).toNat < S8x8192.size a := fun v2143 v2238 k1_hw25 => k1_hw25

def k1_chk26 (v2143 : IVec S16 32) (v2247 : IVec S16 32) : Prop :=
  (∀ a x, ((![v2143, v2247] : Fin 2 → IVec S16 32) a x).toNat < S8x8192.size a)
theorem k1_idx26_inb : ∀ (v2143 : IVec S16 32) (v2247 : IVec S16 32) (k1_hw26 : k1_chk26 v2143 v2247), ∀ a x, ((![v2143, v2247] : Fin 2 → IVec S16 32) a x).toNat < S8x8192.size a := fun v2143 v2247 k1_hw26 => k1_hw26

def k1_chk27 (v2249 : IVec S16 32) (v2256 : IVec S16 32) : Prop :=
  (∀ a x, ((![v2249, v2256] : Fin 2 → IVec S16 32) a x).toNat < S8x8192.size a)
theorem k1_idx27_inb : ∀ (v2249 : IVec S16 32) (v2256 : IVec S16 32) (k1_hw27 : k1_chk27 v2249 v2256), ∀ a x, ((![v2249, v2256] : Fin 2 → IVec S16 32) a x).toNat < S8x8192.size a := fun v2249 v2256 k1_hw27 => k1_hw27

def k1_chk28 (v2249 : IVec S16 32) (v2264 : IVec S16 32) : Prop :=
  (∀ a x, ((![v2249, v2264] : Fin 2 → IVec S16 32) a x).toNat < S8x8192.size a)
theorem k1_idx28_inb : ∀ (v2249 : IVec S16 32) (v2264 : IVec S16 32) (k1_hw28 : k1_chk28 v2249 v2264), ∀ a x, ((![v2249, v2264] : Fin 2 → IVec S16 32) a x).toNat < S8x8192.size a := fun v2249 v2264 k1_hw28 => k1_hw28

def k1_chk29 (v2249 : IVec S16 32) (v2272 : IVec S16 32) : Prop :=
  (∀ a x, ((![v2249, v2272] : Fin 2 → IVec S16 32) a x).toNat < S8x8192.size a)
theorem k1_idx29_inb : ∀ (v2249 : IVec S16 32) (v2272 : IVec S16 32) (k1_hw29 : k1_chk29 v2249 v2272), ∀ a x, ((![v2249, v2272] : Fin 2 → IVec S16 32) a x).toNat < S8x8192.size a := fun v2249 v2272 k1_hw29 => k1_hw29

def k1_chk30 (v2249 : IVec S16 32) (v2280 : IVec S16 32) : Prop :=
  (∀ a x, ((![v2249, v2280] : Fin 2 → IVec S16 32) a x).toNat < S8x8192.size a)
theorem k1_idx30_inb : ∀ (v2249 : IVec S16 32) (v2280 : IVec S16 32) (k1_hw30 : k1_chk30 v2249 v2280), ∀ a x, ((![v2249, v2280] : Fin 2 → IVec S16 32) a x).toNat < S8x8192.size a := fun v2249 v2280 k1_hw30 => k1_hw30

def k1_chk31 (v2249 : IVec S16 32) (v2288 : IVec S16 32) : Prop :=
  (∀ a x, ((![v2249, v2288] : Fin 2 → IVec S16 32) a x).toNat < S8x8192.size a)
theorem k1_idx31_inb : ∀ (v2249 : IVec S16 32) (v2288 : IVec S16 32) (k1_hw31 : k1_chk31 v2249 v2288), ∀ a x, ((![v2249, v2288] : Fin 2 → IVec S16 32) a x).toNat < S8x8192.size a := fun v2249 v2288 k1_hw31 => k1_hw31

def k1_chk32 (v2249 : IVec S16 32) (v2296 : IVec S16 32) : Prop :=
  (∀ a x, ((![v2249, v2296] : Fin 2 → IVec S16 32) a x).toNat < S8x8192.size a)
theorem k1_idx32_inb : ∀ (v2249 : IVec S16 32) (v2296 : IVec S16 32) (k1_hw32 : k1_chk32 v2249 v2296), ∀ a x, ((![v2249, v2296] : Fin 2 → IVec S16 32) a x).toNat < S8x8192.size a := fun v2249 v2296 k1_hw32 => k1_hw32

def k1_chk33 (v2249 : IVec S16 32) (v2304 : IVec S16 32) : Prop :=
  (∀ a x, ((![v2249, v2304] : Fin 2 → IVec S16 32) a x).toNat < S8x8192.size a)
theorem k1_idx33_inb : ∀ (v2249 : IVec S16 32) (v2304 : IVec S16 32) (k1_hw33 : k1_chk33 v2249 v2304), ∀ a x, ((![v2249, v2304] : Fin 2 → IVec S16 32) a x).toNat < S8x8192.size a := fun v2249 v2304 k1_hw33 => k1_hw33

def k1_chk34 (v2249 : IVec S16 32) (v2312 : IVec S16 32) : Prop :=
  (∀ a x, ((![v2249, v2312] : Fin 2 → IVec S16 32) a x).toNat < S8x8192.size a)
theorem k1_idx34_inb : ∀ (v2249 : IVec S16 32) (v2312 : IVec S16 32) (k1_hw34 : k1_chk34 v2249 v2312), ∀ a x, ((![v2249, v2312] : Fin 2 → IVec S16 32) a x).toNat < S8x8192.size a := fun v2249 v2312 k1_hw34 => k1_hw34

def k1_chk35 (v2249 : IVec S16 32) (v2320 : IVec S16 32) : Prop :=
  (∀ a x, ((![v2249, v2320] : Fin 2 → IVec S16 32) a x).toNat < S8x8192.size a)
theorem k1_idx35_inb : ∀ (v2249 : IVec S16 32) (v2320 : IVec S16 32) (k1_hw35 : k1_chk35 v2249 v2320), ∀ a x, ((![v2249, v2320] : Fin 2 → IVec S16 32) a x).toNat < S8x8192.size a := fun v2249 v2320 k1_hw35 => k1_hw35

def k1_chk36 (v2249 : IVec S16 32) (v2328 : IVec S16 32) : Prop :=
  (∀ a x, ((![v2249, v2328] : Fin 2 → IVec S16 32) a x).toNat < S8x8192.size a)
theorem k1_idx36_inb : ∀ (v2249 : IVec S16 32) (v2328 : IVec S16 32) (k1_hw36 : k1_chk36 v2249 v2328), ∀ a x, ((![v2249, v2328] : Fin 2 → IVec S16 32) a x).toNat < S8x8192.size a := fun v2249 v2328 k1_hw36 => k1_hw36

def k1_chk37 (v2249 : IVec S16 32) (v2336 : IVec S16 32) : Prop :=
  (∀ a x, ((![v2249, v2336] : Fin 2 → IVec S16 32) a x).toNat < S8x8192.size a)
theorem k1_idx37_inb : ∀ (v2249 : IVec S16 32) (v2336 : IVec S16 32) (k1_hw37 : k1_chk37 v2249 v2336), ∀ a x, ((![v2249, v2336] : Fin 2 → IVec S16 32) a x).toNat < S8x8192.size a := fun v2249 v2336 k1_hw37 => k1_hw37

def k1_chk38 (v2249 : IVec S16 32) (v2344 : IVec S16 32) : Prop :=
  (∀ a x, ((![v2249, v2344] : Fin 2 → IVec S16 32) a x).toNat < S8x8192.size a)
theorem k1_idx38_inb : ∀ (v2249 : IVec S16 32) (v2344 : IVec S16 32) (k1_hw38 : k1_chk38 v2249 v2344), ∀ a x, ((![v2249, v2344] : Fin 2 → IVec S16 32) a x).toNat < S8x8192.size a := fun v2249 v2344 k1_hw38 => k1_hw38

def k1_chk39 (v2249 : IVec S16 32) (v2353 : IVec S16 32) : Prop :=
  (∀ a x, ((![v2249, v2353] : Fin 2 → IVec S16 32) a x).toNat < S8x8192.size a)
theorem k1_idx39_inb : ∀ (v2249 : IVec S16 32) (v2353 : IVec S16 32) (k1_hw39 : k1_chk39 v2249 v2353), ∀ a x, ((![v2249, v2353] : Fin 2 → IVec S16 32) a x).toNat < S8x8192.size a := fun v2249 v2353 k1_hw39 => k1_hw39

def k1_chk40 (v2355 : IVec S16 32) (v2362 : IVec S16 32) : Prop :=
  (∀ a x, ((![v2355, v2362] : Fin 2 → IVec S16 32) a x).toNat < S8x8192.size a)
theorem k1_idx40_inb : ∀ (v2355 : IVec S16 32) (v2362 : IVec S16 32) (k1_hw40 : k1_chk40 v2355 v2362), ∀ a x, ((![v2355, v2362] : Fin 2 → IVec S16 32) a x).toNat < S8x8192.size a := fun v2355 v2362 k1_hw40 => k1_hw40

def k1_chk41 (v2355 : IVec S16 32) (v2370 : IVec S16 32) : Prop :=
  (∀ a x, ((![v2355, v2370] : Fin 2 → IVec S16 32) a x).toNat < S8x8192.size a)
theorem k1_idx41_inb : ∀ (v2355 : IVec S16 32) (v2370 : IVec S16 32) (k1_hw41 : k1_chk41 v2355 v2370), ∀ a x, ((![v2355, v2370] : Fin 2 → IVec S16 32) a x).toNat < S8x8192.size a := fun v2355 v2370 k1_hw41 => k1_hw41

def k1_chk42 (v2355 : IVec S16 32) (v2378 : IVec S16 32) : Prop :=
  (∀ a x, ((![v2355, v2378] : Fin 2 → IVec S16 32) a x).toNat < S8x8192.size a)
theorem k1_idx42_inb : ∀ (v2355 : IVec S16 32) (v2378 : IVec S16 32) (k1_hw42 : k1_chk42 v2355 v2378), ∀ a x, ((![v2355, v2378] : Fin 2 → IVec S16 32) a x).toNat < S8x8192.size a := fun v2355 v2378 k1_hw42 => k1_hw42

def k1_chk43 (v2355 : IVec S16 32) (v2386 : IVec S16 32) : Prop :=
  (∀ a x, ((![v2355, v2386] : Fin 2 → IVec S16 32) a x).toNat < S8x8192.size a)
theorem k1_idx43_inb : ∀ (v2355 : IVec S16 32) (v2386 : IVec S16 32) (k1_hw43 : k1_chk43 v2355 v2386), ∀ a x, ((![v2355, v2386] : Fin 2 → IVec S16 32) a x).toNat < S8x8192.size a := fun v2355 v2386 k1_hw43 => k1_hw43

def k1_chk44 (v2355 : IVec S16 32) (v2394 : IVec S16 32) : Prop :=
  (∀ a x, ((![v2355, v2394] : Fin 2 → IVec S16 32) a x).toNat < S8x8192.size a)
theorem k1_idx44_inb : ∀ (v2355 : IVec S16 32) (v2394 : IVec S16 32) (k1_hw44 : k1_chk44 v2355 v2394), ∀ a x, ((![v2355, v2394] : Fin 2 → IVec S16 32) a x).toNat < S8x8192.size a := fun v2355 v2394 k1_hw44 => k1_hw44

def k1_chk45 (v2355 : IVec S16 32) (v2402 : IVec S16 32) : Prop :=
  (∀ a x, ((![v2355, v2402] : Fin 2 → IVec S16 32) a x).toNat < S8x8192.size a)
theorem k1_idx45_inb : ∀ (v2355 : IVec S16 32) (v2402 : IVec S16 32) (k1_hw45 : k1_chk45 v2355 v2402), ∀ a x, ((![v2355, v2402] : Fin 2 → IVec S16 32) a x).toNat < S8x8192.size a := fun v2355 v2402 k1_hw45 => k1_hw45

def k1_chk46 (v2355 : IVec S16 32) (v2410 : IVec S16 32) : Prop :=
  (∀ a x, ((![v2355, v2410] : Fin 2 → IVec S16 32) a x).toNat < S8x8192.size a)
theorem k1_idx46_inb : ∀ (v2355 : IVec S16 32) (v2410 : IVec S16 32) (k1_hw46 : k1_chk46 v2355 v2410), ∀ a x, ((![v2355, v2410] : Fin 2 → IVec S16 32) a x).toNat < S8x8192.size a := fun v2355 v2410 k1_hw46 => k1_hw46

def k1_chk47 (v2355 : IVec S16 32) (v2418 : IVec S16 32) : Prop :=
  (∀ a x, ((![v2355, v2418] : Fin 2 → IVec S16 32) a x).toNat < S8x8192.size a)
theorem k1_idx47_inb : ∀ (v2355 : IVec S16 32) (v2418 : IVec S16 32) (k1_hw47 : k1_chk47 v2355 v2418), ∀ a x, ((![v2355, v2418] : Fin 2 → IVec S16 32) a x).toNat < S8x8192.size a := fun v2355 v2418 k1_hw47 => k1_hw47

def k1_chk48 (v2355 : IVec S16 32) (v2426 : IVec S16 32) : Prop :=
  (∀ a x, ((![v2355, v2426] : Fin 2 → IVec S16 32) a x).toNat < S8x8192.size a)
theorem k1_idx48_inb : ∀ (v2355 : IVec S16 32) (v2426 : IVec S16 32) (k1_hw48 : k1_chk48 v2355 v2426), ∀ a x, ((![v2355, v2426] : Fin 2 → IVec S16 32) a x).toNat < S8x8192.size a := fun v2355 v2426 k1_hw48 => k1_hw48

def k1_chk49 (v2355 : IVec S16 32) (v2434 : IVec S16 32) : Prop :=
  (∀ a x, ((![v2355, v2434] : Fin 2 → IVec S16 32) a x).toNat < S8x8192.size a)
theorem k1_idx49_inb : ∀ (v2355 : IVec S16 32) (v2434 : IVec S16 32) (k1_hw49 : k1_chk49 v2355 v2434), ∀ a x, ((![v2355, v2434] : Fin 2 → IVec S16 32) a x).toNat < S8x8192.size a := fun v2355 v2434 k1_hw49 => k1_hw49

def k1_chk50 (v2355 : IVec S16 32) (v2442 : IVec S16 32) : Prop :=
  (∀ a x, ((![v2355, v2442] : Fin 2 → IVec S16 32) a x).toNat < S8x8192.size a)
theorem k1_idx50_inb : ∀ (v2355 : IVec S16 32) (v2442 : IVec S16 32) (k1_hw50 : k1_chk50 v2355 v2442), ∀ a x, ((![v2355, v2442] : Fin 2 → IVec S16 32) a x).toNat < S8x8192.size a := fun v2355 v2442 k1_hw50 => k1_hw50

def k1_chk51 (v2355 : IVec S16 32) (v2450 : IVec S16 32) : Prop :=
  (∀ a x, ((![v2355, v2450] : Fin 2 → IVec S16 32) a x).toNat < S8x8192.size a)
theorem k1_idx51_inb : ∀ (v2355 : IVec S16 32) (v2450 : IVec S16 32) (k1_hw51 : k1_chk51 v2355 v2450), ∀ a x, ((![v2355, v2450] : Fin 2 → IVec S16 32) a x).toNat < S8x8192.size a := fun v2355 v2450 k1_hw51 => k1_hw51

def k1_chk52 (v2355 : IVec S16 32) (v2459 : IVec S16 32) : Prop :=
  (∀ a x, ((![v2355, v2459] : Fin 2 → IVec S16 32) a x).toNat < S8x8192.size a)
theorem k1_idx52_inb : ∀ (v2355 : IVec S16 32) (v2459 : IVec S16 32) (k1_hw52 : k1_chk52 v2355 v2459), ∀ a x, ((![v2355, v2459] : Fin 2 → IVec S16 32) a x).toNat < S8x8192.size a := fun v2355 v2459 k1_hw52 => k1_hw52

def k1_chk53 (v2461 : IVec S16 32) (v2468 : IVec S16 32) : Prop :=
  (∀ a x, ((![v2461, v2468] : Fin 2 → IVec S16 32) a x).toNat < S8x8192.size a)
theorem k1_idx53_inb : ∀ (v2461 : IVec S16 32) (v2468 : IVec S16 32) (k1_hw53 : k1_chk53 v2461 v2468), ∀ a x, ((![v2461, v2468] : Fin 2 → IVec S16 32) a x).toNat < S8x8192.size a := fun v2461 v2468 k1_hw53 => k1_hw53

def k1_chk54 (v2461 : IVec S16 32) (v2476 : IVec S16 32) : Prop :=
  (∀ a x, ((![v2461, v2476] : Fin 2 → IVec S16 32) a x).toNat < S8x8192.size a)
theorem k1_idx54_inb : ∀ (v2461 : IVec S16 32) (v2476 : IVec S16 32) (k1_hw54 : k1_chk54 v2461 v2476), ∀ a x, ((![v2461, v2476] : Fin 2 → IVec S16 32) a x).toNat < S8x8192.size a := fun v2461 v2476 k1_hw54 => k1_hw54

def k1_chk55 (v2461 : IVec S16 32) (v2484 : IVec S16 32) : Prop :=
  (∀ a x, ((![v2461, v2484] : Fin 2 → IVec S16 32) a x).toNat < S8x8192.size a)
theorem k1_idx55_inb : ∀ (v2461 : IVec S16 32) (v2484 : IVec S16 32) (k1_hw55 : k1_chk55 v2461 v2484), ∀ a x, ((![v2461, v2484] : Fin 2 → IVec S16 32) a x).toNat < S8x8192.size a := fun v2461 v2484 k1_hw55 => k1_hw55

def k1_chk56 (v2461 : IVec S16 32) (v2492 : IVec S16 32) : Prop :=
  (∀ a x, ((![v2461, v2492] : Fin 2 → IVec S16 32) a x).toNat < S8x8192.size a)
theorem k1_idx56_inb : ∀ (v2461 : IVec S16 32) (v2492 : IVec S16 32) (k1_hw56 : k1_chk56 v2461 v2492), ∀ a x, ((![v2461, v2492] : Fin 2 → IVec S16 32) a x).toNat < S8x8192.size a := fun v2461 v2492 k1_hw56 => k1_hw56

def k1_chk57 (v2461 : IVec S16 32) (v2500 : IVec S16 32) : Prop :=
  (∀ a x, ((![v2461, v2500] : Fin 2 → IVec S16 32) a x).toNat < S8x8192.size a)
theorem k1_idx57_inb : ∀ (v2461 : IVec S16 32) (v2500 : IVec S16 32) (k1_hw57 : k1_chk57 v2461 v2500), ∀ a x, ((![v2461, v2500] : Fin 2 → IVec S16 32) a x).toNat < S8x8192.size a := fun v2461 v2500 k1_hw57 => k1_hw57

def k1_chk58 (v2461 : IVec S16 32) (v2508 : IVec S16 32) : Prop :=
  (∀ a x, ((![v2461, v2508] : Fin 2 → IVec S16 32) a x).toNat < S8x8192.size a)
theorem k1_idx58_inb : ∀ (v2461 : IVec S16 32) (v2508 : IVec S16 32) (k1_hw58 : k1_chk58 v2461 v2508), ∀ a x, ((![v2461, v2508] : Fin 2 → IVec S16 32) a x).toNat < S8x8192.size a := fun v2461 v2508 k1_hw58 => k1_hw58

def k1_chk59 (v2461 : IVec S16 32) (v2516 : IVec S16 32) : Prop :=
  (∀ a x, ((![v2461, v2516] : Fin 2 → IVec S16 32) a x).toNat < S8x8192.size a)
theorem k1_idx59_inb : ∀ (v2461 : IVec S16 32) (v2516 : IVec S16 32) (k1_hw59 : k1_chk59 v2461 v2516), ∀ a x, ((![v2461, v2516] : Fin 2 → IVec S16 32) a x).toNat < S8x8192.size a := fun v2461 v2516 k1_hw59 => k1_hw59

def k1_chk60 (v2461 : IVec S16 32) (v2524 : IVec S16 32) : Prop :=
  (∀ a x, ((![v2461, v2524] : Fin 2 → IVec S16 32) a x).toNat < S8x8192.size a)
theorem k1_idx60_inb : ∀ (v2461 : IVec S16 32) (v2524 : IVec S16 32) (k1_hw60 : k1_chk60 v2461 v2524), ∀ a x, ((![v2461, v2524] : Fin 2 → IVec S16 32) a x).toNat < S8x8192.size a := fun v2461 v2524 k1_hw60 => k1_hw60

def k1_chk61 (v2461 : IVec S16 32) (v2532 : IVec S16 32) : Prop :=
  (∀ a x, ((![v2461, v2532] : Fin 2 → IVec S16 32) a x).toNat < S8x8192.size a)
theorem k1_idx61_inb : ∀ (v2461 : IVec S16 32) (v2532 : IVec S16 32) (k1_hw61 : k1_chk61 v2461 v2532), ∀ a x, ((![v2461, v2532] : Fin 2 → IVec S16 32) a x).toNat < S8x8192.size a := fun v2461 v2532 k1_hw61 => k1_hw61

def k1_chk62 (v2461 : IVec S16 32) (v2540 : IVec S16 32) : Prop :=
  (∀ a x, ((![v2461, v2540] : Fin 2 → IVec S16 32) a x).toNat < S8x8192.size a)
theorem k1_idx62_inb : ∀ (v2461 : IVec S16 32) (v2540 : IVec S16 32) (k1_hw62 : k1_chk62 v2461 v2540), ∀ a x, ((![v2461, v2540] : Fin 2 → IVec S16 32) a x).toNat < S8x8192.size a := fun v2461 v2540 k1_hw62 => k1_hw62

def k1_chk63 (v2461 : IVec S16 32) (v2548 : IVec S16 32) : Prop :=
  (∀ a x, ((![v2461, v2548] : Fin 2 → IVec S16 32) a x).toNat < S8x8192.size a)
theorem k1_idx63_inb : ∀ (v2461 : IVec S16 32) (v2548 : IVec S16 32) (k1_hw63 : k1_chk63 v2461 v2548), ∀ a x, ((![v2461, v2548] : Fin 2 → IVec S16 32) a x).toNat < S8x8192.size a := fun v2461 v2548 k1_hw63 => k1_hw63

def k1_chk64 (v2461 : IVec S16 32) (v2556 : IVec S16 32) : Prop :=
  (∀ a x, ((![v2461, v2556] : Fin 2 → IVec S16 32) a x).toNat < S8x8192.size a)
theorem k1_idx64_inb : ∀ (v2461 : IVec S16 32) (v2556 : IVec S16 32) (k1_hw64 : k1_chk64 v2461 v2556), ∀ a x, ((![v2461, v2556] : Fin 2 → IVec S16 32) a x).toNat < S8x8192.size a := fun v2461 v2556 k1_hw64 => k1_hw64

def k1_chk65 (v2461 : IVec S16 32) (v2565 : IVec S16 32) : Prop :=
  (∀ a x, ((![v2461, v2565] : Fin 2 → IVec S16 32) a x).toNat < S8x8192.size a)
theorem k1_idx65_inb : ∀ (v2461 : IVec S16 32) (v2565 : IVec S16 32) (k1_hw65 : k1_chk65 v2461 v2565), ∀ a x, ((![v2461, v2565] : Fin 2 → IVec S16 32) a x).toNat < S8x8192.size a := fun v2461 v2565 k1_hw65 => k1_hw65

def k1_chk66 (v2567 : IVec S16 32) (v2574 : IVec S16 32) : Prop :=
  (∀ a x, ((![v2567, v2574] : Fin 2 → IVec S16 32) a x).toNat < S8x8192.size a)
theorem k1_idx66_inb : ∀ (v2567 : IVec S16 32) (v2574 : IVec S16 32) (k1_hw66 : k1_chk66 v2567 v2574), ∀ a x, ((![v2567, v2574] : Fin 2 → IVec S16 32) a x).toNat < S8x8192.size a := fun v2567 v2574 k1_hw66 => k1_hw66

def k1_chk67 (v2567 : IVec S16 32) (v2582 : IVec S16 32) : Prop :=
  (∀ a x, ((![v2567, v2582] : Fin 2 → IVec S16 32) a x).toNat < S8x8192.size a)
theorem k1_idx67_inb : ∀ (v2567 : IVec S16 32) (v2582 : IVec S16 32) (k1_hw67 : k1_chk67 v2567 v2582), ∀ a x, ((![v2567, v2582] : Fin 2 → IVec S16 32) a x).toNat < S8x8192.size a := fun v2567 v2582 k1_hw67 => k1_hw67

def k1_chk68 (v2567 : IVec S16 32) (v2590 : IVec S16 32) : Prop :=
  (∀ a x, ((![v2567, v2590] : Fin 2 → IVec S16 32) a x).toNat < S8x8192.size a)
theorem k1_idx68_inb : ∀ (v2567 : IVec S16 32) (v2590 : IVec S16 32) (k1_hw68 : k1_chk68 v2567 v2590), ∀ a x, ((![v2567, v2590] : Fin 2 → IVec S16 32) a x).toNat < S8x8192.size a := fun v2567 v2590 k1_hw68 => k1_hw68

def k1_chk69 (v2567 : IVec S16 32) (v2598 : IVec S16 32) : Prop :=
  (∀ a x, ((![v2567, v2598] : Fin 2 → IVec S16 32) a x).toNat < S8x8192.size a)
theorem k1_idx69_inb : ∀ (v2567 : IVec S16 32) (v2598 : IVec S16 32) (k1_hw69 : k1_chk69 v2567 v2598), ∀ a x, ((![v2567, v2598] : Fin 2 → IVec S16 32) a x).toNat < S8x8192.size a := fun v2567 v2598 k1_hw69 => k1_hw69

def k1_chk70 (v2567 : IVec S16 32) (v2606 : IVec S16 32) : Prop :=
  (∀ a x, ((![v2567, v2606] : Fin 2 → IVec S16 32) a x).toNat < S8x8192.size a)
theorem k1_idx70_inb : ∀ (v2567 : IVec S16 32) (v2606 : IVec S16 32) (k1_hw70 : k1_chk70 v2567 v2606), ∀ a x, ((![v2567, v2606] : Fin 2 → IVec S16 32) a x).toNat < S8x8192.size a := fun v2567 v2606 k1_hw70 => k1_hw70

def k1_chk71 (v2567 : IVec S16 32) (v2614 : IVec S16 32) : Prop :=
  (∀ a x, ((![v2567, v2614] : Fin 2 → IVec S16 32) a x).toNat < S8x8192.size a)
theorem k1_idx71_inb : ∀ (v2567 : IVec S16 32) (v2614 : IVec S16 32) (k1_hw71 : k1_chk71 v2567 v2614), ∀ a x, ((![v2567, v2614] : Fin 2 → IVec S16 32) a x).toNat < S8x8192.size a := fun v2567 v2614 k1_hw71 => k1_hw71

def k1_chk72 (v2567 : IVec S16 32) (v2622 : IVec S16 32) : Prop :=
  (∀ a x, ((![v2567, v2622] : Fin 2 → IVec S16 32) a x).toNat < S8x8192.size a)
theorem k1_idx72_inb : ∀ (v2567 : IVec S16 32) (v2622 : IVec S16 32) (k1_hw72 : k1_chk72 v2567 v2622), ∀ a x, ((![v2567, v2622] : Fin 2 → IVec S16 32) a x).toNat < S8x8192.size a := fun v2567 v2622 k1_hw72 => k1_hw72

def k1_chk73 (v2567 : IVec S16 32) (v2630 : IVec S16 32) : Prop :=
  (∀ a x, ((![v2567, v2630] : Fin 2 → IVec S16 32) a x).toNat < S8x8192.size a)
theorem k1_idx73_inb : ∀ (v2567 : IVec S16 32) (v2630 : IVec S16 32) (k1_hw73 : k1_chk73 v2567 v2630), ∀ a x, ((![v2567, v2630] : Fin 2 → IVec S16 32) a x).toNat < S8x8192.size a := fun v2567 v2630 k1_hw73 => k1_hw73

def k1_chk74 (v2567 : IVec S16 32) (v2638 : IVec S16 32) : Prop :=
  (∀ a x, ((![v2567, v2638] : Fin 2 → IVec S16 32) a x).toNat < S8x8192.size a)
theorem k1_idx74_inb : ∀ (v2567 : IVec S16 32) (v2638 : IVec S16 32) (k1_hw74 : k1_chk74 v2567 v2638), ∀ a x, ((![v2567, v2638] : Fin 2 → IVec S16 32) a x).toNat < S8x8192.size a := fun v2567 v2638 k1_hw74 => k1_hw74

def k1_chk75 (v2567 : IVec S16 32) (v2646 : IVec S16 32) : Prop :=
  (∀ a x, ((![v2567, v2646] : Fin 2 → IVec S16 32) a x).toNat < S8x8192.size a)
theorem k1_idx75_inb : ∀ (v2567 : IVec S16 32) (v2646 : IVec S16 32) (k1_hw75 : k1_chk75 v2567 v2646), ∀ a x, ((![v2567, v2646] : Fin 2 → IVec S16 32) a x).toNat < S8x8192.size a := fun v2567 v2646 k1_hw75 => k1_hw75

def k1_chk76 (v2567 : IVec S16 32) (v2654 : IVec S16 32) : Prop :=
  (∀ a x, ((![v2567, v2654] : Fin 2 → IVec S16 32) a x).toNat < S8x8192.size a)
theorem k1_idx76_inb : ∀ (v2567 : IVec S16 32) (v2654 : IVec S16 32) (k1_hw76 : k1_chk76 v2567 v2654), ∀ a x, ((![v2567, v2654] : Fin 2 → IVec S16 32) a x).toNat < S8x8192.size a := fun v2567 v2654 k1_hw76 => k1_hw76

def k1_chk77 (v2567 : IVec S16 32) (v2662 : IVec S16 32) : Prop :=
  (∀ a x, ((![v2567, v2662] : Fin 2 → IVec S16 32) a x).toNat < S8x8192.size a)
theorem k1_idx77_inb : ∀ (v2567 : IVec S16 32) (v2662 : IVec S16 32) (k1_hw77 : k1_chk77 v2567 v2662), ∀ a x, ((![v2567, v2662] : Fin 2 → IVec S16 32) a x).toNat < S8x8192.size a := fun v2567 v2662 k1_hw77 => k1_hw77

def k1_chk78 (v2567 : IVec S16 32) (v2671 : IVec S16 32) : Prop :=
  (∀ a x, ((![v2567, v2671] : Fin 2 → IVec S16 32) a x).toNat < S8x8192.size a)
theorem k1_idx78_inb : ∀ (v2567 : IVec S16 32) (v2671 : IVec S16 32) (k1_hw78 : k1_chk78 v2567 v2671), ∀ a x, ((![v2567, v2671] : Fin 2 → IVec S16 32) a x).toNat < S8x8192.size a := fun v2567 v2671 k1_hw78 => k1_hw78

def k1_chk79 (v2673 : IVec S16 32) (v2680 : IVec S16 32) : Prop :=
  (∀ a x, ((![v2673, v2680] : Fin 2 → IVec S16 32) a x).toNat < S8x8192.size a)
theorem k1_idx79_inb : ∀ (v2673 : IVec S16 32) (v2680 : IVec S16 32) (k1_hw79 : k1_chk79 v2673 v2680), ∀ a x, ((![v2673, v2680] : Fin 2 → IVec S16 32) a x).toNat < S8x8192.size a := fun v2673 v2680 k1_hw79 => k1_hw79

def k1_chk80 (v2673 : IVec S16 32) (v2688 : IVec S16 32) : Prop :=
  (∀ a x, ((![v2673, v2688] : Fin 2 → IVec S16 32) a x).toNat < S8x8192.size a)
theorem k1_idx80_inb : ∀ (v2673 : IVec S16 32) (v2688 : IVec S16 32) (k1_hw80 : k1_chk80 v2673 v2688), ∀ a x, ((![v2673, v2688] : Fin 2 → IVec S16 32) a x).toNat < S8x8192.size a := fun v2673 v2688 k1_hw80 => k1_hw80

def k1_chk81 (v2673 : IVec S16 32) (v2696 : IVec S16 32) : Prop :=
  (∀ a x, ((![v2673, v2696] : Fin 2 → IVec S16 32) a x).toNat < S8x8192.size a)
theorem k1_idx81_inb : ∀ (v2673 : IVec S16 32) (v2696 : IVec S16 32) (k1_hw81 : k1_chk81 v2673 v2696), ∀ a x, ((![v2673, v2696] : Fin 2 → IVec S16 32) a x).toNat < S8x8192.size a := fun v2673 v2696 k1_hw81 => k1_hw81

def k1_chk82 (v2673 : IVec S16 32) (v2704 : IVec S16 32) : Prop :=
  (∀ a x, ((![v2673, v2704] : Fin 2 → IVec S16 32) a x).toNat < S8x8192.size a)
theorem k1_idx82_inb : ∀ (v2673 : IVec S16 32) (v2704 : IVec S16 32) (k1_hw82 : k1_chk82 v2673 v2704), ∀ a x, ((![v2673, v2704] : Fin 2 → IVec S16 32) a x).toNat < S8x8192.size a := fun v2673 v2704 k1_hw82 => k1_hw82

def k1_chk83 (v2673 : IVec S16 32) (v2712 : IVec S16 32) : Prop :=
  (∀ a x, ((![v2673, v2712] : Fin 2 → IVec S16 32) a x).toNat < S8x8192.size a)
theorem k1_idx83_inb : ∀ (v2673 : IVec S16 32) (v2712 : IVec S16 32) (k1_hw83 : k1_chk83 v2673 v2712), ∀ a x, ((![v2673, v2712] : Fin 2 → IVec S16 32) a x).toNat < S8x8192.size a := fun v2673 v2712 k1_hw83 => k1_hw83

def k1_chk84 (v2673 : IVec S16 32) (v2720 : IVec S16 32) : Prop :=
  (∀ a x, ((![v2673, v2720] : Fin 2 → IVec S16 32) a x).toNat < S8x8192.size a)
theorem k1_idx84_inb : ∀ (v2673 : IVec S16 32) (v2720 : IVec S16 32) (k1_hw84 : k1_chk84 v2673 v2720), ∀ a x, ((![v2673, v2720] : Fin 2 → IVec S16 32) a x).toNat < S8x8192.size a := fun v2673 v2720 k1_hw84 => k1_hw84

def k1_chk85 (v2673 : IVec S16 32) (v2728 : IVec S16 32) : Prop :=
  (∀ a x, ((![v2673, v2728] : Fin 2 → IVec S16 32) a x).toNat < S8x8192.size a)
theorem k1_idx85_inb : ∀ (v2673 : IVec S16 32) (v2728 : IVec S16 32) (k1_hw85 : k1_chk85 v2673 v2728), ∀ a x, ((![v2673, v2728] : Fin 2 → IVec S16 32) a x).toNat < S8x8192.size a := fun v2673 v2728 k1_hw85 => k1_hw85

def k1_chk86 (v2673 : IVec S16 32) (v2736 : IVec S16 32) : Prop :=
  (∀ a x, ((![v2673, v2736] : Fin 2 → IVec S16 32) a x).toNat < S8x8192.size a)
theorem k1_idx86_inb : ∀ (v2673 : IVec S16 32) (v2736 : IVec S16 32) (k1_hw86 : k1_chk86 v2673 v2736), ∀ a x, ((![v2673, v2736] : Fin 2 → IVec S16 32) a x).toNat < S8x8192.size a := fun v2673 v2736 k1_hw86 => k1_hw86

def k1_chk87 (v2673 : IVec S16 32) (v2744 : IVec S16 32) : Prop :=
  (∀ a x, ((![v2673, v2744] : Fin 2 → IVec S16 32) a x).toNat < S8x8192.size a)
theorem k1_idx87_inb : ∀ (v2673 : IVec S16 32) (v2744 : IVec S16 32) (k1_hw87 : k1_chk87 v2673 v2744), ∀ a x, ((![v2673, v2744] : Fin 2 → IVec S16 32) a x).toNat < S8x8192.size a := fun v2673 v2744 k1_hw87 => k1_hw87

def k1_chk88 (v2673 : IVec S16 32) (v2752 : IVec S16 32) : Prop :=
  (∀ a x, ((![v2673, v2752] : Fin 2 → IVec S16 32) a x).toNat < S8x8192.size a)
theorem k1_idx88_inb : ∀ (v2673 : IVec S16 32) (v2752 : IVec S16 32) (k1_hw88 : k1_chk88 v2673 v2752), ∀ a x, ((![v2673, v2752] : Fin 2 → IVec S16 32) a x).toNat < S8x8192.size a := fun v2673 v2752 k1_hw88 => k1_hw88

def k1_chk89 (v2673 : IVec S16 32) (v2760 : IVec S16 32) : Prop :=
  (∀ a x, ((![v2673, v2760] : Fin 2 → IVec S16 32) a x).toNat < S8x8192.size a)
theorem k1_idx89_inb : ∀ (v2673 : IVec S16 32) (v2760 : IVec S16 32) (k1_hw89 : k1_chk89 v2673 v2760), ∀ a x, ((![v2673, v2760] : Fin 2 → IVec S16 32) a x).toNat < S8x8192.size a := fun v2673 v2760 k1_hw89 => k1_hw89

def k1_chk90 (v2673 : IVec S16 32) (v2768 : IVec S16 32) : Prop :=
  (∀ a x, ((![v2673, v2768] : Fin 2 → IVec S16 32) a x).toNat < S8x8192.size a)
theorem k1_idx90_inb : ∀ (v2673 : IVec S16 32) (v2768 : IVec S16 32) (k1_hw90 : k1_chk90 v2673 v2768), ∀ a x, ((![v2673, v2768] : Fin 2 → IVec S16 32) a x).toNat < S8x8192.size a := fun v2673 v2768 k1_hw90 => k1_hw90

def k1_chk91 (v2673 : IVec S16 32) (v2777 : IVec S16 32) : Prop :=
  (∀ a x, ((![v2673, v2777] : Fin 2 → IVec S16 32) a x).toNat < S8x8192.size a)
theorem k1_idx91_inb : ∀ (v2673 : IVec S16 32) (v2777 : IVec S16 32) (k1_hw91 : k1_chk91 v2673 v2777), ∀ a x, ((![v2673, v2777] : Fin 2 → IVec S16 32) a x).toNat < S8x8192.size a := fun v2673 v2777 k1_hw91 => k1_hw91

def k1_chk92 (v2779 : IVec S16 32) (v2786 : IVec S16 32) : Prop :=
  (∀ a x, ((![v2779, v2786] : Fin 2 → IVec S16 32) a x).toNat < S8x8192.size a)
theorem k1_idx92_inb : ∀ (v2779 : IVec S16 32) (v2786 : IVec S16 32) (k1_hw92 : k1_chk92 v2779 v2786), ∀ a x, ((![v2779, v2786] : Fin 2 → IVec S16 32) a x).toNat < S8x8192.size a := fun v2779 v2786 k1_hw92 => k1_hw92

def k1_chk93 (v2779 : IVec S16 32) (v2794 : IVec S16 32) : Prop :=
  (∀ a x, ((![v2779, v2794] : Fin 2 → IVec S16 32) a x).toNat < S8x8192.size a)
theorem k1_idx93_inb : ∀ (v2779 : IVec S16 32) (v2794 : IVec S16 32) (k1_hw93 : k1_chk93 v2779 v2794), ∀ a x, ((![v2779, v2794] : Fin 2 → IVec S16 32) a x).toNat < S8x8192.size a := fun v2779 v2794 k1_hw93 => k1_hw93

def k1_chk94 (v2779 : IVec S16 32) (v2802 : IVec S16 32) : Prop :=
  (∀ a x, ((![v2779, v2802] : Fin 2 → IVec S16 32) a x).toNat < S8x8192.size a)
theorem k1_idx94_inb : ∀ (v2779 : IVec S16 32) (v2802 : IVec S16 32) (k1_hw94 : k1_chk94 v2779 v2802), ∀ a x, ((![v2779, v2802] : Fin 2 → IVec S16 32) a x).toNat < S8x8192.size a := fun v2779 v2802 k1_hw94 => k1_hw94

def k1_chk95 (v2779 : IVec S16 32) (v2810 : IVec S16 32) : Prop :=
  (∀ a x, ((![v2779, v2810] : Fin 2 → IVec S16 32) a x).toNat < S8x8192.size a)
theorem k1_idx95_inb : ∀ (v2779 : IVec S16 32) (v2810 : IVec S16 32) (k1_hw95 : k1_chk95 v2779 v2810), ∀ a x, ((![v2779, v2810] : Fin 2 → IVec S16 32) a x).toNat < S8x8192.size a := fun v2779 v2810 k1_hw95 => k1_hw95

def k1_chk96 (v2779 : IVec S16 32) (v2818 : IVec S16 32) : Prop :=
  (∀ a x, ((![v2779, v2818] : Fin 2 → IVec S16 32) a x).toNat < S8x8192.size a)
theorem k1_idx96_inb : ∀ (v2779 : IVec S16 32) (v2818 : IVec S16 32) (k1_hw96 : k1_chk96 v2779 v2818), ∀ a x, ((![v2779, v2818] : Fin 2 → IVec S16 32) a x).toNat < S8x8192.size a := fun v2779 v2818 k1_hw96 => k1_hw96

def k1_chk97 (v2779 : IVec S16 32) (v2826 : IVec S16 32) : Prop :=
  (∀ a x, ((![v2779, v2826] : Fin 2 → IVec S16 32) a x).toNat < S8x8192.size a)
theorem k1_idx97_inb : ∀ (v2779 : IVec S16 32) (v2826 : IVec S16 32) (k1_hw97 : k1_chk97 v2779 v2826), ∀ a x, ((![v2779, v2826] : Fin 2 → IVec S16 32) a x).toNat < S8x8192.size a := fun v2779 v2826 k1_hw97 => k1_hw97

def k1_chk98 (v2779 : IVec S16 32) (v2834 : IVec S16 32) : Prop :=
  (∀ a x, ((![v2779, v2834] : Fin 2 → IVec S16 32) a x).toNat < S8x8192.size a)
theorem k1_idx98_inb : ∀ (v2779 : IVec S16 32) (v2834 : IVec S16 32) (k1_hw98 : k1_chk98 v2779 v2834), ∀ a x, ((![v2779, v2834] : Fin 2 → IVec S16 32) a x).toNat < S8x8192.size a := fun v2779 v2834 k1_hw98 => k1_hw98

def k1_chk99 (v2779 : IVec S16 32) (v2842 : IVec S16 32) : Prop :=
  (∀ a x, ((![v2779, v2842] : Fin 2 → IVec S16 32) a x).toNat < S8x8192.size a)
theorem k1_idx99_inb : ∀ (v2779 : IVec S16 32) (v2842 : IVec S16 32) (k1_hw99 : k1_chk99 v2779 v2842), ∀ a x, ((![v2779, v2842] : Fin 2 → IVec S16 32) a x).toNat < S8x8192.size a := fun v2779 v2842 k1_hw99 => k1_hw99

def k1_chk100 (v2779 : IVec S16 32) (v2850 : IVec S16 32) : Prop :=
  (∀ a x, ((![v2779, v2850] : Fin 2 → IVec S16 32) a x).toNat < S8x8192.size a)
theorem k1_idx100_inb : ∀ (v2779 : IVec S16 32) (v2850 : IVec S16 32) (k1_hw100 : k1_chk100 v2779 v2850), ∀ a x, ((![v2779, v2850] : Fin 2 → IVec S16 32) a x).toNat < S8x8192.size a := fun v2779 v2850 k1_hw100 => k1_hw100

def k1_chk101 (v2779 : IVec S16 32) (v2858 : IVec S16 32) : Prop :=
  (∀ a x, ((![v2779, v2858] : Fin 2 → IVec S16 32) a x).toNat < S8x8192.size a)
theorem k1_idx101_inb : ∀ (v2779 : IVec S16 32) (v2858 : IVec S16 32) (k1_hw101 : k1_chk101 v2779 v2858), ∀ a x, ((![v2779, v2858] : Fin 2 → IVec S16 32) a x).toNat < S8x8192.size a := fun v2779 v2858 k1_hw101 => k1_hw101

def k1_chk102 (v2779 : IVec S16 32) (v2866 : IVec S16 32) : Prop :=
  (∀ a x, ((![v2779, v2866] : Fin 2 → IVec S16 32) a x).toNat < S8x8192.size a)
theorem k1_idx102_inb : ∀ (v2779 : IVec S16 32) (v2866 : IVec S16 32) (k1_hw102 : k1_chk102 v2779 v2866), ∀ a x, ((![v2779, v2866] : Fin 2 → IVec S16 32) a x).toNat < S8x8192.size a := fun v2779 v2866 k1_hw102 => k1_hw102

def k1_chk103 (v2779 : IVec S16 32) (v2874 : IVec S16 32) : Prop :=
  (∀ a x, ((![v2779, v2874] : Fin 2 → IVec S16 32) a x).toNat < S8x8192.size a)
theorem k1_idx103_inb : ∀ (v2779 : IVec S16 32) (v2874 : IVec S16 32) (k1_hw103 : k1_chk103 v2779 v2874), ∀ a x, ((![v2779, v2874] : Fin 2 → IVec S16 32) a x).toNat < S8x8192.size a := fun v2779 v2874 k1_hw103 => k1_hw103

def k1_chk104 (v2779 : IVec S16 32) (v2883 : IVec S16 32) : Prop :=
  (∀ a x, ((![v2779, v2883] : Fin 2 → IVec S16 32) a x).toNat < S8x8192.size a)
theorem k1_idx104_inb : ∀ (v2779 : IVec S16 32) (v2883 : IVec S16 32) (k1_hw104 : k1_chk104 v2779 v2883), ∀ a x, ((![v2779, v2883] : Fin 2 → IVec S16 32) a x).toNat < S8x8192.size a := fun v2779 v2883 k1_hw104 => k1_hw104
def k1_off18 (i : grid1.Coords) (k1_t17 : Fin k1_t17_loop.trips) (k1_t18 : Fin k1_t18_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_63 : BitVec 32 := 4#32
  let v23 : BitVec 32 := Scalar.muli v1 c4_i32_63
  let c0_i32_60 : BitVec 32 := 0#32
  let c1_i32_61 : BitVec 32 := 1#32
  let arg9 : BitVec 32 := Scf.iv c0_i32_60 c1_i32_61 k1_t17
  let v24 : BitVec 32 := Scalar.addi v23 arg9
  let c8_i32_64 : BitVec 32 := 8#32
  let v25 : BitVec 32 := Scalar.muli v24 c8_i32_64
  let c0_i32_66 : BitVec 32 := 0#32
  let c1_i32_67 : BitVec 32 := 1#32
  let arg10 : BitVec 32 := Scf.iv c0_i32_66 c1_i32_67 k1_t18
  let c8192_i32 : BitVec 32 := 8192#32
  let v2885 : BitVec 32 := Scalar.muli arg10 c8192_i32
  ![v25.toNat, v2885.toNat]

def k1_chk105 (v2886 : IVec S16 32) (v2893 : IVec S16 32) : Prop :=
  (∀ a x, ((![v2886, v2893] : Fin 2 → IVec S16 32) a x).toNat < S8x8192.size a)
theorem k1_idx105_inb : ∀ (v2886 : IVec S16 32) (v2893 : IVec S16 32) (k1_hw105 : k1_chk105 v2886 v2893), ∀ a x, ((![v2886, v2893] : Fin 2 → IVec S16 32) a x).toNat < S8x8192.size a := fun v2886 v2893 k1_hw105 => k1_hw105

def k1_chk106 (v2886 : IVec S16 32) (v2900 : IVec S16 32) : Prop :=
  (∀ a x, ((![v2886, v2900] : Fin 2 → IVec S16 32) a x).toNat < S8x8192.size a)
theorem k1_idx106_inb : ∀ (v2886 : IVec S16 32) (v2900 : IVec S16 32) (k1_hw106 : k1_chk106 v2886 v2900), ∀ a x, ((![v2886, v2900] : Fin 2 → IVec S16 32) a x).toNat < S8x8192.size a := fun v2886 v2900 k1_hw106 => k1_hw106

def k1_chk107 (v2886 : IVec S16 32) (v2907 : IVec S16 32) : Prop :=
  (∀ a x, ((![v2886, v2907] : Fin 2 → IVec S16 32) a x).toNat < S8x8192.size a)
theorem k1_idx107_inb : ∀ (v2886 : IVec S16 32) (v2907 : IVec S16 32) (k1_hw107 : k1_chk107 v2886 v2907), ∀ a x, ((![v2886, v2907] : Fin 2 → IVec S16 32) a x).toNat < S8x8192.size a := fun v2886 v2907 k1_hw107 => k1_hw107

def k1_chk108 (v2886 : IVec S16 32) (v2914 : IVec S16 32) : Prop :=
  (∀ a x, ((![v2886, v2914] : Fin 2 → IVec S16 32) a x).toNat < S8x8192.size a)
theorem k1_idx108_inb : ∀ (v2886 : IVec S16 32) (v2914 : IVec S16 32) (k1_hw108 : k1_chk108 v2886 v2914), ∀ a x, ((![v2886, v2914] : Fin 2 → IVec S16 32) a x).toNat < S8x8192.size a := fun v2886 v2914 k1_hw108 => k1_hw108

def k1_chk109 (v2886 : IVec S16 32) (v2921 : IVec S16 32) : Prop :=
  (∀ a x, ((![v2886, v2921] : Fin 2 → IVec S16 32) a x).toNat < S8x8192.size a)
theorem k1_idx109_inb : ∀ (v2886 : IVec S16 32) (v2921 : IVec S16 32) (k1_hw109 : k1_chk109 v2886 v2921), ∀ a x, ((![v2886, v2921] : Fin 2 → IVec S16 32) a x).toNat < S8x8192.size a := fun v2886 v2921 k1_hw109 => k1_hw109

def k1_chk110 (v2886 : IVec S16 32) (v2928 : IVec S16 32) : Prop :=
  (∀ a x, ((![v2886, v2928] : Fin 2 → IVec S16 32) a x).toNat < S8x8192.size a)
theorem k1_idx110_inb : ∀ (v2886 : IVec S16 32) (v2928 : IVec S16 32) (k1_hw110 : k1_chk110 v2886 v2928), ∀ a x, ((![v2886, v2928] : Fin 2 → IVec S16 32) a x).toNat < S8x8192.size a := fun v2886 v2928 k1_hw110 => k1_hw110

def k1_chk111 (v2886 : IVec S16 32) (v2935 : IVec S16 32) : Prop :=
  (∀ a x, ((![v2886, v2935] : Fin 2 → IVec S16 32) a x).toNat < S8x8192.size a)
theorem k1_idx111_inb : ∀ (v2886 : IVec S16 32) (v2935 : IVec S16 32) (k1_hw111 : k1_chk111 v2886 v2935), ∀ a x, ((![v2886, v2935] : Fin 2 → IVec S16 32) a x).toNat < S8x8192.size a := fun v2886 v2935 k1_hw111 => k1_hw111

def k1_chk112 (v2886 : IVec S16 32) (v2942 : IVec S16 32) : Prop :=
  (∀ a x, ((![v2886, v2942] : Fin 2 → IVec S16 32) a x).toNat < S8x8192.size a)
theorem k1_idx112_inb : ∀ (v2886 : IVec S16 32) (v2942 : IVec S16 32) (k1_hw112 : k1_chk112 v2886 v2942), ∀ a x, ((![v2886, v2942] : Fin 2 → IVec S16 32) a x).toNat < S8x8192.size a := fun v2886 v2942 k1_hw112 => k1_hw112

def k1_chk113 (v2886 : IVec S16 32) (v2949 : IVec S16 32) : Prop :=
  (∀ a x, ((![v2886, v2949] : Fin 2 → IVec S16 32) a x).toNat < S8x8192.size a)
theorem k1_idx113_inb : ∀ (v2886 : IVec S16 32) (v2949 : IVec S16 32) (k1_hw113 : k1_chk113 v2886 v2949), ∀ a x, ((![v2886, v2949] : Fin 2 → IVec S16 32) a x).toNat < S8x8192.size a := fun v2886 v2949 k1_hw113 => k1_hw113

def k1_chk114 (v2886 : IVec S16 32) (v2956 : IVec S16 32) : Prop :=
  (∀ a x, ((![v2886, v2956] : Fin 2 → IVec S16 32) a x).toNat < S8x8192.size a)
theorem k1_idx114_inb : ∀ (v2886 : IVec S16 32) (v2956 : IVec S16 32) (k1_hw114 : k1_chk114 v2886 v2956), ∀ a x, ((![v2886, v2956] : Fin 2 → IVec S16 32) a x).toNat < S8x8192.size a := fun v2886 v2956 k1_hw114 => k1_hw114

def k1_chk115 (v2886 : IVec S16 32) (v2963 : IVec S16 32) : Prop :=
  (∀ a x, ((![v2886, v2963] : Fin 2 → IVec S16 32) a x).toNat < S8x8192.size a)
theorem k1_idx115_inb : ∀ (v2886 : IVec S16 32) (v2963 : IVec S16 32) (k1_hw115 : k1_chk115 v2886 v2963), ∀ a x, ((![v2886, v2963] : Fin 2 → IVec S16 32) a x).toNat < S8x8192.size a := fun v2886 v2963 k1_hw115 => k1_hw115

def k1_chk116 (v2886 : IVec S16 32) (v2970 : IVec S16 32) : Prop :=
  (∀ a x, ((![v2886, v2970] : Fin 2 → IVec S16 32) a x).toNat < S8x8192.size a)
theorem k1_idx116_inb : ∀ (v2886 : IVec S16 32) (v2970 : IVec S16 32) (k1_hw116 : k1_chk116 v2886 v2970), ∀ a x, ((![v2886, v2970] : Fin 2 → IVec S16 32) a x).toNat < S8x8192.size a := fun v2886 v2970 k1_hw116 => k1_hw116

def k1_chk117 (v2886 : IVec S16 32) (v2978 : IVec S16 32) : Prop :=
  (∀ a x, ((![v2886, v2978] : Fin 2 → IVec S16 32) a x).toNat < S8x8192.size a)
theorem k1_idx117_inb : ∀ (v2886 : IVec S16 32) (v2978 : IVec S16 32) (k1_hw117 : k1_chk117 v2886 v2978), ∀ a x, ((![v2886, v2978] : Fin 2 → IVec S16 32) a x).toNat < S8x8192.size a := fun v2886 v2978 k1_hw117 => k1_hw117

def k1_chk118 (v2979 : IVec S16 32) (v2986 : IVec S16 32) : Prop :=
  (∀ a x, ((![v2979, v2986] : Fin 2 → IVec S16 32) a x).toNat < S8x8192.size a)
theorem k1_idx118_inb : ∀ (v2979 : IVec S16 32) (v2986 : IVec S16 32) (k1_hw118 : k1_chk118 v2979 v2986), ∀ a x, ((![v2979, v2986] : Fin 2 → IVec S16 32) a x).toNat < S8x8192.size a := fun v2979 v2986 k1_hw118 => k1_hw118

def k1_chk119 (v2979 : IVec S16 32) (v2993 : IVec S16 32) : Prop :=
  (∀ a x, ((![v2979, v2993] : Fin 2 → IVec S16 32) a x).toNat < S8x8192.size a)
theorem k1_idx119_inb : ∀ (v2979 : IVec S16 32) (v2993 : IVec S16 32) (k1_hw119 : k1_chk119 v2979 v2993), ∀ a x, ((![v2979, v2993] : Fin 2 → IVec S16 32) a x).toNat < S8x8192.size a := fun v2979 v2993 k1_hw119 => k1_hw119

def k1_chk120 (v2979 : IVec S16 32) (v3000 : IVec S16 32) : Prop :=
  (∀ a x, ((![v2979, v3000] : Fin 2 → IVec S16 32) a x).toNat < S8x8192.size a)
theorem k1_idx120_inb : ∀ (v2979 : IVec S16 32) (v3000 : IVec S16 32) (k1_hw120 : k1_chk120 v2979 v3000), ∀ a x, ((![v2979, v3000] : Fin 2 → IVec S16 32) a x).toNat < S8x8192.size a := fun v2979 v3000 k1_hw120 => k1_hw120

def k1_chk121 (v2979 : IVec S16 32) (v3007 : IVec S16 32) : Prop :=
  (∀ a x, ((![v2979, v3007] : Fin 2 → IVec S16 32) a x).toNat < S8x8192.size a)
theorem k1_idx121_inb : ∀ (v2979 : IVec S16 32) (v3007 : IVec S16 32) (k1_hw121 : k1_chk121 v2979 v3007), ∀ a x, ((![v2979, v3007] : Fin 2 → IVec S16 32) a x).toNat < S8x8192.size a := fun v2979 v3007 k1_hw121 => k1_hw121

def k1_chk122 (v2979 : IVec S16 32) (v3014 : IVec S16 32) : Prop :=
  (∀ a x, ((![v2979, v3014] : Fin 2 → IVec S16 32) a x).toNat < S8x8192.size a)
theorem k1_idx122_inb : ∀ (v2979 : IVec S16 32) (v3014 : IVec S16 32) (k1_hw122 : k1_chk122 v2979 v3014), ∀ a x, ((![v2979, v3014] : Fin 2 → IVec S16 32) a x).toNat < S8x8192.size a := fun v2979 v3014 k1_hw122 => k1_hw122

def k1_chk123 (v2979 : IVec S16 32) (v3021 : IVec S16 32) : Prop :=
  (∀ a x, ((![v2979, v3021] : Fin 2 → IVec S16 32) a x).toNat < S8x8192.size a)
theorem k1_idx123_inb : ∀ (v2979 : IVec S16 32) (v3021 : IVec S16 32) (k1_hw123 : k1_chk123 v2979 v3021), ∀ a x, ((![v2979, v3021] : Fin 2 → IVec S16 32) a x).toNat < S8x8192.size a := fun v2979 v3021 k1_hw123 => k1_hw123

def k1_chk124 (v2979 : IVec S16 32) (v3028 : IVec S16 32) : Prop :=
  (∀ a x, ((![v2979, v3028] : Fin 2 → IVec S16 32) a x).toNat < S8x8192.size a)
theorem k1_idx124_inb : ∀ (v2979 : IVec S16 32) (v3028 : IVec S16 32) (k1_hw124 : k1_chk124 v2979 v3028), ∀ a x, ((![v2979, v3028] : Fin 2 → IVec S16 32) a x).toNat < S8x8192.size a := fun v2979 v3028 k1_hw124 => k1_hw124

def k1_chk125 (v2979 : IVec S16 32) (v3035 : IVec S16 32) : Prop :=
  (∀ a x, ((![v2979, v3035] : Fin 2 → IVec S16 32) a x).toNat < S8x8192.size a)
theorem k1_idx125_inb : ∀ (v2979 : IVec S16 32) (v3035 : IVec S16 32) (k1_hw125 : k1_chk125 v2979 v3035), ∀ a x, ((![v2979, v3035] : Fin 2 → IVec S16 32) a x).toNat < S8x8192.size a := fun v2979 v3035 k1_hw125 => k1_hw125

def k1_chk126 (v2979 : IVec S16 32) (v3042 : IVec S16 32) : Prop :=
  (∀ a x, ((![v2979, v3042] : Fin 2 → IVec S16 32) a x).toNat < S8x8192.size a)
theorem k1_idx126_inb : ∀ (v2979 : IVec S16 32) (v3042 : IVec S16 32) (k1_hw126 : k1_chk126 v2979 v3042), ∀ a x, ((![v2979, v3042] : Fin 2 → IVec S16 32) a x).toNat < S8x8192.size a := fun v2979 v3042 k1_hw126 => k1_hw126

def k1_chk127 (v2979 : IVec S16 32) (v3049 : IVec S16 32) : Prop :=
  (∀ a x, ((![v2979, v3049] : Fin 2 → IVec S16 32) a x).toNat < S8x8192.size a)
theorem k1_idx127_inb : ∀ (v2979 : IVec S16 32) (v3049 : IVec S16 32) (k1_hw127 : k1_chk127 v2979 v3049), ∀ a x, ((![v2979, v3049] : Fin 2 → IVec S16 32) a x).toNat < S8x8192.size a := fun v2979 v3049 k1_hw127 => k1_hw127

def k1_chk128 (v2979 : IVec S16 32) (v3056 : IVec S16 32) : Prop :=
  (∀ a x, ((![v2979, v3056] : Fin 2 → IVec S16 32) a x).toNat < S8x8192.size a)
theorem k1_idx128_inb : ∀ (v2979 : IVec S16 32) (v3056 : IVec S16 32) (k1_hw128 : k1_chk128 v2979 v3056), ∀ a x, ((![v2979, v3056] : Fin 2 → IVec S16 32) a x).toNat < S8x8192.size a := fun v2979 v3056 k1_hw128 => k1_hw128

def k1_chk129 (v2979 : IVec S16 32) (v3063 : IVec S16 32) : Prop :=
  (∀ a x, ((![v2979, v3063] : Fin 2 → IVec S16 32) a x).toNat < S8x8192.size a)
theorem k1_idx129_inb : ∀ (v2979 : IVec S16 32) (v3063 : IVec S16 32) (k1_hw129 : k1_chk129 v2979 v3063), ∀ a x, ((![v2979, v3063] : Fin 2 → IVec S16 32) a x).toNat < S8x8192.size a := fun v2979 v3063 k1_hw129 => k1_hw129

def k1_chk130 (v2979 : IVec S16 32) (v3071 : IVec S16 32) : Prop :=
  (∀ a x, ((![v2979, v3071] : Fin 2 → IVec S16 32) a x).toNat < S8x8192.size a)
theorem k1_idx130_inb : ∀ (v2979 : IVec S16 32) (v3071 : IVec S16 32) (k1_hw130 : k1_chk130 v2979 v3071), ∀ a x, ((![v2979, v3071] : Fin 2 → IVec S16 32) a x).toNat < S8x8192.size a := fun v2979 v3071 k1_hw130 => k1_hw130

def k1_chk131 (v3072 : IVec S16 32) (v3079 : IVec S16 32) : Prop :=
  (∀ a x, ((![v3072, v3079] : Fin 2 → IVec S16 32) a x).toNat < S8x8192.size a)
theorem k1_idx131_inb : ∀ (v3072 : IVec S16 32) (v3079 : IVec S16 32) (k1_hw131 : k1_chk131 v3072 v3079), ∀ a x, ((![v3072, v3079] : Fin 2 → IVec S16 32) a x).toNat < S8x8192.size a := fun v3072 v3079 k1_hw131 => k1_hw131

def k1_chk132 (v3072 : IVec S16 32) (v3086 : IVec S16 32) : Prop :=
  (∀ a x, ((![v3072, v3086] : Fin 2 → IVec S16 32) a x).toNat < S8x8192.size a)
theorem k1_idx132_inb : ∀ (v3072 : IVec S16 32) (v3086 : IVec S16 32) (k1_hw132 : k1_chk132 v3072 v3086), ∀ a x, ((![v3072, v3086] : Fin 2 → IVec S16 32) a x).toNat < S8x8192.size a := fun v3072 v3086 k1_hw132 => k1_hw132

def k1_chk133 (v3072 : IVec S16 32) (v3093 : IVec S16 32) : Prop :=
  (∀ a x, ((![v3072, v3093] : Fin 2 → IVec S16 32) a x).toNat < S8x8192.size a)
theorem k1_idx133_inb : ∀ (v3072 : IVec S16 32) (v3093 : IVec S16 32) (k1_hw133 : k1_chk133 v3072 v3093), ∀ a x, ((![v3072, v3093] : Fin 2 → IVec S16 32) a x).toNat < S8x8192.size a := fun v3072 v3093 k1_hw133 => k1_hw133

def k1_chk134 (v3072 : IVec S16 32) (v3100 : IVec S16 32) : Prop :=
  (∀ a x, ((![v3072, v3100] : Fin 2 → IVec S16 32) a x).toNat < S8x8192.size a)
theorem k1_idx134_inb : ∀ (v3072 : IVec S16 32) (v3100 : IVec S16 32) (k1_hw134 : k1_chk134 v3072 v3100), ∀ a x, ((![v3072, v3100] : Fin 2 → IVec S16 32) a x).toNat < S8x8192.size a := fun v3072 v3100 k1_hw134 => k1_hw134

def k1_chk135 (v3072 : IVec S16 32) (v3107 : IVec S16 32) : Prop :=
  (∀ a x, ((![v3072, v3107] : Fin 2 → IVec S16 32) a x).toNat < S8x8192.size a)
theorem k1_idx135_inb : ∀ (v3072 : IVec S16 32) (v3107 : IVec S16 32) (k1_hw135 : k1_chk135 v3072 v3107), ∀ a x, ((![v3072, v3107] : Fin 2 → IVec S16 32) a x).toNat < S8x8192.size a := fun v3072 v3107 k1_hw135 => k1_hw135

def k1_chk136 (v3072 : IVec S16 32) (v3114 : IVec S16 32) : Prop :=
  (∀ a x, ((![v3072, v3114] : Fin 2 → IVec S16 32) a x).toNat < S8x8192.size a)
theorem k1_idx136_inb : ∀ (v3072 : IVec S16 32) (v3114 : IVec S16 32) (k1_hw136 : k1_chk136 v3072 v3114), ∀ a x, ((![v3072, v3114] : Fin 2 → IVec S16 32) a x).toNat < S8x8192.size a := fun v3072 v3114 k1_hw136 => k1_hw136

def k1_chk137 (v3072 : IVec S16 32) (v3121 : IVec S16 32) : Prop :=
  (∀ a x, ((![v3072, v3121] : Fin 2 → IVec S16 32) a x).toNat < S8x8192.size a)
theorem k1_idx137_inb : ∀ (v3072 : IVec S16 32) (v3121 : IVec S16 32) (k1_hw137 : k1_chk137 v3072 v3121), ∀ a x, ((![v3072, v3121] : Fin 2 → IVec S16 32) a x).toNat < S8x8192.size a := fun v3072 v3121 k1_hw137 => k1_hw137

def k1_chk138 (v3072 : IVec S16 32) (v3128 : IVec S16 32) : Prop :=
  (∀ a x, ((![v3072, v3128] : Fin 2 → IVec S16 32) a x).toNat < S8x8192.size a)
theorem k1_idx138_inb : ∀ (v3072 : IVec S16 32) (v3128 : IVec S16 32) (k1_hw138 : k1_chk138 v3072 v3128), ∀ a x, ((![v3072, v3128] : Fin 2 → IVec S16 32) a x).toNat < S8x8192.size a := fun v3072 v3128 k1_hw138 => k1_hw138

def k1_chk139 (v3072 : IVec S16 32) (v3135 : IVec S16 32) : Prop :=
  (∀ a x, ((![v3072, v3135] : Fin 2 → IVec S16 32) a x).toNat < S8x8192.size a)
theorem k1_idx139_inb : ∀ (v3072 : IVec S16 32) (v3135 : IVec S16 32) (k1_hw139 : k1_chk139 v3072 v3135), ∀ a x, ((![v3072, v3135] : Fin 2 → IVec S16 32) a x).toNat < S8x8192.size a := fun v3072 v3135 k1_hw139 => k1_hw139

def k1_chk140 (v3072 : IVec S16 32) (v3142 : IVec S16 32) : Prop :=
  (∀ a x, ((![v3072, v3142] : Fin 2 → IVec S16 32) a x).toNat < S8x8192.size a)
theorem k1_idx140_inb : ∀ (v3072 : IVec S16 32) (v3142 : IVec S16 32) (k1_hw140 : k1_chk140 v3072 v3142), ∀ a x, ((![v3072, v3142] : Fin 2 → IVec S16 32) a x).toNat < S8x8192.size a := fun v3072 v3142 k1_hw140 => k1_hw140

def k1_chk141 (v3072 : IVec S16 32) (v3149 : IVec S16 32) : Prop :=
  (∀ a x, ((![v3072, v3149] : Fin 2 → IVec S16 32) a x).toNat < S8x8192.size a)
theorem k1_idx141_inb : ∀ (v3072 : IVec S16 32) (v3149 : IVec S16 32) (k1_hw141 : k1_chk141 v3072 v3149), ∀ a x, ((![v3072, v3149] : Fin 2 → IVec S16 32) a x).toNat < S8x8192.size a := fun v3072 v3149 k1_hw141 => k1_hw141

def k1_chk142 (v3072 : IVec S16 32) (v3156 : IVec S16 32) : Prop :=
  (∀ a x, ((![v3072, v3156] : Fin 2 → IVec S16 32) a x).toNat < S8x8192.size a)
theorem k1_idx142_inb : ∀ (v3072 : IVec S16 32) (v3156 : IVec S16 32) (k1_hw142 : k1_chk142 v3072 v3156), ∀ a x, ((![v3072, v3156] : Fin 2 → IVec S16 32) a x).toNat < S8x8192.size a := fun v3072 v3156 k1_hw142 => k1_hw142

def k1_chk143 (v3072 : IVec S16 32) (v3164 : IVec S16 32) : Prop :=
  (∀ a x, ((![v3072, v3164] : Fin 2 → IVec S16 32) a x).toNat < S8x8192.size a)
theorem k1_idx143_inb : ∀ (v3072 : IVec S16 32) (v3164 : IVec S16 32) (k1_hw143 : k1_chk143 v3072 v3164), ∀ a x, ((![v3072, v3164] : Fin 2 → IVec S16 32) a x).toNat < S8x8192.size a := fun v3072 v3164 k1_hw143 => k1_hw143

def k1_chk144 (v3165 : IVec S16 32) (v3172 : IVec S16 32) : Prop :=
  (∀ a x, ((![v3165, v3172] : Fin 2 → IVec S16 32) a x).toNat < S8x8192.size a)
theorem k1_idx144_inb : ∀ (v3165 : IVec S16 32) (v3172 : IVec S16 32) (k1_hw144 : k1_chk144 v3165 v3172), ∀ a x, ((![v3165, v3172] : Fin 2 → IVec S16 32) a x).toNat < S8x8192.size a := fun v3165 v3172 k1_hw144 => k1_hw144

def k1_chk145 (v3165 : IVec S16 32) (v3179 : IVec S16 32) : Prop :=
  (∀ a x, ((![v3165, v3179] : Fin 2 → IVec S16 32) a x).toNat < S8x8192.size a)
theorem k1_idx145_inb : ∀ (v3165 : IVec S16 32) (v3179 : IVec S16 32) (k1_hw145 : k1_chk145 v3165 v3179), ∀ a x, ((![v3165, v3179] : Fin 2 → IVec S16 32) a x).toNat < S8x8192.size a := fun v3165 v3179 k1_hw145 => k1_hw145

def k1_chk146 (v3165 : IVec S16 32) (v3186 : IVec S16 32) : Prop :=
  (∀ a x, ((![v3165, v3186] : Fin 2 → IVec S16 32) a x).toNat < S8x8192.size a)
theorem k1_idx146_inb : ∀ (v3165 : IVec S16 32) (v3186 : IVec S16 32) (k1_hw146 : k1_chk146 v3165 v3186), ∀ a x, ((![v3165, v3186] : Fin 2 → IVec S16 32) a x).toNat < S8x8192.size a := fun v3165 v3186 k1_hw146 => k1_hw146

def k1_chk147 (v3165 : IVec S16 32) (v3193 : IVec S16 32) : Prop :=
  (∀ a x, ((![v3165, v3193] : Fin 2 → IVec S16 32) a x).toNat < S8x8192.size a)
theorem k1_idx147_inb : ∀ (v3165 : IVec S16 32) (v3193 : IVec S16 32) (k1_hw147 : k1_chk147 v3165 v3193), ∀ a x, ((![v3165, v3193] : Fin 2 → IVec S16 32) a x).toNat < S8x8192.size a := fun v3165 v3193 k1_hw147 => k1_hw147

def k1_chk148 (v3165 : IVec S16 32) (v3200 : IVec S16 32) : Prop :=
  (∀ a x, ((![v3165, v3200] : Fin 2 → IVec S16 32) a x).toNat < S8x8192.size a)
theorem k1_idx148_inb : ∀ (v3165 : IVec S16 32) (v3200 : IVec S16 32) (k1_hw148 : k1_chk148 v3165 v3200), ∀ a x, ((![v3165, v3200] : Fin 2 → IVec S16 32) a x).toNat < S8x8192.size a := fun v3165 v3200 k1_hw148 => k1_hw148

def k1_chk149 (v3165 : IVec S16 32) (v3207 : IVec S16 32) : Prop :=
  (∀ a x, ((![v3165, v3207] : Fin 2 → IVec S16 32) a x).toNat < S8x8192.size a)
theorem k1_idx149_inb : ∀ (v3165 : IVec S16 32) (v3207 : IVec S16 32) (k1_hw149 : k1_chk149 v3165 v3207), ∀ a x, ((![v3165, v3207] : Fin 2 → IVec S16 32) a x).toNat < S8x8192.size a := fun v3165 v3207 k1_hw149 => k1_hw149

def k1_chk150 (v3165 : IVec S16 32) (v3214 : IVec S16 32) : Prop :=
  (∀ a x, ((![v3165, v3214] : Fin 2 → IVec S16 32) a x).toNat < S8x8192.size a)
theorem k1_idx150_inb : ∀ (v3165 : IVec S16 32) (v3214 : IVec S16 32) (k1_hw150 : k1_chk150 v3165 v3214), ∀ a x, ((![v3165, v3214] : Fin 2 → IVec S16 32) a x).toNat < S8x8192.size a := fun v3165 v3214 k1_hw150 => k1_hw150

def k1_chk151 (v3165 : IVec S16 32) (v3221 : IVec S16 32) : Prop :=
  (∀ a x, ((![v3165, v3221] : Fin 2 → IVec S16 32) a x).toNat < S8x8192.size a)
theorem k1_idx151_inb : ∀ (v3165 : IVec S16 32) (v3221 : IVec S16 32) (k1_hw151 : k1_chk151 v3165 v3221), ∀ a x, ((![v3165, v3221] : Fin 2 → IVec S16 32) a x).toNat < S8x8192.size a := fun v3165 v3221 k1_hw151 => k1_hw151

def k1_chk152 (v3165 : IVec S16 32) (v3228 : IVec S16 32) : Prop :=
  (∀ a x, ((![v3165, v3228] : Fin 2 → IVec S16 32) a x).toNat < S8x8192.size a)
theorem k1_idx152_inb : ∀ (v3165 : IVec S16 32) (v3228 : IVec S16 32) (k1_hw152 : k1_chk152 v3165 v3228), ∀ a x, ((![v3165, v3228] : Fin 2 → IVec S16 32) a x).toNat < S8x8192.size a := fun v3165 v3228 k1_hw152 => k1_hw152

def k1_chk153 (v3165 : IVec S16 32) (v3235 : IVec S16 32) : Prop :=
  (∀ a x, ((![v3165, v3235] : Fin 2 → IVec S16 32) a x).toNat < S8x8192.size a)
theorem k1_idx153_inb : ∀ (v3165 : IVec S16 32) (v3235 : IVec S16 32) (k1_hw153 : k1_chk153 v3165 v3235), ∀ a x, ((![v3165, v3235] : Fin 2 → IVec S16 32) a x).toNat < S8x8192.size a := fun v3165 v3235 k1_hw153 => k1_hw153

def k1_chk154 (v3165 : IVec S16 32) (v3242 : IVec S16 32) : Prop :=
  (∀ a x, ((![v3165, v3242] : Fin 2 → IVec S16 32) a x).toNat < S8x8192.size a)
theorem k1_idx154_inb : ∀ (v3165 : IVec S16 32) (v3242 : IVec S16 32) (k1_hw154 : k1_chk154 v3165 v3242), ∀ a x, ((![v3165, v3242] : Fin 2 → IVec S16 32) a x).toNat < S8x8192.size a := fun v3165 v3242 k1_hw154 => k1_hw154

def k1_chk155 (v3165 : IVec S16 32) (v3249 : IVec S16 32) : Prop :=
  (∀ a x, ((![v3165, v3249] : Fin 2 → IVec S16 32) a x).toNat < S8x8192.size a)
theorem k1_idx155_inb : ∀ (v3165 : IVec S16 32) (v3249 : IVec S16 32) (k1_hw155 : k1_chk155 v3165 v3249), ∀ a x, ((![v3165, v3249] : Fin 2 → IVec S16 32) a x).toNat < S8x8192.size a := fun v3165 v3249 k1_hw155 => k1_hw155

def k1_chk156 (v3165 : IVec S16 32) (v3257 : IVec S16 32) : Prop :=
  (∀ a x, ((![v3165, v3257] : Fin 2 → IVec S16 32) a x).toNat < S8x8192.size a)
theorem k1_idx156_inb : ∀ (v3165 : IVec S16 32) (v3257 : IVec S16 32) (k1_hw156 : k1_chk156 v3165 v3257), ∀ a x, ((![v3165, v3257] : Fin 2 → IVec S16 32) a x).toNat < S8x8192.size a := fun v3165 v3257 k1_hw156 => k1_hw156

def k1_chk157 (v3258 : IVec S16 32) (v3265 : IVec S16 32) : Prop :=
  (∀ a x, ((![v3258, v3265] : Fin 2 → IVec S16 32) a x).toNat < S8x8192.size a)
theorem k1_idx157_inb : ∀ (v3258 : IVec S16 32) (v3265 : IVec S16 32) (k1_hw157 : k1_chk157 v3258 v3265), ∀ a x, ((![v3258, v3265] : Fin 2 → IVec S16 32) a x).toNat < S8x8192.size a := fun v3258 v3265 k1_hw157 => k1_hw157

def k1_chk158 (v3258 : IVec S16 32) (v3272 : IVec S16 32) : Prop :=
  (∀ a x, ((![v3258, v3272] : Fin 2 → IVec S16 32) a x).toNat < S8x8192.size a)
theorem k1_idx158_inb : ∀ (v3258 : IVec S16 32) (v3272 : IVec S16 32) (k1_hw158 : k1_chk158 v3258 v3272), ∀ a x, ((![v3258, v3272] : Fin 2 → IVec S16 32) a x).toNat < S8x8192.size a := fun v3258 v3272 k1_hw158 => k1_hw158

def k1_chk159 (v3258 : IVec S16 32) (v3279 : IVec S16 32) : Prop :=
  (∀ a x, ((![v3258, v3279] : Fin 2 → IVec S16 32) a x).toNat < S8x8192.size a)
theorem k1_idx159_inb : ∀ (v3258 : IVec S16 32) (v3279 : IVec S16 32) (k1_hw159 : k1_chk159 v3258 v3279), ∀ a x, ((![v3258, v3279] : Fin 2 → IVec S16 32) a x).toNat < S8x8192.size a := fun v3258 v3279 k1_hw159 => k1_hw159

def k1_chk160 (v3258 : IVec S16 32) (v3286 : IVec S16 32) : Prop :=
  (∀ a x, ((![v3258, v3286] : Fin 2 → IVec S16 32) a x).toNat < S8x8192.size a)
theorem k1_idx160_inb : ∀ (v3258 : IVec S16 32) (v3286 : IVec S16 32) (k1_hw160 : k1_chk160 v3258 v3286), ∀ a x, ((![v3258, v3286] : Fin 2 → IVec S16 32) a x).toNat < S8x8192.size a := fun v3258 v3286 k1_hw160 => k1_hw160

def k1_chk161 (v3258 : IVec S16 32) (v3293 : IVec S16 32) : Prop :=
  (∀ a x, ((![v3258, v3293] : Fin 2 → IVec S16 32) a x).toNat < S8x8192.size a)
theorem k1_idx161_inb : ∀ (v3258 : IVec S16 32) (v3293 : IVec S16 32) (k1_hw161 : k1_chk161 v3258 v3293), ∀ a x, ((![v3258, v3293] : Fin 2 → IVec S16 32) a x).toNat < S8x8192.size a := fun v3258 v3293 k1_hw161 => k1_hw161

def k1_chk162 (v3258 : IVec S16 32) (v3300 : IVec S16 32) : Prop :=
  (∀ a x, ((![v3258, v3300] : Fin 2 → IVec S16 32) a x).toNat < S8x8192.size a)
theorem k1_idx162_inb : ∀ (v3258 : IVec S16 32) (v3300 : IVec S16 32) (k1_hw162 : k1_chk162 v3258 v3300), ∀ a x, ((![v3258, v3300] : Fin 2 → IVec S16 32) a x).toNat < S8x8192.size a := fun v3258 v3300 k1_hw162 => k1_hw162

def k1_chk163 (v3258 : IVec S16 32) (v3307 : IVec S16 32) : Prop :=
  (∀ a x, ((![v3258, v3307] : Fin 2 → IVec S16 32) a x).toNat < S8x8192.size a)
theorem k1_idx163_inb : ∀ (v3258 : IVec S16 32) (v3307 : IVec S16 32) (k1_hw163 : k1_chk163 v3258 v3307), ∀ a x, ((![v3258, v3307] : Fin 2 → IVec S16 32) a x).toNat < S8x8192.size a := fun v3258 v3307 k1_hw163 => k1_hw163

def k1_chk164 (v3258 : IVec S16 32) (v3314 : IVec S16 32) : Prop :=
  (∀ a x, ((![v3258, v3314] : Fin 2 → IVec S16 32) a x).toNat < S8x8192.size a)
theorem k1_idx164_inb : ∀ (v3258 : IVec S16 32) (v3314 : IVec S16 32) (k1_hw164 : k1_chk164 v3258 v3314), ∀ a x, ((![v3258, v3314] : Fin 2 → IVec S16 32) a x).toNat < S8x8192.size a := fun v3258 v3314 k1_hw164 => k1_hw164

def k1_chk165 (v3258 : IVec S16 32) (v3321 : IVec S16 32) : Prop :=
  (∀ a x, ((![v3258, v3321] : Fin 2 → IVec S16 32) a x).toNat < S8x8192.size a)
theorem k1_idx165_inb : ∀ (v3258 : IVec S16 32) (v3321 : IVec S16 32) (k1_hw165 : k1_chk165 v3258 v3321), ∀ a x, ((![v3258, v3321] : Fin 2 → IVec S16 32) a x).toNat < S8x8192.size a := fun v3258 v3321 k1_hw165 => k1_hw165

def k1_chk166 (v3258 : IVec S16 32) (v3328 : IVec S16 32) : Prop :=
  (∀ a x, ((![v3258, v3328] : Fin 2 → IVec S16 32) a x).toNat < S8x8192.size a)
theorem k1_idx166_inb : ∀ (v3258 : IVec S16 32) (v3328 : IVec S16 32) (k1_hw166 : k1_chk166 v3258 v3328), ∀ a x, ((![v3258, v3328] : Fin 2 → IVec S16 32) a x).toNat < S8x8192.size a := fun v3258 v3328 k1_hw166 => k1_hw166

def k1_chk167 (v3258 : IVec S16 32) (v3335 : IVec S16 32) : Prop :=
  (∀ a x, ((![v3258, v3335] : Fin 2 → IVec S16 32) a x).toNat < S8x8192.size a)
theorem k1_idx167_inb : ∀ (v3258 : IVec S16 32) (v3335 : IVec S16 32) (k1_hw167 : k1_chk167 v3258 v3335), ∀ a x, ((![v3258, v3335] : Fin 2 → IVec S16 32) a x).toNat < S8x8192.size a := fun v3258 v3335 k1_hw167 => k1_hw167

def k1_chk168 (v3258 : IVec S16 32) (v3342 : IVec S16 32) : Prop :=
  (∀ a x, ((![v3258, v3342] : Fin 2 → IVec S16 32) a x).toNat < S8x8192.size a)
theorem k1_idx168_inb : ∀ (v3258 : IVec S16 32) (v3342 : IVec S16 32) (k1_hw168 : k1_chk168 v3258 v3342), ∀ a x, ((![v3258, v3342] : Fin 2 → IVec S16 32) a x).toNat < S8x8192.size a := fun v3258 v3342 k1_hw168 => k1_hw168

def k1_chk169 (v3258 : IVec S16 32) (v3350 : IVec S16 32) : Prop :=
  (∀ a x, ((![v3258, v3350] : Fin 2 → IVec S16 32) a x).toNat < S8x8192.size a)
theorem k1_idx169_inb : ∀ (v3258 : IVec S16 32) (v3350 : IVec S16 32) (k1_hw169 : k1_chk169 v3258 v3350), ∀ a x, ((![v3258, v3350] : Fin 2 → IVec S16 32) a x).toNat < S8x8192.size a := fun v3258 v3350 k1_hw169 => k1_hw169

def k1_chk170 (v3351 : IVec S16 32) (v3358 : IVec S16 32) : Prop :=
  (∀ a x, ((![v3351, v3358] : Fin 2 → IVec S16 32) a x).toNat < S8x8192.size a)
theorem k1_idx170_inb : ∀ (v3351 : IVec S16 32) (v3358 : IVec S16 32) (k1_hw170 : k1_chk170 v3351 v3358), ∀ a x, ((![v3351, v3358] : Fin 2 → IVec S16 32) a x).toNat < S8x8192.size a := fun v3351 v3358 k1_hw170 => k1_hw170

def k1_chk171 (v3351 : IVec S16 32) (v3365 : IVec S16 32) : Prop :=
  (∀ a x, ((![v3351, v3365] : Fin 2 → IVec S16 32) a x).toNat < S8x8192.size a)
theorem k1_idx171_inb : ∀ (v3351 : IVec S16 32) (v3365 : IVec S16 32) (k1_hw171 : k1_chk171 v3351 v3365), ∀ a x, ((![v3351, v3365] : Fin 2 → IVec S16 32) a x).toNat < S8x8192.size a := fun v3351 v3365 k1_hw171 => k1_hw171

def k1_chk172 (v3351 : IVec S16 32) (v3372 : IVec S16 32) : Prop :=
  (∀ a x, ((![v3351, v3372] : Fin 2 → IVec S16 32) a x).toNat < S8x8192.size a)
theorem k1_idx172_inb : ∀ (v3351 : IVec S16 32) (v3372 : IVec S16 32) (k1_hw172 : k1_chk172 v3351 v3372), ∀ a x, ((![v3351, v3372] : Fin 2 → IVec S16 32) a x).toNat < S8x8192.size a := fun v3351 v3372 k1_hw172 => k1_hw172

def k1_chk173 (v3351 : IVec S16 32) (v3379 : IVec S16 32) : Prop :=
  (∀ a x, ((![v3351, v3379] : Fin 2 → IVec S16 32) a x).toNat < S8x8192.size a)
theorem k1_idx173_inb : ∀ (v3351 : IVec S16 32) (v3379 : IVec S16 32) (k1_hw173 : k1_chk173 v3351 v3379), ∀ a x, ((![v3351, v3379] : Fin 2 → IVec S16 32) a x).toNat < S8x8192.size a := fun v3351 v3379 k1_hw173 => k1_hw173

def k1_chk174 (v3351 : IVec S16 32) (v3386 : IVec S16 32) : Prop :=
  (∀ a x, ((![v3351, v3386] : Fin 2 → IVec S16 32) a x).toNat < S8x8192.size a)
theorem k1_idx174_inb : ∀ (v3351 : IVec S16 32) (v3386 : IVec S16 32) (k1_hw174 : k1_chk174 v3351 v3386), ∀ a x, ((![v3351, v3386] : Fin 2 → IVec S16 32) a x).toNat < S8x8192.size a := fun v3351 v3386 k1_hw174 => k1_hw174

def k1_chk175 (v3351 : IVec S16 32) (v3393 : IVec S16 32) : Prop :=
  (∀ a x, ((![v3351, v3393] : Fin 2 → IVec S16 32) a x).toNat < S8x8192.size a)
theorem k1_idx175_inb : ∀ (v3351 : IVec S16 32) (v3393 : IVec S16 32) (k1_hw175 : k1_chk175 v3351 v3393), ∀ a x, ((![v3351, v3393] : Fin 2 → IVec S16 32) a x).toNat < S8x8192.size a := fun v3351 v3393 k1_hw175 => k1_hw175

def k1_chk176 (v3351 : IVec S16 32) (v3400 : IVec S16 32) : Prop :=
  (∀ a x, ((![v3351, v3400] : Fin 2 → IVec S16 32) a x).toNat < S8x8192.size a)
theorem k1_idx176_inb : ∀ (v3351 : IVec S16 32) (v3400 : IVec S16 32) (k1_hw176 : k1_chk176 v3351 v3400), ∀ a x, ((![v3351, v3400] : Fin 2 → IVec S16 32) a x).toNat < S8x8192.size a := fun v3351 v3400 k1_hw176 => k1_hw176

def k1_chk177 (v3351 : IVec S16 32) (v3407 : IVec S16 32) : Prop :=
  (∀ a x, ((![v3351, v3407] : Fin 2 → IVec S16 32) a x).toNat < S8x8192.size a)
theorem k1_idx177_inb : ∀ (v3351 : IVec S16 32) (v3407 : IVec S16 32) (k1_hw177 : k1_chk177 v3351 v3407), ∀ a x, ((![v3351, v3407] : Fin 2 → IVec S16 32) a x).toNat < S8x8192.size a := fun v3351 v3407 k1_hw177 => k1_hw177

def k1_chk178 (v3351 : IVec S16 32) (v3414 : IVec S16 32) : Prop :=
  (∀ a x, ((![v3351, v3414] : Fin 2 → IVec S16 32) a x).toNat < S8x8192.size a)
theorem k1_idx178_inb : ∀ (v3351 : IVec S16 32) (v3414 : IVec S16 32) (k1_hw178 : k1_chk178 v3351 v3414), ∀ a x, ((![v3351, v3414] : Fin 2 → IVec S16 32) a x).toNat < S8x8192.size a := fun v3351 v3414 k1_hw178 => k1_hw178

def k1_chk179 (v3351 : IVec S16 32) (v3421 : IVec S16 32) : Prop :=
  (∀ a x, ((![v3351, v3421] : Fin 2 → IVec S16 32) a x).toNat < S8x8192.size a)
theorem k1_idx179_inb : ∀ (v3351 : IVec S16 32) (v3421 : IVec S16 32) (k1_hw179 : k1_chk179 v3351 v3421), ∀ a x, ((![v3351, v3421] : Fin 2 → IVec S16 32) a x).toNat < S8x8192.size a := fun v3351 v3421 k1_hw179 => k1_hw179

def k1_chk180 (v3351 : IVec S16 32) (v3428 : IVec S16 32) : Prop :=
  (∀ a x, ((![v3351, v3428] : Fin 2 → IVec S16 32) a x).toNat < S8x8192.size a)
theorem k1_idx180_inb : ∀ (v3351 : IVec S16 32) (v3428 : IVec S16 32) (k1_hw180 : k1_chk180 v3351 v3428), ∀ a x, ((![v3351, v3428] : Fin 2 → IVec S16 32) a x).toNat < S8x8192.size a := fun v3351 v3428 k1_hw180 => k1_hw180

def k1_chk181 (v3351 : IVec S16 32) (v3435 : IVec S16 32) : Prop :=
  (∀ a x, ((![v3351, v3435] : Fin 2 → IVec S16 32) a x).toNat < S8x8192.size a)
theorem k1_idx181_inb : ∀ (v3351 : IVec S16 32) (v3435 : IVec S16 32) (k1_hw181 : k1_chk181 v3351 v3435), ∀ a x, ((![v3351, v3435] : Fin 2 → IVec S16 32) a x).toNat < S8x8192.size a := fun v3351 v3435 k1_hw181 => k1_hw181

def k1_chk182 (v3351 : IVec S16 32) (v3443 : IVec S16 32) : Prop :=
  (∀ a x, ((![v3351, v3443] : Fin 2 → IVec S16 32) a x).toNat < S8x8192.size a)
theorem k1_idx182_inb : ∀ (v3351 : IVec S16 32) (v3443 : IVec S16 32) (k1_hw182 : k1_chk182 v3351 v3443), ∀ a x, ((![v3351, v3443] : Fin 2 → IVec S16 32) a x).toNat < S8x8192.size a := fun v3351 v3443 k1_hw182 => k1_hw182

def k1_chk183 (v3444 : IVec S16 32) (v3451 : IVec S16 32) : Prop :=
  (∀ a x, ((![v3444, v3451] : Fin 2 → IVec S16 32) a x).toNat < S8x8192.size a)
theorem k1_idx183_inb : ∀ (v3444 : IVec S16 32) (v3451 : IVec S16 32) (k1_hw183 : k1_chk183 v3444 v3451), ∀ a x, ((![v3444, v3451] : Fin 2 → IVec S16 32) a x).toNat < S8x8192.size a := fun v3444 v3451 k1_hw183 => k1_hw183

def k1_chk184 (v3444 : IVec S16 32) (v3458 : IVec S16 32) : Prop :=
  (∀ a x, ((![v3444, v3458] : Fin 2 → IVec S16 32) a x).toNat < S8x8192.size a)
theorem k1_idx184_inb : ∀ (v3444 : IVec S16 32) (v3458 : IVec S16 32) (k1_hw184 : k1_chk184 v3444 v3458), ∀ a x, ((![v3444, v3458] : Fin 2 → IVec S16 32) a x).toNat < S8x8192.size a := fun v3444 v3458 k1_hw184 => k1_hw184

def k1_chk185 (v3444 : IVec S16 32) (v3465 : IVec S16 32) : Prop :=
  (∀ a x, ((![v3444, v3465] : Fin 2 → IVec S16 32) a x).toNat < S8x8192.size a)
theorem k1_idx185_inb : ∀ (v3444 : IVec S16 32) (v3465 : IVec S16 32) (k1_hw185 : k1_chk185 v3444 v3465), ∀ a x, ((![v3444, v3465] : Fin 2 → IVec S16 32) a x).toNat < S8x8192.size a := fun v3444 v3465 k1_hw185 => k1_hw185

def k1_chk186 (v3444 : IVec S16 32) (v3472 : IVec S16 32) : Prop :=
  (∀ a x, ((![v3444, v3472] : Fin 2 → IVec S16 32) a x).toNat < S8x8192.size a)
theorem k1_idx186_inb : ∀ (v3444 : IVec S16 32) (v3472 : IVec S16 32) (k1_hw186 : k1_chk186 v3444 v3472), ∀ a x, ((![v3444, v3472] : Fin 2 → IVec S16 32) a x).toNat < S8x8192.size a := fun v3444 v3472 k1_hw186 => k1_hw186

def k1_chk187 (v3444 : IVec S16 32) (v3479 : IVec S16 32) : Prop :=
  (∀ a x, ((![v3444, v3479] : Fin 2 → IVec S16 32) a x).toNat < S8x8192.size a)
theorem k1_idx187_inb : ∀ (v3444 : IVec S16 32) (v3479 : IVec S16 32) (k1_hw187 : k1_chk187 v3444 v3479), ∀ a x, ((![v3444, v3479] : Fin 2 → IVec S16 32) a x).toNat < S8x8192.size a := fun v3444 v3479 k1_hw187 => k1_hw187

def k1_chk188 (v3444 : IVec S16 32) (v3486 : IVec S16 32) : Prop :=
  (∀ a x, ((![v3444, v3486] : Fin 2 → IVec S16 32) a x).toNat < S8x8192.size a)
theorem k1_idx188_inb : ∀ (v3444 : IVec S16 32) (v3486 : IVec S16 32) (k1_hw188 : k1_chk188 v3444 v3486), ∀ a x, ((![v3444, v3486] : Fin 2 → IVec S16 32) a x).toNat < S8x8192.size a := fun v3444 v3486 k1_hw188 => k1_hw188

def k1_chk189 (v3444 : IVec S16 32) (v3493 : IVec S16 32) : Prop :=
  (∀ a x, ((![v3444, v3493] : Fin 2 → IVec S16 32) a x).toNat < S8x8192.size a)
theorem k1_idx189_inb : ∀ (v3444 : IVec S16 32) (v3493 : IVec S16 32) (k1_hw189 : k1_chk189 v3444 v3493), ∀ a x, ((![v3444, v3493] : Fin 2 → IVec S16 32) a x).toNat < S8x8192.size a := fun v3444 v3493 k1_hw189 => k1_hw189

def k1_chk190 (v3444 : IVec S16 32) (v3500 : IVec S16 32) : Prop :=
  (∀ a x, ((![v3444, v3500] : Fin 2 → IVec S16 32) a x).toNat < S8x8192.size a)
theorem k1_idx190_inb : ∀ (v3444 : IVec S16 32) (v3500 : IVec S16 32) (k1_hw190 : k1_chk190 v3444 v3500), ∀ a x, ((![v3444, v3500] : Fin 2 → IVec S16 32) a x).toNat < S8x8192.size a := fun v3444 v3500 k1_hw190 => k1_hw190

def k1_chk191 (v3444 : IVec S16 32) (v3507 : IVec S16 32) : Prop :=
  (∀ a x, ((![v3444, v3507] : Fin 2 → IVec S16 32) a x).toNat < S8x8192.size a)
theorem k1_idx191_inb : ∀ (v3444 : IVec S16 32) (v3507 : IVec S16 32) (k1_hw191 : k1_chk191 v3444 v3507), ∀ a x, ((![v3444, v3507] : Fin 2 → IVec S16 32) a x).toNat < S8x8192.size a := fun v3444 v3507 k1_hw191 => k1_hw191

def k1_chk192 (v3444 : IVec S16 32) (v3514 : IVec S16 32) : Prop :=
  (∀ a x, ((![v3444, v3514] : Fin 2 → IVec S16 32) a x).toNat < S8x8192.size a)
theorem k1_idx192_inb : ∀ (v3444 : IVec S16 32) (v3514 : IVec S16 32) (k1_hw192 : k1_chk192 v3444 v3514), ∀ a x, ((![v3444, v3514] : Fin 2 → IVec S16 32) a x).toNat < S8x8192.size a := fun v3444 v3514 k1_hw192 => k1_hw192

def k1_chk193 (v3444 : IVec S16 32) (v3521 : IVec S16 32) : Prop :=
  (∀ a x, ((![v3444, v3521] : Fin 2 → IVec S16 32) a x).toNat < S8x8192.size a)
theorem k1_idx193_inb : ∀ (v3444 : IVec S16 32) (v3521 : IVec S16 32) (k1_hw193 : k1_chk193 v3444 v3521), ∀ a x, ((![v3444, v3521] : Fin 2 → IVec S16 32) a x).toNat < S8x8192.size a := fun v3444 v3521 k1_hw193 => k1_hw193

def k1_chk194 (v3444 : IVec S16 32) (v3528 : IVec S16 32) : Prop :=
  (∀ a x, ((![v3444, v3528] : Fin 2 → IVec S16 32) a x).toNat < S8x8192.size a)
theorem k1_idx194_inb : ∀ (v3444 : IVec S16 32) (v3528 : IVec S16 32) (k1_hw194 : k1_chk194 v3444 v3528), ∀ a x, ((![v3444, v3528] : Fin 2 → IVec S16 32) a x).toNat < S8x8192.size a := fun v3444 v3528 k1_hw194 => k1_hw194

def k1_chk195 (v3444 : IVec S16 32) (v3536 : IVec S16 32) : Prop :=
  (∀ a x, ((![v3444, v3536] : Fin 2 → IVec S16 32) a x).toNat < S8x8192.size a)
theorem k1_idx195_inb : ∀ (v3444 : IVec S16 32) (v3536 : IVec S16 32) (k1_hw195 : k1_chk195 v3444 v3536), ∀ a x, ((![v3444, v3536] : Fin 2 → IVec S16 32) a x).toNat < S8x8192.size a := fun v3444 v3536 k1_hw195 => k1_hw195

def k1_chk196 (v3537 : IVec S16 32) (v3544 : IVec S16 32) : Prop :=
  (∀ a x, ((![v3537, v3544] : Fin 2 → IVec S16 32) a x).toNat < S8x8192.size a)
theorem k1_idx196_inb : ∀ (v3537 : IVec S16 32) (v3544 : IVec S16 32) (k1_hw196 : k1_chk196 v3537 v3544), ∀ a x, ((![v3537, v3544] : Fin 2 → IVec S16 32) a x).toNat < S8x8192.size a := fun v3537 v3544 k1_hw196 => k1_hw196

def k1_chk197 (v3537 : IVec S16 32) (v3551 : IVec S16 32) : Prop :=
  (∀ a x, ((![v3537, v3551] : Fin 2 → IVec S16 32) a x).toNat < S8x8192.size a)
theorem k1_idx197_inb : ∀ (v3537 : IVec S16 32) (v3551 : IVec S16 32) (k1_hw197 : k1_chk197 v3537 v3551), ∀ a x, ((![v3537, v3551] : Fin 2 → IVec S16 32) a x).toNat < S8x8192.size a := fun v3537 v3551 k1_hw197 => k1_hw197

def k1_chk198 (v3537 : IVec S16 32) (v3558 : IVec S16 32) : Prop :=
  (∀ a x, ((![v3537, v3558] : Fin 2 → IVec S16 32) a x).toNat < S8x8192.size a)
theorem k1_idx198_inb : ∀ (v3537 : IVec S16 32) (v3558 : IVec S16 32) (k1_hw198 : k1_chk198 v3537 v3558), ∀ a x, ((![v3537, v3558] : Fin 2 → IVec S16 32) a x).toNat < S8x8192.size a := fun v3537 v3558 k1_hw198 => k1_hw198

def k1_chk199 (v3537 : IVec S16 32) (v3565 : IVec S16 32) : Prop :=
  (∀ a x, ((![v3537, v3565] : Fin 2 → IVec S16 32) a x).toNat < S8x8192.size a)
theorem k1_idx199_inb : ∀ (v3537 : IVec S16 32) (v3565 : IVec S16 32) (k1_hw199 : k1_chk199 v3537 v3565), ∀ a x, ((![v3537, v3565] : Fin 2 → IVec S16 32) a x).toNat < S8x8192.size a := fun v3537 v3565 k1_hw199 => k1_hw199

def k1_chk200 (v3537 : IVec S16 32) (v3572 : IVec S16 32) : Prop :=
  (∀ a x, ((![v3537, v3572] : Fin 2 → IVec S16 32) a x).toNat < S8x8192.size a)
theorem k1_idx200_inb : ∀ (v3537 : IVec S16 32) (v3572 : IVec S16 32) (k1_hw200 : k1_chk200 v3537 v3572), ∀ a x, ((![v3537, v3572] : Fin 2 → IVec S16 32) a x).toNat < S8x8192.size a := fun v3537 v3572 k1_hw200 => k1_hw200

def k1_chk201 (v3537 : IVec S16 32) (v3579 : IVec S16 32) : Prop :=
  (∀ a x, ((![v3537, v3579] : Fin 2 → IVec S16 32) a x).toNat < S8x8192.size a)
theorem k1_idx201_inb : ∀ (v3537 : IVec S16 32) (v3579 : IVec S16 32) (k1_hw201 : k1_chk201 v3537 v3579), ∀ a x, ((![v3537, v3579] : Fin 2 → IVec S16 32) a x).toNat < S8x8192.size a := fun v3537 v3579 k1_hw201 => k1_hw201

def k1_chk202 (v3537 : IVec S16 32) (v3586 : IVec S16 32) : Prop :=
  (∀ a x, ((![v3537, v3586] : Fin 2 → IVec S16 32) a x).toNat < S8x8192.size a)
theorem k1_idx202_inb : ∀ (v3537 : IVec S16 32) (v3586 : IVec S16 32) (k1_hw202 : k1_chk202 v3537 v3586), ∀ a x, ((![v3537, v3586] : Fin 2 → IVec S16 32) a x).toNat < S8x8192.size a := fun v3537 v3586 k1_hw202 => k1_hw202

def k1_chk203 (v3537 : IVec S16 32) (v3593 : IVec S16 32) : Prop :=
  (∀ a x, ((![v3537, v3593] : Fin 2 → IVec S16 32) a x).toNat < S8x8192.size a)
theorem k1_idx203_inb : ∀ (v3537 : IVec S16 32) (v3593 : IVec S16 32) (k1_hw203 : k1_chk203 v3537 v3593), ∀ a x, ((![v3537, v3593] : Fin 2 → IVec S16 32) a x).toNat < S8x8192.size a := fun v3537 v3593 k1_hw203 => k1_hw203

def k1_chk204 (v3537 : IVec S16 32) (v3600 : IVec S16 32) : Prop :=
  (∀ a x, ((![v3537, v3600] : Fin 2 → IVec S16 32) a x).toNat < S8x8192.size a)
theorem k1_idx204_inb : ∀ (v3537 : IVec S16 32) (v3600 : IVec S16 32) (k1_hw204 : k1_chk204 v3537 v3600), ∀ a x, ((![v3537, v3600] : Fin 2 → IVec S16 32) a x).toNat < S8x8192.size a := fun v3537 v3600 k1_hw204 => k1_hw204

def k1_chk205 (v3537 : IVec S16 32) (v3607 : IVec S16 32) : Prop :=
  (∀ a x, ((![v3537, v3607] : Fin 2 → IVec S16 32) a x).toNat < S8x8192.size a)
theorem k1_idx205_inb : ∀ (v3537 : IVec S16 32) (v3607 : IVec S16 32) (k1_hw205 : k1_chk205 v3537 v3607), ∀ a x, ((![v3537, v3607] : Fin 2 → IVec S16 32) a x).toNat < S8x8192.size a := fun v3537 v3607 k1_hw205 => k1_hw205

def k1_chk206 (v3537 : IVec S16 32) (v3614 : IVec S16 32) : Prop :=
  (∀ a x, ((![v3537, v3614] : Fin 2 → IVec S16 32) a x).toNat < S8x8192.size a)
theorem k1_idx206_inb : ∀ (v3537 : IVec S16 32) (v3614 : IVec S16 32) (k1_hw206 : k1_chk206 v3537 v3614), ∀ a x, ((![v3537, v3614] : Fin 2 → IVec S16 32) a x).toNat < S8x8192.size a := fun v3537 v3614 k1_hw206 => k1_hw206

def k1_chk207 (v3537 : IVec S16 32) (v3621 : IVec S16 32) : Prop :=
  (∀ a x, ((![v3537, v3621] : Fin 2 → IVec S16 32) a x).toNat < S8x8192.size a)
theorem k1_idx207_inb : ∀ (v3537 : IVec S16 32) (v3621 : IVec S16 32) (k1_hw207 : k1_chk207 v3537 v3621), ∀ a x, ((![v3537, v3621] : Fin 2 → IVec S16 32) a x).toNat < S8x8192.size a := fun v3537 v3621 k1_hw207 => k1_hw207

def k1_chk208 (v3537 : IVec S16 32) (v3629 : IVec S16 32) : Prop :=
  (∀ a x, ((![v3537, v3629] : Fin 2 → IVec S16 32) a x).toNat < S8x8192.size a)
theorem k1_idx208_inb : ∀ (v3537 : IVec S16 32) (v3629 : IVec S16 32) (k1_hw208 : k1_chk208 v3537 v3629), ∀ a x, ((![v3537, v3629] : Fin 2 → IVec S16 32) a x).toNat < S8x8192.size a := fun v3537 v3629 k1_hw208 => k1_hw208

def k1_chk209 (v29 : IVec S16 32) (v38 : IVec S16 32) : Prop :=
  (∀ a x, ((![v29, v38] : Fin 2 → IVec S16 32) a x).toNat < S8x1696.size a)
theorem k1_idx209_inb : ∀ (v29 : IVec S16 32) (v38 : IVec S16 32) (k1_hw209 : k1_chk209 v29 v38), ∀ a x, ((![v29, v38] : Fin 2 → IVec S16 32) a x).toNat < S8x1696.size a := fun v29 v38 k1_hw209 => k1_hw209

def k1_chk210 (v29 : IVec S16 32) (v48 : IVec S16 32) : Prop :=
  (∀ a x, ((![v29, v48] : Fin 2 → IVec S16 32) a x).toNat < S8x1696.size a)
theorem k1_idx210_inb : ∀ (v29 : IVec S16 32) (v48 : IVec S16 32) (k1_hw210 : k1_chk210 v29 v48), ∀ a x, ((![v29, v48] : Fin 2 → IVec S16 32) a x).toNat < S8x1696.size a := fun v29 v48 k1_hw210 => k1_hw210

def k1_chk211 (v29 : IVec S16 32) (v58 : IVec S16 32) : Prop :=
  (∀ a x, ((![v29, v58] : Fin 2 → IVec S16 32) a x).toNat < S8x1696.size a)
theorem k1_idx211_inb : ∀ (v29 : IVec S16 32) (v58 : IVec S16 32) (k1_hw211 : k1_chk211 v29 v58), ∀ a x, ((![v29, v58] : Fin 2 → IVec S16 32) a x).toNat < S8x1696.size a := fun v29 v58 k1_hw211 => k1_hw211

def k1_chk212 (v29 : IVec S16 32) (v68 : IVec S16 32) : Prop :=
  (∀ a x, ((![v29, v68] : Fin 2 → IVec S16 32) a x).toNat < S8x1696.size a)
theorem k1_idx212_inb : ∀ (v29 : IVec S16 32) (v68 : IVec S16 32) (k1_hw212 : k1_chk212 v29 v68), ∀ a x, ((![v29, v68] : Fin 2 → IVec S16 32) a x).toNat < S8x1696.size a := fun v29 v68 k1_hw212 => k1_hw212

def k1_chk213 (v29 : IVec S16 32) (v78 : IVec S16 32) : Prop :=
  (∀ a x, ((![v29, v78] : Fin 2 → IVec S16 32) a x).toNat < S8x1696.size a)
theorem k1_idx213_inb : ∀ (v29 : IVec S16 32) (v78 : IVec S16 32) (k1_hw213 : k1_chk213 v29 v78), ∀ a x, ((![v29, v78] : Fin 2 → IVec S16 32) a x).toNat < S8x1696.size a := fun v29 v78 k1_hw213 => k1_hw213

def k1_chk214 (v29 : IVec S16 32) (v88 : IVec S16 32) : Prop :=
  (∀ a x, ((![v29, v88] : Fin 2 → IVec S16 32) a x).toNat < S8x1696.size a)
theorem k1_idx214_inb : ∀ (v29 : IVec S16 32) (v88 : IVec S16 32) (k1_hw214 : k1_chk214 v29 v88), ∀ a x, ((![v29, v88] : Fin 2 → IVec S16 32) a x).toNat < S8x1696.size a := fun v29 v88 k1_hw214 => k1_hw214

def k1_chk215 (v29 : IVec S16 32) (v98 : IVec S16 32) : Prop :=
  (∀ a x, ((![v29, v98] : Fin 2 → IVec S16 32) a x).toNat < S8x1696.size a)
theorem k1_idx215_inb : ∀ (v29 : IVec S16 32) (v98 : IVec S16 32) (k1_hw215 : k1_chk215 v29 v98), ∀ a x, ((![v29, v98] : Fin 2 → IVec S16 32) a x).toNat < S8x1696.size a := fun v29 v98 k1_hw215 => k1_hw215

def k1_chk216 (v29 : IVec S16 32) (v108 : IVec S16 32) : Prop :=
  (∀ a x, ((![v29, v108] : Fin 2 → IVec S16 32) a x).toNat < S8x1696.size a)
theorem k1_idx216_inb : ∀ (v29 : IVec S16 32) (v108 : IVec S16 32) (k1_hw216 : k1_chk216 v29 v108), ∀ a x, ((![v29, v108] : Fin 2 → IVec S16 32) a x).toNat < S8x1696.size a := fun v29 v108 k1_hw216 => k1_hw216

def k1_chk217 (v29 : IVec S16 32) (v118 : IVec S16 32) : Prop :=
  (∀ a x, ((![v29, v118] : Fin 2 → IVec S16 32) a x).toNat < S8x1696.size a)
theorem k1_idx217_inb : ∀ (v29 : IVec S16 32) (v118 : IVec S16 32) (k1_hw217 : k1_chk217 v29 v118), ∀ a x, ((![v29, v118] : Fin 2 → IVec S16 32) a x).toNat < S8x1696.size a := fun v29 v118 k1_hw217 => k1_hw217

def k1_chk218 (v29 : IVec S16 32) (v128 : IVec S16 32) : Prop :=
  (∀ a x, ((![v29, v128] : Fin 2 → IVec S16 32) a x).toNat < S8x1696.size a)
theorem k1_idx218_inb : ∀ (v29 : IVec S16 32) (v128 : IVec S16 32) (k1_hw218 : k1_chk218 v29 v128), ∀ a x, ((![v29, v128] : Fin 2 → IVec S16 32) a x).toNat < S8x1696.size a := fun v29 v128 k1_hw218 => k1_hw218

def k1_chk219 (v29 : IVec S16 32) (v138 : IVec S16 32) : Prop :=
  (∀ a x, ((![v29, v138] : Fin 2 → IVec S16 32) a x).toNat < S8x1696.size a)
theorem k1_idx219_inb : ∀ (v29 : IVec S16 32) (v138 : IVec S16 32) (k1_hw219 : k1_chk219 v29 v138), ∀ a x, ((![v29, v138] : Fin 2 → IVec S16 32) a x).toNat < S8x1696.size a := fun v29 v138 k1_hw219 => k1_hw219

def k1_chk220 (v29 : IVec S16 32) (v148 : IVec S16 32) : Prop :=
  (∀ a x, ((![v29, v148] : Fin 2 → IVec S16 32) a x).toNat < S8x1696.size a)
theorem k1_idx220_inb : ∀ (v29 : IVec S16 32) (v148 : IVec S16 32) (k1_hw220 : k1_chk220 v29 v148), ∀ a x, ((![v29, v148] : Fin 2 → IVec S16 32) a x).toNat < S8x1696.size a := fun v29 v148 k1_hw220 => k1_hw220

def k1_chk221 (v29 : IVec S16 32) (v159 : IVec S16 32) : Prop :=
  (∀ a x, ((![v29, v159] : Fin 2 → IVec S16 32) a x).toNat < S8x1696.size a)
theorem k1_idx221_inb : ∀ (v29 : IVec S16 32) (v159 : IVec S16 32) (k1_hw221 : k1_chk221 v29 v159), ∀ a x, ((![v29, v159] : Fin 2 → IVec S16 32) a x).toNat < S8x1696.size a := fun v29 v159 k1_hw221 => k1_hw221

def k1_chk222 (v161 : IVec S16 32) (v170 : IVec S16 32) : Prop :=
  (∀ a x, ((![v161, v170] : Fin 2 → IVec S16 32) a x).toNat < S8x1696.size a)
theorem k1_idx222_inb : ∀ (v161 : IVec S16 32) (v170 : IVec S16 32) (k1_hw222 : k1_chk222 v161 v170), ∀ a x, ((![v161, v170] : Fin 2 → IVec S16 32) a x).toNat < S8x1696.size a := fun v161 v170 k1_hw222 => k1_hw222

def k1_chk223 (v161 : IVec S16 32) (v180 : IVec S16 32) : Prop :=
  (∀ a x, ((![v161, v180] : Fin 2 → IVec S16 32) a x).toNat < S8x1696.size a)
theorem k1_idx223_inb : ∀ (v161 : IVec S16 32) (v180 : IVec S16 32) (k1_hw223 : k1_chk223 v161 v180), ∀ a x, ((![v161, v180] : Fin 2 → IVec S16 32) a x).toNat < S8x1696.size a := fun v161 v180 k1_hw223 => k1_hw223

def k1_chk224 (v161 : IVec S16 32) (v190 : IVec S16 32) : Prop :=
  (∀ a x, ((![v161, v190] : Fin 2 → IVec S16 32) a x).toNat < S8x1696.size a)
theorem k1_idx224_inb : ∀ (v161 : IVec S16 32) (v190 : IVec S16 32) (k1_hw224 : k1_chk224 v161 v190), ∀ a x, ((![v161, v190] : Fin 2 → IVec S16 32) a x).toNat < S8x1696.size a := fun v161 v190 k1_hw224 => k1_hw224

def k1_chk225 (v161 : IVec S16 32) (v200 : IVec S16 32) : Prop :=
  (∀ a x, ((![v161, v200] : Fin 2 → IVec S16 32) a x).toNat < S8x1696.size a)
theorem k1_idx225_inb : ∀ (v161 : IVec S16 32) (v200 : IVec S16 32) (k1_hw225 : k1_chk225 v161 v200), ∀ a x, ((![v161, v200] : Fin 2 → IVec S16 32) a x).toNat < S8x1696.size a := fun v161 v200 k1_hw225 => k1_hw225

def k1_chk226 (v161 : IVec S16 32) (v210 : IVec S16 32) : Prop :=
  (∀ a x, ((![v161, v210] : Fin 2 → IVec S16 32) a x).toNat < S8x1696.size a)
theorem k1_idx226_inb : ∀ (v161 : IVec S16 32) (v210 : IVec S16 32) (k1_hw226 : k1_chk226 v161 v210), ∀ a x, ((![v161, v210] : Fin 2 → IVec S16 32) a x).toNat < S8x1696.size a := fun v161 v210 k1_hw226 => k1_hw226

def k1_chk227 (v161 : IVec S16 32) (v220 : IVec S16 32) : Prop :=
  (∀ a x, ((![v161, v220] : Fin 2 → IVec S16 32) a x).toNat < S8x1696.size a)
theorem k1_idx227_inb : ∀ (v161 : IVec S16 32) (v220 : IVec S16 32) (k1_hw227 : k1_chk227 v161 v220), ∀ a x, ((![v161, v220] : Fin 2 → IVec S16 32) a x).toNat < S8x1696.size a := fun v161 v220 k1_hw227 => k1_hw227

def k1_chk228 (v161 : IVec S16 32) (v230 : IVec S16 32) : Prop :=
  (∀ a x, ((![v161, v230] : Fin 2 → IVec S16 32) a x).toNat < S8x1696.size a)
theorem k1_idx228_inb : ∀ (v161 : IVec S16 32) (v230 : IVec S16 32) (k1_hw228 : k1_chk228 v161 v230), ∀ a x, ((![v161, v230] : Fin 2 → IVec S16 32) a x).toNat < S8x1696.size a := fun v161 v230 k1_hw228 => k1_hw228

def k1_chk229 (v161 : IVec S16 32) (v240 : IVec S16 32) : Prop :=
  (∀ a x, ((![v161, v240] : Fin 2 → IVec S16 32) a x).toNat < S8x1696.size a)
theorem k1_idx229_inb : ∀ (v161 : IVec S16 32) (v240 : IVec S16 32) (k1_hw229 : k1_chk229 v161 v240), ∀ a x, ((![v161, v240] : Fin 2 → IVec S16 32) a x).toNat < S8x1696.size a := fun v161 v240 k1_hw229 => k1_hw229

def k1_chk230 (v161 : IVec S16 32) (v250 : IVec S16 32) : Prop :=
  (∀ a x, ((![v161, v250] : Fin 2 → IVec S16 32) a x).toNat < S8x1696.size a)
theorem k1_idx230_inb : ∀ (v161 : IVec S16 32) (v250 : IVec S16 32) (k1_hw230 : k1_chk230 v161 v250), ∀ a x, ((![v161, v250] : Fin 2 → IVec S16 32) a x).toNat < S8x1696.size a := fun v161 v250 k1_hw230 => k1_hw230

def k1_chk231 (v161 : IVec S16 32) (v260 : IVec S16 32) : Prop :=
  (∀ a x, ((![v161, v260] : Fin 2 → IVec S16 32) a x).toNat < S8x1696.size a)
theorem k1_idx231_inb : ∀ (v161 : IVec S16 32) (v260 : IVec S16 32) (k1_hw231 : k1_chk231 v161 v260), ∀ a x, ((![v161, v260] : Fin 2 → IVec S16 32) a x).toNat < S8x1696.size a := fun v161 v260 k1_hw231 => k1_hw231

def k1_chk232 (v161 : IVec S16 32) (v270 : IVec S16 32) : Prop :=
  (∀ a x, ((![v161, v270] : Fin 2 → IVec S16 32) a x).toNat < S8x1696.size a)
theorem k1_idx232_inb : ∀ (v161 : IVec S16 32) (v270 : IVec S16 32) (k1_hw232 : k1_chk232 v161 v270), ∀ a x, ((![v161, v270] : Fin 2 → IVec S16 32) a x).toNat < S8x1696.size a := fun v161 v270 k1_hw232 => k1_hw232

def k1_chk233 (v161 : IVec S16 32) (v280 : IVec S16 32) : Prop :=
  (∀ a x, ((![v161, v280] : Fin 2 → IVec S16 32) a x).toNat < S8x1696.size a)
theorem k1_idx233_inb : ∀ (v161 : IVec S16 32) (v280 : IVec S16 32) (k1_hw233 : k1_chk233 v161 v280), ∀ a x, ((![v161, v280] : Fin 2 → IVec S16 32) a x).toNat < S8x1696.size a := fun v161 v280 k1_hw233 => k1_hw233

def k1_chk234 (v161 : IVec S16 32) (v291 : IVec S16 32) : Prop :=
  (∀ a x, ((![v161, v291] : Fin 2 → IVec S16 32) a x).toNat < S8x1696.size a)
theorem k1_idx234_inb : ∀ (v161 : IVec S16 32) (v291 : IVec S16 32) (k1_hw234 : k1_chk234 v161 v291), ∀ a x, ((![v161, v291] : Fin 2 → IVec S16 32) a x).toNat < S8x1696.size a := fun v161 v291 k1_hw234 => k1_hw234

def k1_chk235 (v293 : IVec S16 32) (v302 : IVec S16 32) : Prop :=
  (∀ a x, ((![v293, v302] : Fin 2 → IVec S16 32) a x).toNat < S8x1696.size a)
theorem k1_idx235_inb : ∀ (v293 : IVec S16 32) (v302 : IVec S16 32) (k1_hw235 : k1_chk235 v293 v302), ∀ a x, ((![v293, v302] : Fin 2 → IVec S16 32) a x).toNat < S8x1696.size a := fun v293 v302 k1_hw235 => k1_hw235

def k1_chk236 (v293 : IVec S16 32) (v312 : IVec S16 32) : Prop :=
  (∀ a x, ((![v293, v312] : Fin 2 → IVec S16 32) a x).toNat < S8x1696.size a)
theorem k1_idx236_inb : ∀ (v293 : IVec S16 32) (v312 : IVec S16 32) (k1_hw236 : k1_chk236 v293 v312), ∀ a x, ((![v293, v312] : Fin 2 → IVec S16 32) a x).toNat < S8x1696.size a := fun v293 v312 k1_hw236 => k1_hw236

def k1_chk237 (v293 : IVec S16 32) (v322 : IVec S16 32) : Prop :=
  (∀ a x, ((![v293, v322] : Fin 2 → IVec S16 32) a x).toNat < S8x1696.size a)
theorem k1_idx237_inb : ∀ (v293 : IVec S16 32) (v322 : IVec S16 32) (k1_hw237 : k1_chk237 v293 v322), ∀ a x, ((![v293, v322] : Fin 2 → IVec S16 32) a x).toNat < S8x1696.size a := fun v293 v322 k1_hw237 => k1_hw237

def k1_chk238 (v293 : IVec S16 32) (v332 : IVec S16 32) : Prop :=
  (∀ a x, ((![v293, v332] : Fin 2 → IVec S16 32) a x).toNat < S8x1696.size a)
theorem k1_idx238_inb : ∀ (v293 : IVec S16 32) (v332 : IVec S16 32) (k1_hw238 : k1_chk238 v293 v332), ∀ a x, ((![v293, v332] : Fin 2 → IVec S16 32) a x).toNat < S8x1696.size a := fun v293 v332 k1_hw238 => k1_hw238

def k1_chk239 (v293 : IVec S16 32) (v342 : IVec S16 32) : Prop :=
  (∀ a x, ((![v293, v342] : Fin 2 → IVec S16 32) a x).toNat < S8x1696.size a)
theorem k1_idx239_inb : ∀ (v293 : IVec S16 32) (v342 : IVec S16 32) (k1_hw239 : k1_chk239 v293 v342), ∀ a x, ((![v293, v342] : Fin 2 → IVec S16 32) a x).toNat < S8x1696.size a := fun v293 v342 k1_hw239 => k1_hw239

def k1_chk240 (v293 : IVec S16 32) (v352 : IVec S16 32) : Prop :=
  (∀ a x, ((![v293, v352] : Fin 2 → IVec S16 32) a x).toNat < S8x1696.size a)
theorem k1_idx240_inb : ∀ (v293 : IVec S16 32) (v352 : IVec S16 32) (k1_hw240 : k1_chk240 v293 v352), ∀ a x, ((![v293, v352] : Fin 2 → IVec S16 32) a x).toNat < S8x1696.size a := fun v293 v352 k1_hw240 => k1_hw240

def k1_chk241 (v293 : IVec S16 32) (v362 : IVec S16 32) : Prop :=
  (∀ a x, ((![v293, v362] : Fin 2 → IVec S16 32) a x).toNat < S8x1696.size a)
theorem k1_idx241_inb : ∀ (v293 : IVec S16 32) (v362 : IVec S16 32) (k1_hw241 : k1_chk241 v293 v362), ∀ a x, ((![v293, v362] : Fin 2 → IVec S16 32) a x).toNat < S8x1696.size a := fun v293 v362 k1_hw241 => k1_hw241

def k1_chk242 (v293 : IVec S16 32) (v372 : IVec S16 32) : Prop :=
  (∀ a x, ((![v293, v372] : Fin 2 → IVec S16 32) a x).toNat < S8x1696.size a)
theorem k1_idx242_inb : ∀ (v293 : IVec S16 32) (v372 : IVec S16 32) (k1_hw242 : k1_chk242 v293 v372), ∀ a x, ((![v293, v372] : Fin 2 → IVec S16 32) a x).toNat < S8x1696.size a := fun v293 v372 k1_hw242 => k1_hw242

def k1_chk243 (v293 : IVec S16 32) (v382 : IVec S16 32) : Prop :=
  (∀ a x, ((![v293, v382] : Fin 2 → IVec S16 32) a x).toNat < S8x1696.size a)
theorem k1_idx243_inb : ∀ (v293 : IVec S16 32) (v382 : IVec S16 32) (k1_hw243 : k1_chk243 v293 v382), ∀ a x, ((![v293, v382] : Fin 2 → IVec S16 32) a x).toNat < S8x1696.size a := fun v293 v382 k1_hw243 => k1_hw243

def k1_chk244 (v293 : IVec S16 32) (v392 : IVec S16 32) : Prop :=
  (∀ a x, ((![v293, v392] : Fin 2 → IVec S16 32) a x).toNat < S8x1696.size a)
theorem k1_idx244_inb : ∀ (v293 : IVec S16 32) (v392 : IVec S16 32) (k1_hw244 : k1_chk244 v293 v392), ∀ a x, ((![v293, v392] : Fin 2 → IVec S16 32) a x).toNat < S8x1696.size a := fun v293 v392 k1_hw244 => k1_hw244

def k1_chk245 (v293 : IVec S16 32) (v402 : IVec S16 32) : Prop :=
  (∀ a x, ((![v293, v402] : Fin 2 → IVec S16 32) a x).toNat < S8x1696.size a)
theorem k1_idx245_inb : ∀ (v293 : IVec S16 32) (v402 : IVec S16 32) (k1_hw245 : k1_chk245 v293 v402), ∀ a x, ((![v293, v402] : Fin 2 → IVec S16 32) a x).toNat < S8x1696.size a := fun v293 v402 k1_hw245 => k1_hw245

def k1_chk246 (v293 : IVec S16 32) (v412 : IVec S16 32) : Prop :=
  (∀ a x, ((![v293, v412] : Fin 2 → IVec S16 32) a x).toNat < S8x1696.size a)
theorem k1_idx246_inb : ∀ (v293 : IVec S16 32) (v412 : IVec S16 32) (k1_hw246 : k1_chk246 v293 v412), ∀ a x, ((![v293, v412] : Fin 2 → IVec S16 32) a x).toNat < S8x1696.size a := fun v293 v412 k1_hw246 => k1_hw246

def k1_chk247 (v293 : IVec S16 32) (v423 : IVec S16 32) : Prop :=
  (∀ a x, ((![v293, v423] : Fin 2 → IVec S16 32) a x).toNat < S8x1696.size a)
theorem k1_idx247_inb : ∀ (v293 : IVec S16 32) (v423 : IVec S16 32) (k1_hw247 : k1_chk247 v293 v423), ∀ a x, ((![v293, v423] : Fin 2 → IVec S16 32) a x).toNat < S8x1696.size a := fun v293 v423 k1_hw247 => k1_hw247

def k1_chk248 (v425 : IVec S16 32) (v434 : IVec S16 32) : Prop :=
  (∀ a x, ((![v425, v434] : Fin 2 → IVec S16 32) a x).toNat < S8x1696.size a)
theorem k1_idx248_inb : ∀ (v425 : IVec S16 32) (v434 : IVec S16 32) (k1_hw248 : k1_chk248 v425 v434), ∀ a x, ((![v425, v434] : Fin 2 → IVec S16 32) a x).toNat < S8x1696.size a := fun v425 v434 k1_hw248 => k1_hw248

def k1_chk249 (v425 : IVec S16 32) (v444 : IVec S16 32) : Prop :=
  (∀ a x, ((![v425, v444] : Fin 2 → IVec S16 32) a x).toNat < S8x1696.size a)
theorem k1_idx249_inb : ∀ (v425 : IVec S16 32) (v444 : IVec S16 32) (k1_hw249 : k1_chk249 v425 v444), ∀ a x, ((![v425, v444] : Fin 2 → IVec S16 32) a x).toNat < S8x1696.size a := fun v425 v444 k1_hw249 => k1_hw249

def k1_chk250 (v425 : IVec S16 32) (v454 : IVec S16 32) : Prop :=
  (∀ a x, ((![v425, v454] : Fin 2 → IVec S16 32) a x).toNat < S8x1696.size a)
theorem k1_idx250_inb : ∀ (v425 : IVec S16 32) (v454 : IVec S16 32) (k1_hw250 : k1_chk250 v425 v454), ∀ a x, ((![v425, v454] : Fin 2 → IVec S16 32) a x).toNat < S8x1696.size a := fun v425 v454 k1_hw250 => k1_hw250

def k1_chk251 (v425 : IVec S16 32) (v464 : IVec S16 32) : Prop :=
  (∀ a x, ((![v425, v464] : Fin 2 → IVec S16 32) a x).toNat < S8x1696.size a)
theorem k1_idx251_inb : ∀ (v425 : IVec S16 32) (v464 : IVec S16 32) (k1_hw251 : k1_chk251 v425 v464), ∀ a x, ((![v425, v464] : Fin 2 → IVec S16 32) a x).toNat < S8x1696.size a := fun v425 v464 k1_hw251 => k1_hw251

def k1_chk252 (v425 : IVec S16 32) (v474 : IVec S16 32) : Prop :=
  (∀ a x, ((![v425, v474] : Fin 2 → IVec S16 32) a x).toNat < S8x1696.size a)
theorem k1_idx252_inb : ∀ (v425 : IVec S16 32) (v474 : IVec S16 32) (k1_hw252 : k1_chk252 v425 v474), ∀ a x, ((![v425, v474] : Fin 2 → IVec S16 32) a x).toNat < S8x1696.size a := fun v425 v474 k1_hw252 => k1_hw252

def k1_chk253 (v425 : IVec S16 32) (v484 : IVec S16 32) : Prop :=
  (∀ a x, ((![v425, v484] : Fin 2 → IVec S16 32) a x).toNat < S8x1696.size a)
theorem k1_idx253_inb : ∀ (v425 : IVec S16 32) (v484 : IVec S16 32) (k1_hw253 : k1_chk253 v425 v484), ∀ a x, ((![v425, v484] : Fin 2 → IVec S16 32) a x).toNat < S8x1696.size a := fun v425 v484 k1_hw253 => k1_hw253

def k1_chk254 (v425 : IVec S16 32) (v494 : IVec S16 32) : Prop :=
  (∀ a x, ((![v425, v494] : Fin 2 → IVec S16 32) a x).toNat < S8x1696.size a)
theorem k1_idx254_inb : ∀ (v425 : IVec S16 32) (v494 : IVec S16 32) (k1_hw254 : k1_chk254 v425 v494), ∀ a x, ((![v425, v494] : Fin 2 → IVec S16 32) a x).toNat < S8x1696.size a := fun v425 v494 k1_hw254 => k1_hw254

def k1_chk255 (v425 : IVec S16 32) (v504 : IVec S16 32) : Prop :=
  (∀ a x, ((![v425, v504] : Fin 2 → IVec S16 32) a x).toNat < S8x1696.size a)
theorem k1_idx255_inb : ∀ (v425 : IVec S16 32) (v504 : IVec S16 32) (k1_hw255 : k1_chk255 v425 v504), ∀ a x, ((![v425, v504] : Fin 2 → IVec S16 32) a x).toNat < S8x1696.size a := fun v425 v504 k1_hw255 => k1_hw255

def k1_chk256 (v425 : IVec S16 32) (v514 : IVec S16 32) : Prop :=
  (∀ a x, ((![v425, v514] : Fin 2 → IVec S16 32) a x).toNat < S8x1696.size a)
theorem k1_idx256_inb : ∀ (v425 : IVec S16 32) (v514 : IVec S16 32) (k1_hw256 : k1_chk256 v425 v514), ∀ a x, ((![v425, v514] : Fin 2 → IVec S16 32) a x).toNat < S8x1696.size a := fun v425 v514 k1_hw256 => k1_hw256

def k1_chk257 (v425 : IVec S16 32) (v524 : IVec S16 32) : Prop :=
  (∀ a x, ((![v425, v524] : Fin 2 → IVec S16 32) a x).toNat < S8x1696.size a)
theorem k1_idx257_inb : ∀ (v425 : IVec S16 32) (v524 : IVec S16 32) (k1_hw257 : k1_chk257 v425 v524), ∀ a x, ((![v425, v524] : Fin 2 → IVec S16 32) a x).toNat < S8x1696.size a := fun v425 v524 k1_hw257 => k1_hw257

def k1_chk258 (v425 : IVec S16 32) (v534 : IVec S16 32) : Prop :=
  (∀ a x, ((![v425, v534] : Fin 2 → IVec S16 32) a x).toNat < S8x1696.size a)
theorem k1_idx258_inb : ∀ (v425 : IVec S16 32) (v534 : IVec S16 32) (k1_hw258 : k1_chk258 v425 v534), ∀ a x, ((![v425, v534] : Fin 2 → IVec S16 32) a x).toNat < S8x1696.size a := fun v425 v534 k1_hw258 => k1_hw258

def k1_chk259 (v425 : IVec S16 32) (v544 : IVec S16 32) : Prop :=
  (∀ a x, ((![v425, v544] : Fin 2 → IVec S16 32) a x).toNat < S8x1696.size a)
theorem k1_idx259_inb : ∀ (v425 : IVec S16 32) (v544 : IVec S16 32) (k1_hw259 : k1_chk259 v425 v544), ∀ a x, ((![v425, v544] : Fin 2 → IVec S16 32) a x).toNat < S8x1696.size a := fun v425 v544 k1_hw259 => k1_hw259

def k1_chk260 (v425 : IVec S16 32) (v555 : IVec S16 32) : Prop :=
  (∀ a x, ((![v425, v555] : Fin 2 → IVec S16 32) a x).toNat < S8x1696.size a)
theorem k1_idx260_inb : ∀ (v425 : IVec S16 32) (v555 : IVec S16 32) (k1_hw260 : k1_chk260 v425 v555), ∀ a x, ((![v425, v555] : Fin 2 → IVec S16 32) a x).toNat < S8x1696.size a := fun v425 v555 k1_hw260 => k1_hw260

def k1_chk261 (v557 : IVec S16 32) (v566 : IVec S16 32) : Prop :=
  (∀ a x, ((![v557, v566] : Fin 2 → IVec S16 32) a x).toNat < S8x1696.size a)
theorem k1_idx261_inb : ∀ (v557 : IVec S16 32) (v566 : IVec S16 32) (k1_hw261 : k1_chk261 v557 v566), ∀ a x, ((![v557, v566] : Fin 2 → IVec S16 32) a x).toNat < S8x1696.size a := fun v557 v566 k1_hw261 => k1_hw261

def k1_chk262 (v557 : IVec S16 32) (v576 : IVec S16 32) : Prop :=
  (∀ a x, ((![v557, v576] : Fin 2 → IVec S16 32) a x).toNat < S8x1696.size a)
theorem k1_idx262_inb : ∀ (v557 : IVec S16 32) (v576 : IVec S16 32) (k1_hw262 : k1_chk262 v557 v576), ∀ a x, ((![v557, v576] : Fin 2 → IVec S16 32) a x).toNat < S8x1696.size a := fun v557 v576 k1_hw262 => k1_hw262

def k1_chk263 (v557 : IVec S16 32) (v586 : IVec S16 32) : Prop :=
  (∀ a x, ((![v557, v586] : Fin 2 → IVec S16 32) a x).toNat < S8x1696.size a)
theorem k1_idx263_inb : ∀ (v557 : IVec S16 32) (v586 : IVec S16 32) (k1_hw263 : k1_chk263 v557 v586), ∀ a x, ((![v557, v586] : Fin 2 → IVec S16 32) a x).toNat < S8x1696.size a := fun v557 v586 k1_hw263 => k1_hw263

def k1_chk264 (v557 : IVec S16 32) (v596 : IVec S16 32) : Prop :=
  (∀ a x, ((![v557, v596] : Fin 2 → IVec S16 32) a x).toNat < S8x1696.size a)
theorem k1_idx264_inb : ∀ (v557 : IVec S16 32) (v596 : IVec S16 32) (k1_hw264 : k1_chk264 v557 v596), ∀ a x, ((![v557, v596] : Fin 2 → IVec S16 32) a x).toNat < S8x1696.size a := fun v557 v596 k1_hw264 => k1_hw264

def k1_chk265 (v557 : IVec S16 32) (v606 : IVec S16 32) : Prop :=
  (∀ a x, ((![v557, v606] : Fin 2 → IVec S16 32) a x).toNat < S8x1696.size a)
theorem k1_idx265_inb : ∀ (v557 : IVec S16 32) (v606 : IVec S16 32) (k1_hw265 : k1_chk265 v557 v606), ∀ a x, ((![v557, v606] : Fin 2 → IVec S16 32) a x).toNat < S8x1696.size a := fun v557 v606 k1_hw265 => k1_hw265

def k1_chk266 (v557 : IVec S16 32) (v616 : IVec S16 32) : Prop :=
  (∀ a x, ((![v557, v616] : Fin 2 → IVec S16 32) a x).toNat < S8x1696.size a)
theorem k1_idx266_inb : ∀ (v557 : IVec S16 32) (v616 : IVec S16 32) (k1_hw266 : k1_chk266 v557 v616), ∀ a x, ((![v557, v616] : Fin 2 → IVec S16 32) a x).toNat < S8x1696.size a := fun v557 v616 k1_hw266 => k1_hw266

def k1_chk267 (v557 : IVec S16 32) (v626 : IVec S16 32) : Prop :=
  (∀ a x, ((![v557, v626] : Fin 2 → IVec S16 32) a x).toNat < S8x1696.size a)
theorem k1_idx267_inb : ∀ (v557 : IVec S16 32) (v626 : IVec S16 32) (k1_hw267 : k1_chk267 v557 v626), ∀ a x, ((![v557, v626] : Fin 2 → IVec S16 32) a x).toNat < S8x1696.size a := fun v557 v626 k1_hw267 => k1_hw267

def k1_chk268 (v557 : IVec S16 32) (v636 : IVec S16 32) : Prop :=
  (∀ a x, ((![v557, v636] : Fin 2 → IVec S16 32) a x).toNat < S8x1696.size a)
theorem k1_idx268_inb : ∀ (v557 : IVec S16 32) (v636 : IVec S16 32) (k1_hw268 : k1_chk268 v557 v636), ∀ a x, ((![v557, v636] : Fin 2 → IVec S16 32) a x).toNat < S8x1696.size a := fun v557 v636 k1_hw268 => k1_hw268

def k1_chk269 (v557 : IVec S16 32) (v646 : IVec S16 32) : Prop :=
  (∀ a x, ((![v557, v646] : Fin 2 → IVec S16 32) a x).toNat < S8x1696.size a)
theorem k1_idx269_inb : ∀ (v557 : IVec S16 32) (v646 : IVec S16 32) (k1_hw269 : k1_chk269 v557 v646), ∀ a x, ((![v557, v646] : Fin 2 → IVec S16 32) a x).toNat < S8x1696.size a := fun v557 v646 k1_hw269 => k1_hw269

def k1_chk270 (v557 : IVec S16 32) (v656 : IVec S16 32) : Prop :=
  (∀ a x, ((![v557, v656] : Fin 2 → IVec S16 32) a x).toNat < S8x1696.size a)
theorem k1_idx270_inb : ∀ (v557 : IVec S16 32) (v656 : IVec S16 32) (k1_hw270 : k1_chk270 v557 v656), ∀ a x, ((![v557, v656] : Fin 2 → IVec S16 32) a x).toNat < S8x1696.size a := fun v557 v656 k1_hw270 => k1_hw270

def k1_chk271 (v557 : IVec S16 32) (v666 : IVec S16 32) : Prop :=
  (∀ a x, ((![v557, v666] : Fin 2 → IVec S16 32) a x).toNat < S8x1696.size a)
theorem k1_idx271_inb : ∀ (v557 : IVec S16 32) (v666 : IVec S16 32) (k1_hw271 : k1_chk271 v557 v666), ∀ a x, ((![v557, v666] : Fin 2 → IVec S16 32) a x).toNat < S8x1696.size a := fun v557 v666 k1_hw271 => k1_hw271

def k1_chk272 (v557 : IVec S16 32) (v676 : IVec S16 32) : Prop :=
  (∀ a x, ((![v557, v676] : Fin 2 → IVec S16 32) a x).toNat < S8x1696.size a)
theorem k1_idx272_inb : ∀ (v557 : IVec S16 32) (v676 : IVec S16 32) (k1_hw272 : k1_chk272 v557 v676), ∀ a x, ((![v557, v676] : Fin 2 → IVec S16 32) a x).toNat < S8x1696.size a := fun v557 v676 k1_hw272 => k1_hw272

def k1_chk273 (v557 : IVec S16 32) (v687 : IVec S16 32) : Prop :=
  (∀ a x, ((![v557, v687] : Fin 2 → IVec S16 32) a x).toNat < S8x1696.size a)
theorem k1_idx273_inb : ∀ (v557 : IVec S16 32) (v687 : IVec S16 32) (k1_hw273 : k1_chk273 v557 v687), ∀ a x, ((![v557, v687] : Fin 2 → IVec S16 32) a x).toNat < S8x1696.size a := fun v557 v687 k1_hw273 => k1_hw273

def k1_chk274 (v689 : IVec S16 32) (v698 : IVec S16 32) : Prop :=
  (∀ a x, ((![v689, v698] : Fin 2 → IVec S16 32) a x).toNat < S8x1696.size a)
theorem k1_idx274_inb : ∀ (v689 : IVec S16 32) (v698 : IVec S16 32) (k1_hw274 : k1_chk274 v689 v698), ∀ a x, ((![v689, v698] : Fin 2 → IVec S16 32) a x).toNat < S8x1696.size a := fun v689 v698 k1_hw274 => k1_hw274

def k1_chk275 (v689 : IVec S16 32) (v708 : IVec S16 32) : Prop :=
  (∀ a x, ((![v689, v708] : Fin 2 → IVec S16 32) a x).toNat < S8x1696.size a)
theorem k1_idx275_inb : ∀ (v689 : IVec S16 32) (v708 : IVec S16 32) (k1_hw275 : k1_chk275 v689 v708), ∀ a x, ((![v689, v708] : Fin 2 → IVec S16 32) a x).toNat < S8x1696.size a := fun v689 v708 k1_hw275 => k1_hw275

def k1_chk276 (v689 : IVec S16 32) (v718 : IVec S16 32) : Prop :=
  (∀ a x, ((![v689, v718] : Fin 2 → IVec S16 32) a x).toNat < S8x1696.size a)
theorem k1_idx276_inb : ∀ (v689 : IVec S16 32) (v718 : IVec S16 32) (k1_hw276 : k1_chk276 v689 v718), ∀ a x, ((![v689, v718] : Fin 2 → IVec S16 32) a x).toNat < S8x1696.size a := fun v689 v718 k1_hw276 => k1_hw276

def k1_chk277 (v689 : IVec S16 32) (v728 : IVec S16 32) : Prop :=
  (∀ a x, ((![v689, v728] : Fin 2 → IVec S16 32) a x).toNat < S8x1696.size a)
theorem k1_idx277_inb : ∀ (v689 : IVec S16 32) (v728 : IVec S16 32) (k1_hw277 : k1_chk277 v689 v728), ∀ a x, ((![v689, v728] : Fin 2 → IVec S16 32) a x).toNat < S8x1696.size a := fun v689 v728 k1_hw277 => k1_hw277

def k1_chk278 (v689 : IVec S16 32) (v738 : IVec S16 32) : Prop :=
  (∀ a x, ((![v689, v738] : Fin 2 → IVec S16 32) a x).toNat < S8x1696.size a)
theorem k1_idx278_inb : ∀ (v689 : IVec S16 32) (v738 : IVec S16 32) (k1_hw278 : k1_chk278 v689 v738), ∀ a x, ((![v689, v738] : Fin 2 → IVec S16 32) a x).toNat < S8x1696.size a := fun v689 v738 k1_hw278 => k1_hw278

def k1_chk279 (v689 : IVec S16 32) (v748 : IVec S16 32) : Prop :=
  (∀ a x, ((![v689, v748] : Fin 2 → IVec S16 32) a x).toNat < S8x1696.size a)
theorem k1_idx279_inb : ∀ (v689 : IVec S16 32) (v748 : IVec S16 32) (k1_hw279 : k1_chk279 v689 v748), ∀ a x, ((![v689, v748] : Fin 2 → IVec S16 32) a x).toNat < S8x1696.size a := fun v689 v748 k1_hw279 => k1_hw279

def k1_chk280 (v689 : IVec S16 32) (v758 : IVec S16 32) : Prop :=
  (∀ a x, ((![v689, v758] : Fin 2 → IVec S16 32) a x).toNat < S8x1696.size a)
theorem k1_idx280_inb : ∀ (v689 : IVec S16 32) (v758 : IVec S16 32) (k1_hw280 : k1_chk280 v689 v758), ∀ a x, ((![v689, v758] : Fin 2 → IVec S16 32) a x).toNat < S8x1696.size a := fun v689 v758 k1_hw280 => k1_hw280

def k1_chk281 (v689 : IVec S16 32) (v768 : IVec S16 32) : Prop :=
  (∀ a x, ((![v689, v768] : Fin 2 → IVec S16 32) a x).toNat < S8x1696.size a)
theorem k1_idx281_inb : ∀ (v689 : IVec S16 32) (v768 : IVec S16 32) (k1_hw281 : k1_chk281 v689 v768), ∀ a x, ((![v689, v768] : Fin 2 → IVec S16 32) a x).toNat < S8x1696.size a := fun v689 v768 k1_hw281 => k1_hw281

def k1_chk282 (v689 : IVec S16 32) (v778 : IVec S16 32) : Prop :=
  (∀ a x, ((![v689, v778] : Fin 2 → IVec S16 32) a x).toNat < S8x1696.size a)
theorem k1_idx282_inb : ∀ (v689 : IVec S16 32) (v778 : IVec S16 32) (k1_hw282 : k1_chk282 v689 v778), ∀ a x, ((![v689, v778] : Fin 2 → IVec S16 32) a x).toNat < S8x1696.size a := fun v689 v778 k1_hw282 => k1_hw282

def k1_chk283 (v689 : IVec S16 32) (v788 : IVec S16 32) : Prop :=
  (∀ a x, ((![v689, v788] : Fin 2 → IVec S16 32) a x).toNat < S8x1696.size a)
theorem k1_idx283_inb : ∀ (v689 : IVec S16 32) (v788 : IVec S16 32) (k1_hw283 : k1_chk283 v689 v788), ∀ a x, ((![v689, v788] : Fin 2 → IVec S16 32) a x).toNat < S8x1696.size a := fun v689 v788 k1_hw283 => k1_hw283

def k1_chk284 (v689 : IVec S16 32) (v798 : IVec S16 32) : Prop :=
  (∀ a x, ((![v689, v798] : Fin 2 → IVec S16 32) a x).toNat < S8x1696.size a)
theorem k1_idx284_inb : ∀ (v689 : IVec S16 32) (v798 : IVec S16 32) (k1_hw284 : k1_chk284 v689 v798), ∀ a x, ((![v689, v798] : Fin 2 → IVec S16 32) a x).toNat < S8x1696.size a := fun v689 v798 k1_hw284 => k1_hw284

def k1_chk285 (v689 : IVec S16 32) (v808 : IVec S16 32) : Prop :=
  (∀ a x, ((![v689, v808] : Fin 2 → IVec S16 32) a x).toNat < S8x1696.size a)
theorem k1_idx285_inb : ∀ (v689 : IVec S16 32) (v808 : IVec S16 32) (k1_hw285 : k1_chk285 v689 v808), ∀ a x, ((![v689, v808] : Fin 2 → IVec S16 32) a x).toNat < S8x1696.size a := fun v689 v808 k1_hw285 => k1_hw285

def k1_chk286 (v689 : IVec S16 32) (v819 : IVec S16 32) : Prop :=
  (∀ a x, ((![v689, v819] : Fin 2 → IVec S16 32) a x).toNat < S8x1696.size a)
theorem k1_idx286_inb : ∀ (v689 : IVec S16 32) (v819 : IVec S16 32) (k1_hw286 : k1_chk286 v689 v819), ∀ a x, ((![v689, v819] : Fin 2 → IVec S16 32) a x).toNat < S8x1696.size a := fun v689 v819 k1_hw286 => k1_hw286

def k1_chk287 (v821 : IVec S16 32) (v830 : IVec S16 32) : Prop :=
  (∀ a x, ((![v821, v830] : Fin 2 → IVec S16 32) a x).toNat < S8x1696.size a)
theorem k1_idx287_inb : ∀ (v821 : IVec S16 32) (v830 : IVec S16 32) (k1_hw287 : k1_chk287 v821 v830), ∀ a x, ((![v821, v830] : Fin 2 → IVec S16 32) a x).toNat < S8x1696.size a := fun v821 v830 k1_hw287 => k1_hw287

def k1_chk288 (v821 : IVec S16 32) (v840 : IVec S16 32) : Prop :=
  (∀ a x, ((![v821, v840] : Fin 2 → IVec S16 32) a x).toNat < S8x1696.size a)
theorem k1_idx288_inb : ∀ (v821 : IVec S16 32) (v840 : IVec S16 32) (k1_hw288 : k1_chk288 v821 v840), ∀ a x, ((![v821, v840] : Fin 2 → IVec S16 32) a x).toNat < S8x1696.size a := fun v821 v840 k1_hw288 => k1_hw288

def k1_chk289 (v821 : IVec S16 32) (v850 : IVec S16 32) : Prop :=
  (∀ a x, ((![v821, v850] : Fin 2 → IVec S16 32) a x).toNat < S8x1696.size a)
theorem k1_idx289_inb : ∀ (v821 : IVec S16 32) (v850 : IVec S16 32) (k1_hw289 : k1_chk289 v821 v850), ∀ a x, ((![v821, v850] : Fin 2 → IVec S16 32) a x).toNat < S8x1696.size a := fun v821 v850 k1_hw289 => k1_hw289

def k1_chk290 (v821 : IVec S16 32) (v860 : IVec S16 32) : Prop :=
  (∀ a x, ((![v821, v860] : Fin 2 → IVec S16 32) a x).toNat < S8x1696.size a)
theorem k1_idx290_inb : ∀ (v821 : IVec S16 32) (v860 : IVec S16 32) (k1_hw290 : k1_chk290 v821 v860), ∀ a x, ((![v821, v860] : Fin 2 → IVec S16 32) a x).toNat < S8x1696.size a := fun v821 v860 k1_hw290 => k1_hw290

def k1_chk291 (v821 : IVec S16 32) (v870 : IVec S16 32) : Prop :=
  (∀ a x, ((![v821, v870] : Fin 2 → IVec S16 32) a x).toNat < S8x1696.size a)
theorem k1_idx291_inb : ∀ (v821 : IVec S16 32) (v870 : IVec S16 32) (k1_hw291 : k1_chk291 v821 v870), ∀ a x, ((![v821, v870] : Fin 2 → IVec S16 32) a x).toNat < S8x1696.size a := fun v821 v870 k1_hw291 => k1_hw291

def k1_chk292 (v821 : IVec S16 32) (v880 : IVec S16 32) : Prop :=
  (∀ a x, ((![v821, v880] : Fin 2 → IVec S16 32) a x).toNat < S8x1696.size a)
theorem k1_idx292_inb : ∀ (v821 : IVec S16 32) (v880 : IVec S16 32) (k1_hw292 : k1_chk292 v821 v880), ∀ a x, ((![v821, v880] : Fin 2 → IVec S16 32) a x).toNat < S8x1696.size a := fun v821 v880 k1_hw292 => k1_hw292

def k1_chk293 (v821 : IVec S16 32) (v890 : IVec S16 32) : Prop :=
  (∀ a x, ((![v821, v890] : Fin 2 → IVec S16 32) a x).toNat < S8x1696.size a)
theorem k1_idx293_inb : ∀ (v821 : IVec S16 32) (v890 : IVec S16 32) (k1_hw293 : k1_chk293 v821 v890), ∀ a x, ((![v821, v890] : Fin 2 → IVec S16 32) a x).toNat < S8x1696.size a := fun v821 v890 k1_hw293 => k1_hw293

def k1_chk294 (v821 : IVec S16 32) (v900 : IVec S16 32) : Prop :=
  (∀ a x, ((![v821, v900] : Fin 2 → IVec S16 32) a x).toNat < S8x1696.size a)
theorem k1_idx294_inb : ∀ (v821 : IVec S16 32) (v900 : IVec S16 32) (k1_hw294 : k1_chk294 v821 v900), ∀ a x, ((![v821, v900] : Fin 2 → IVec S16 32) a x).toNat < S8x1696.size a := fun v821 v900 k1_hw294 => k1_hw294

def k1_chk295 (v821 : IVec S16 32) (v910 : IVec S16 32) : Prop :=
  (∀ a x, ((![v821, v910] : Fin 2 → IVec S16 32) a x).toNat < S8x1696.size a)
theorem k1_idx295_inb : ∀ (v821 : IVec S16 32) (v910 : IVec S16 32) (k1_hw295 : k1_chk295 v821 v910), ∀ a x, ((![v821, v910] : Fin 2 → IVec S16 32) a x).toNat < S8x1696.size a := fun v821 v910 k1_hw295 => k1_hw295

def k1_chk296 (v821 : IVec S16 32) (v920 : IVec S16 32) : Prop :=
  (∀ a x, ((![v821, v920] : Fin 2 → IVec S16 32) a x).toNat < S8x1696.size a)
theorem k1_idx296_inb : ∀ (v821 : IVec S16 32) (v920 : IVec S16 32) (k1_hw296 : k1_chk296 v821 v920), ∀ a x, ((![v821, v920] : Fin 2 → IVec S16 32) a x).toNat < S8x1696.size a := fun v821 v920 k1_hw296 => k1_hw296

def k1_chk297 (v821 : IVec S16 32) (v930 : IVec S16 32) : Prop :=
  (∀ a x, ((![v821, v930] : Fin 2 → IVec S16 32) a x).toNat < S8x1696.size a)
theorem k1_idx297_inb : ∀ (v821 : IVec S16 32) (v930 : IVec S16 32) (k1_hw297 : k1_chk297 v821 v930), ∀ a x, ((![v821, v930] : Fin 2 → IVec S16 32) a x).toNat < S8x1696.size a := fun v821 v930 k1_hw297 => k1_hw297

def k1_chk298 (v821 : IVec S16 32) (v940 : IVec S16 32) : Prop :=
  (∀ a x, ((![v821, v940] : Fin 2 → IVec S16 32) a x).toNat < S8x1696.size a)
theorem k1_idx298_inb : ∀ (v821 : IVec S16 32) (v940 : IVec S16 32) (k1_hw298 : k1_chk298 v821 v940), ∀ a x, ((![v821, v940] : Fin 2 → IVec S16 32) a x).toNat < S8x1696.size a := fun v821 v940 k1_hw298 => k1_hw298

def k1_chk299 (v821 : IVec S16 32) (v951 : IVec S16 32) : Prop :=
  (∀ a x, ((![v821, v951] : Fin 2 → IVec S16 32) a x).toNat < S8x1696.size a)
theorem k1_idx299_inb : ∀ (v821 : IVec S16 32) (v951 : IVec S16 32) (k1_hw299 : k1_chk299 v821 v951), ∀ a x, ((![v821, v951] : Fin 2 → IVec S16 32) a x).toNat < S8x1696.size a := fun v821 v951 k1_hw299 => k1_hw299

def k1_chk300 (v953 : IVec S16 32) (v962 : IVec S16 32) : Prop :=
  (∀ a x, ((![v953, v962] : Fin 2 → IVec S16 32) a x).toNat < S8x1696.size a)
theorem k1_idx300_inb : ∀ (v953 : IVec S16 32) (v962 : IVec S16 32) (k1_hw300 : k1_chk300 v953 v962), ∀ a x, ((![v953, v962] : Fin 2 → IVec S16 32) a x).toNat < S8x1696.size a := fun v953 v962 k1_hw300 => k1_hw300

def k1_chk301 (v953 : IVec S16 32) (v972 : IVec S16 32) : Prop :=
  (∀ a x, ((![v953, v972] : Fin 2 → IVec S16 32) a x).toNat < S8x1696.size a)
theorem k1_idx301_inb : ∀ (v953 : IVec S16 32) (v972 : IVec S16 32) (k1_hw301 : k1_chk301 v953 v972), ∀ a x, ((![v953, v972] : Fin 2 → IVec S16 32) a x).toNat < S8x1696.size a := fun v953 v972 k1_hw301 => k1_hw301

def k1_chk302 (v953 : IVec S16 32) (v982 : IVec S16 32) : Prop :=
  (∀ a x, ((![v953, v982] : Fin 2 → IVec S16 32) a x).toNat < S8x1696.size a)
theorem k1_idx302_inb : ∀ (v953 : IVec S16 32) (v982 : IVec S16 32) (k1_hw302 : k1_chk302 v953 v982), ∀ a x, ((![v953, v982] : Fin 2 → IVec S16 32) a x).toNat < S8x1696.size a := fun v953 v982 k1_hw302 => k1_hw302

def k1_chk303 (v953 : IVec S16 32) (v992 : IVec S16 32) : Prop :=
  (∀ a x, ((![v953, v992] : Fin 2 → IVec S16 32) a x).toNat < S8x1696.size a)
theorem k1_idx303_inb : ∀ (v953 : IVec S16 32) (v992 : IVec S16 32) (k1_hw303 : k1_chk303 v953 v992), ∀ a x, ((![v953, v992] : Fin 2 → IVec S16 32) a x).toNat < S8x1696.size a := fun v953 v992 k1_hw303 => k1_hw303

def k1_chk304 (v953 : IVec S16 32) (v1002 : IVec S16 32) : Prop :=
  (∀ a x, ((![v953, v1002] : Fin 2 → IVec S16 32) a x).toNat < S8x1696.size a)
theorem k1_idx304_inb : ∀ (v953 : IVec S16 32) (v1002 : IVec S16 32) (k1_hw304 : k1_chk304 v953 v1002), ∀ a x, ((![v953, v1002] : Fin 2 → IVec S16 32) a x).toNat < S8x1696.size a := fun v953 v1002 k1_hw304 => k1_hw304

def k1_chk305 (v953 : IVec S16 32) (v1012 : IVec S16 32) : Prop :=
  (∀ a x, ((![v953, v1012] : Fin 2 → IVec S16 32) a x).toNat < S8x1696.size a)
theorem k1_idx305_inb : ∀ (v953 : IVec S16 32) (v1012 : IVec S16 32) (k1_hw305 : k1_chk305 v953 v1012), ∀ a x, ((![v953, v1012] : Fin 2 → IVec S16 32) a x).toNat < S8x1696.size a := fun v953 v1012 k1_hw305 => k1_hw305

def k1_chk306 (v953 : IVec S16 32) (v1022 : IVec S16 32) : Prop :=
  (∀ a x, ((![v953, v1022] : Fin 2 → IVec S16 32) a x).toNat < S8x1696.size a)
theorem k1_idx306_inb : ∀ (v953 : IVec S16 32) (v1022 : IVec S16 32) (k1_hw306 : k1_chk306 v953 v1022), ∀ a x, ((![v953, v1022] : Fin 2 → IVec S16 32) a x).toNat < S8x1696.size a := fun v953 v1022 k1_hw306 => k1_hw306

def k1_chk307 (v953 : IVec S16 32) (v1032 : IVec S16 32) : Prop :=
  (∀ a x, ((![v953, v1032] : Fin 2 → IVec S16 32) a x).toNat < S8x1696.size a)
theorem k1_idx307_inb : ∀ (v953 : IVec S16 32) (v1032 : IVec S16 32) (k1_hw307 : k1_chk307 v953 v1032), ∀ a x, ((![v953, v1032] : Fin 2 → IVec S16 32) a x).toNat < S8x1696.size a := fun v953 v1032 k1_hw307 => k1_hw307

def k1_chk308 (v953 : IVec S16 32) (v1042 : IVec S16 32) : Prop :=
  (∀ a x, ((![v953, v1042] : Fin 2 → IVec S16 32) a x).toNat < S8x1696.size a)
theorem k1_idx308_inb : ∀ (v953 : IVec S16 32) (v1042 : IVec S16 32) (k1_hw308 : k1_chk308 v953 v1042), ∀ a x, ((![v953, v1042] : Fin 2 → IVec S16 32) a x).toNat < S8x1696.size a := fun v953 v1042 k1_hw308 => k1_hw308

def k1_chk309 (v953 : IVec S16 32) (v1052 : IVec S16 32) : Prop :=
  (∀ a x, ((![v953, v1052] : Fin 2 → IVec S16 32) a x).toNat < S8x1696.size a)
theorem k1_idx309_inb : ∀ (v953 : IVec S16 32) (v1052 : IVec S16 32) (k1_hw309 : k1_chk309 v953 v1052), ∀ a x, ((![v953, v1052] : Fin 2 → IVec S16 32) a x).toNat < S8x1696.size a := fun v953 v1052 k1_hw309 => k1_hw309

def k1_chk310 (v953 : IVec S16 32) (v1062 : IVec S16 32) : Prop :=
  (∀ a x, ((![v953, v1062] : Fin 2 → IVec S16 32) a x).toNat < S8x1696.size a)
theorem k1_idx310_inb : ∀ (v953 : IVec S16 32) (v1062 : IVec S16 32) (k1_hw310 : k1_chk310 v953 v1062), ∀ a x, ((![v953, v1062] : Fin 2 → IVec S16 32) a x).toNat < S8x1696.size a := fun v953 v1062 k1_hw310 => k1_hw310

def k1_chk311 (v953 : IVec S16 32) (v1072 : IVec S16 32) : Prop :=
  (∀ a x, ((![v953, v1072] : Fin 2 → IVec S16 32) a x).toNat < S8x1696.size a)
theorem k1_idx311_inb : ∀ (v953 : IVec S16 32) (v1072 : IVec S16 32) (k1_hw311 : k1_chk311 v953 v1072), ∀ a x, ((![v953, v1072] : Fin 2 → IVec S16 32) a x).toNat < S8x1696.size a := fun v953 v1072 k1_hw311 => k1_hw311

def k1_chk312 (v953 : IVec S16 32) (v1083 : IVec S16 32) : Prop :=
  (∀ a x, ((![v953, v1083] : Fin 2 → IVec S16 32) a x).toNat < S8x1696.size a)
theorem k1_idx312_inb : ∀ (v953 : IVec S16 32) (v1083 : IVec S16 32) (k1_hw312 : k1_chk312 v953 v1083), ∀ a x, ((![v953, v1083] : Fin 2 → IVec S16 32) a x).toNat < S8x1696.size a := fun v953 v1083 k1_hw312 => k1_hw312
def k1_off19 (i : grid1.Coords) (k1_t17 : Fin k1_t17_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_63 : BitVec 32 := 4#32
  let v23 : BitVec 32 := Scalar.muli v1 c4_i32_63
  let c0_i32_60 : BitVec 32 := 0#32
  let c1_i32_61 : BitVec 32 := 1#32
  let arg9 : BitVec 32 := Scf.iv c0_i32_60 c1_i32_61 k1_t17
  let v24 : BitVec 32 := Scalar.addi v23 arg9
  let c8_i32_64 : BitVec 32 := 8#32
  let v25 : BitVec 32 := Scalar.muli v24 c8_i32_64
  let c98304_i32_r3 : BitVec 32 := 98304#32
  ![v25.toNat, 98304]

def k1_chk313 (v1085 : IVec S16 32) (v1094 : IVec S16 32) : Prop :=
  (∀ a x, ((![v1085, v1094] : Fin 2 → IVec S16 32) a x).toNat < S8x1696.size a)
theorem k1_idx313_inb : ∀ (v1085 : IVec S16 32) (v1094 : IVec S16 32) (k1_hw313 : k1_chk313 v1085 v1094), ∀ a x, ((![v1085, v1094] : Fin 2 → IVec S16 32) a x).toNat < S8x1696.size a := fun v1085 v1094 k1_hw313 => k1_hw313

def k1_chk314 (v1085 : IVec S16 32) (v1103 : IVec S16 32) : Prop :=
  (∀ a x, ((![v1085, v1103] : Fin 2 → IVec S16 32) a x).toNat < S8x1696.size a)
theorem k1_idx314_inb : ∀ (v1085 : IVec S16 32) (v1103 : IVec S16 32) (k1_hw314 : k1_chk314 v1085 v1103), ∀ a x, ((![v1085, v1103] : Fin 2 → IVec S16 32) a x).toNat < S8x1696.size a := fun v1085 v1103 k1_hw314 => k1_hw314

def k1_chk315 (v1085 : IVec S16 32) (v1112 : IVec S16 32) : Prop :=
  (∀ a x, ((![v1085, v1112] : Fin 2 → IVec S16 32) a x).toNat < S8x1696.size a)
theorem k1_idx315_inb : ∀ (v1085 : IVec S16 32) (v1112 : IVec S16 32) (k1_hw315 : k1_chk315 v1085 v1112), ∀ a x, ((![v1085, v1112] : Fin 2 → IVec S16 32) a x).toNat < S8x1696.size a := fun v1085 v1112 k1_hw315 => k1_hw315

def k1_chk316 (v1085 : IVec S16 32) (v1121 : IVec S16 32) : Prop :=
  (∀ a x, ((![v1085, v1121] : Fin 2 → IVec S16 32) a x).toNat < S8x1696.size a)
theorem k1_idx316_inb : ∀ (v1085 : IVec S16 32) (v1121 : IVec S16 32) (k1_hw316 : k1_chk316 v1085 v1121), ∀ a x, ((![v1085, v1121] : Fin 2 → IVec S16 32) a x).toNat < S8x1696.size a := fun v1085 v1121 k1_hw316 => k1_hw316

def k1_chk317 (v1085 : IVec S16 32) (v1130 : IVec S16 32) : Prop :=
  (∀ a x, ((![v1085, v1130] : Fin 2 → IVec S16 32) a x).toNat < S8x1696.size a)
theorem k1_idx317_inb : ∀ (v1085 : IVec S16 32) (v1130 : IVec S16 32) (k1_hw317 : k1_chk317 v1085 v1130), ∀ a x, ((![v1085, v1130] : Fin 2 → IVec S16 32) a x).toNat < S8x1696.size a := fun v1085 v1130 k1_hw317 => k1_hw317

def k1_chk318 (v1085 : IVec S16 32) (v1139 : IVec S16 32) : Prop :=
  (∀ a x, ((![v1085, v1139] : Fin 2 → IVec S16 32) a x).toNat < S8x1696.size a)
theorem k1_idx318_inb : ∀ (v1085 : IVec S16 32) (v1139 : IVec S16 32) (k1_hw318 : k1_chk318 v1085 v1139), ∀ a x, ((![v1085, v1139] : Fin 2 → IVec S16 32) a x).toNat < S8x1696.size a := fun v1085 v1139 k1_hw318 => k1_hw318

def k1_chk319 (v1085 : IVec S16 32) (v1148 : IVec S16 32) : Prop :=
  (∀ a x, ((![v1085, v1148] : Fin 2 → IVec S16 32) a x).toNat < S8x1696.size a)
theorem k1_idx319_inb : ∀ (v1085 : IVec S16 32) (v1148 : IVec S16 32) (k1_hw319 : k1_chk319 v1085 v1148), ∀ a x, ((![v1085, v1148] : Fin 2 → IVec S16 32) a x).toNat < S8x1696.size a := fun v1085 v1148 k1_hw319 => k1_hw319

def k1_chk320 (v1085 : IVec S16 32) (v1157 : IVec S16 32) : Prop :=
  (∀ a x, ((![v1085, v1157] : Fin 2 → IVec S16 32) a x).toNat < S8x1696.size a)
theorem k1_idx320_inb : ∀ (v1085 : IVec S16 32) (v1157 : IVec S16 32) (k1_hw320 : k1_chk320 v1085 v1157), ∀ a x, ((![v1085, v1157] : Fin 2 → IVec S16 32) a x).toNat < S8x1696.size a := fun v1085 v1157 k1_hw320 => k1_hw320

def k1_chk321 (v1085 : IVec S16 32) (v1166 : IVec S16 32) : Prop :=
  (∀ a x, ((![v1085, v1166] : Fin 2 → IVec S16 32) a x).toNat < S8x1696.size a)
theorem k1_idx321_inb : ∀ (v1085 : IVec S16 32) (v1166 : IVec S16 32) (k1_hw321 : k1_chk321 v1085 v1166), ∀ a x, ((![v1085, v1166] : Fin 2 → IVec S16 32) a x).toNat < S8x1696.size a := fun v1085 v1166 k1_hw321 => k1_hw321

def k1_chk322 (v1085 : IVec S16 32) (v1175 : IVec S16 32) : Prop :=
  (∀ a x, ((![v1085, v1175] : Fin 2 → IVec S16 32) a x).toNat < S8x1696.size a)
theorem k1_idx322_inb : ∀ (v1085 : IVec S16 32) (v1175 : IVec S16 32) (k1_hw322 : k1_chk322 v1085 v1175), ∀ a x, ((![v1085, v1175] : Fin 2 → IVec S16 32) a x).toNat < S8x1696.size a := fun v1085 v1175 k1_hw322 => k1_hw322

def k1_chk323 (v1085 : IVec S16 32) (v1184 : IVec S16 32) : Prop :=
  (∀ a x, ((![v1085, v1184] : Fin 2 → IVec S16 32) a x).toNat < S8x1696.size a)
theorem k1_idx323_inb : ∀ (v1085 : IVec S16 32) (v1184 : IVec S16 32) (k1_hw323 : k1_chk323 v1085 v1184), ∀ a x, ((![v1085, v1184] : Fin 2 → IVec S16 32) a x).toNat < S8x1696.size a := fun v1085 v1184 k1_hw323 => k1_hw323

def k1_chk324 (v1085 : IVec S16 32) (v1193 : IVec S16 32) : Prop :=
  (∀ a x, ((![v1085, v1193] : Fin 2 → IVec S16 32) a x).toNat < S8x1696.size a)
theorem k1_idx324_inb : ∀ (v1085 : IVec S16 32) (v1193 : IVec S16 32) (k1_hw324 : k1_chk324 v1085 v1193), ∀ a x, ((![v1085, v1193] : Fin 2 → IVec S16 32) a x).toNat < S8x1696.size a := fun v1085 v1193 k1_hw324 => k1_hw324

def k1_chk325 (v1085 : IVec S16 32) (v1203 : IVec S16 32) : Prop :=
  (∀ a x, ((![v1085, v1203] : Fin 2 → IVec S16 32) a x).toNat < S8x1696.size a)
theorem k1_idx325_inb : ∀ (v1085 : IVec S16 32) (v1203 : IVec S16 32) (k1_hw325 : k1_chk325 v1085 v1203), ∀ a x, ((![v1085, v1203] : Fin 2 → IVec S16 32) a x).toNat < S8x1696.size a := fun v1085 v1203 k1_hw325 => k1_hw325

def k1_chk326 (v1204 : IVec S16 32) (v1213 : IVec S16 32) : Prop :=
  (∀ a x, ((![v1204, v1213] : Fin 2 → IVec S16 32) a x).toNat < S8x1696.size a)
theorem k1_idx326_inb : ∀ (v1204 : IVec S16 32) (v1213 : IVec S16 32) (k1_hw326 : k1_chk326 v1204 v1213), ∀ a x, ((![v1204, v1213] : Fin 2 → IVec S16 32) a x).toNat < S8x1696.size a := fun v1204 v1213 k1_hw326 => k1_hw326

def k1_chk327 (v1204 : IVec S16 32) (v1222 : IVec S16 32) : Prop :=
  (∀ a x, ((![v1204, v1222] : Fin 2 → IVec S16 32) a x).toNat < S8x1696.size a)
theorem k1_idx327_inb : ∀ (v1204 : IVec S16 32) (v1222 : IVec S16 32) (k1_hw327 : k1_chk327 v1204 v1222), ∀ a x, ((![v1204, v1222] : Fin 2 → IVec S16 32) a x).toNat < S8x1696.size a := fun v1204 v1222 k1_hw327 => k1_hw327

def k1_chk328 (v1204 : IVec S16 32) (v1231 : IVec S16 32) : Prop :=
  (∀ a x, ((![v1204, v1231] : Fin 2 → IVec S16 32) a x).toNat < S8x1696.size a)
theorem k1_idx328_inb : ∀ (v1204 : IVec S16 32) (v1231 : IVec S16 32) (k1_hw328 : k1_chk328 v1204 v1231), ∀ a x, ((![v1204, v1231] : Fin 2 → IVec S16 32) a x).toNat < S8x1696.size a := fun v1204 v1231 k1_hw328 => k1_hw328

def k1_chk329 (v1204 : IVec S16 32) (v1240 : IVec S16 32) : Prop :=
  (∀ a x, ((![v1204, v1240] : Fin 2 → IVec S16 32) a x).toNat < S8x1696.size a)
theorem k1_idx329_inb : ∀ (v1204 : IVec S16 32) (v1240 : IVec S16 32) (k1_hw329 : k1_chk329 v1204 v1240), ∀ a x, ((![v1204, v1240] : Fin 2 → IVec S16 32) a x).toNat < S8x1696.size a := fun v1204 v1240 k1_hw329 => k1_hw329

def k1_chk330 (v1204 : IVec S16 32) (v1249 : IVec S16 32) : Prop :=
  (∀ a x, ((![v1204, v1249] : Fin 2 → IVec S16 32) a x).toNat < S8x1696.size a)
theorem k1_idx330_inb : ∀ (v1204 : IVec S16 32) (v1249 : IVec S16 32) (k1_hw330 : k1_chk330 v1204 v1249), ∀ a x, ((![v1204, v1249] : Fin 2 → IVec S16 32) a x).toNat < S8x1696.size a := fun v1204 v1249 k1_hw330 => k1_hw330

def k1_chk331 (v1204 : IVec S16 32) (v1258 : IVec S16 32) : Prop :=
  (∀ a x, ((![v1204, v1258] : Fin 2 → IVec S16 32) a x).toNat < S8x1696.size a)
theorem k1_idx331_inb : ∀ (v1204 : IVec S16 32) (v1258 : IVec S16 32) (k1_hw331 : k1_chk331 v1204 v1258), ∀ a x, ((![v1204, v1258] : Fin 2 → IVec S16 32) a x).toNat < S8x1696.size a := fun v1204 v1258 k1_hw331 => k1_hw331

def k1_chk332 (v1204 : IVec S16 32) (v1267 : IVec S16 32) : Prop :=
  (∀ a x, ((![v1204, v1267] : Fin 2 → IVec S16 32) a x).toNat < S8x1696.size a)
theorem k1_idx332_inb : ∀ (v1204 : IVec S16 32) (v1267 : IVec S16 32) (k1_hw332 : k1_chk332 v1204 v1267), ∀ a x, ((![v1204, v1267] : Fin 2 → IVec S16 32) a x).toNat < S8x1696.size a := fun v1204 v1267 k1_hw332 => k1_hw332

def k1_chk333 (v1204 : IVec S16 32) (v1276 : IVec S16 32) : Prop :=
  (∀ a x, ((![v1204, v1276] : Fin 2 → IVec S16 32) a x).toNat < S8x1696.size a)
theorem k1_idx333_inb : ∀ (v1204 : IVec S16 32) (v1276 : IVec S16 32) (k1_hw333 : k1_chk333 v1204 v1276), ∀ a x, ((![v1204, v1276] : Fin 2 → IVec S16 32) a x).toNat < S8x1696.size a := fun v1204 v1276 k1_hw333 => k1_hw333

def k1_chk334 (v1204 : IVec S16 32) (v1285 : IVec S16 32) : Prop :=
  (∀ a x, ((![v1204, v1285] : Fin 2 → IVec S16 32) a x).toNat < S8x1696.size a)
theorem k1_idx334_inb : ∀ (v1204 : IVec S16 32) (v1285 : IVec S16 32) (k1_hw334 : k1_chk334 v1204 v1285), ∀ a x, ((![v1204, v1285] : Fin 2 → IVec S16 32) a x).toNat < S8x1696.size a := fun v1204 v1285 k1_hw334 => k1_hw334

def k1_chk335 (v1204 : IVec S16 32) (v1294 : IVec S16 32) : Prop :=
  (∀ a x, ((![v1204, v1294] : Fin 2 → IVec S16 32) a x).toNat < S8x1696.size a)
theorem k1_idx335_inb : ∀ (v1204 : IVec S16 32) (v1294 : IVec S16 32) (k1_hw335 : k1_chk335 v1204 v1294), ∀ a x, ((![v1204, v1294] : Fin 2 → IVec S16 32) a x).toNat < S8x1696.size a := fun v1204 v1294 k1_hw335 => k1_hw335

def k1_chk336 (v1204 : IVec S16 32) (v1303 : IVec S16 32) : Prop :=
  (∀ a x, ((![v1204, v1303] : Fin 2 → IVec S16 32) a x).toNat < S8x1696.size a)
theorem k1_idx336_inb : ∀ (v1204 : IVec S16 32) (v1303 : IVec S16 32) (k1_hw336 : k1_chk336 v1204 v1303), ∀ a x, ((![v1204, v1303] : Fin 2 → IVec S16 32) a x).toNat < S8x1696.size a := fun v1204 v1303 k1_hw336 => k1_hw336

def k1_chk337 (v1204 : IVec S16 32) (v1312 : IVec S16 32) : Prop :=
  (∀ a x, ((![v1204, v1312] : Fin 2 → IVec S16 32) a x).toNat < S8x1696.size a)
theorem k1_idx337_inb : ∀ (v1204 : IVec S16 32) (v1312 : IVec S16 32) (k1_hw337 : k1_chk337 v1204 v1312), ∀ a x, ((![v1204, v1312] : Fin 2 → IVec S16 32) a x).toNat < S8x1696.size a := fun v1204 v1312 k1_hw337 => k1_hw337

def k1_chk338 (v1204 : IVec S16 32) (v1322 : IVec S16 32) : Prop :=
  (∀ a x, ((![v1204, v1322] : Fin 2 → IVec S16 32) a x).toNat < S8x1696.size a)
theorem k1_idx338_inb : ∀ (v1204 : IVec S16 32) (v1322 : IVec S16 32) (k1_hw338 : k1_chk338 v1204 v1322), ∀ a x, ((![v1204, v1322] : Fin 2 → IVec S16 32) a x).toNat < S8x1696.size a := fun v1204 v1322 k1_hw338 => k1_hw338

def k1_chk339 (v1323 : IVec S16 32) (v1332 : IVec S16 32) : Prop :=
  (∀ a x, ((![v1323, v1332] : Fin 2 → IVec S16 32) a x).toNat < S8x1696.size a)
theorem k1_idx339_inb : ∀ (v1323 : IVec S16 32) (v1332 : IVec S16 32) (k1_hw339 : k1_chk339 v1323 v1332), ∀ a x, ((![v1323, v1332] : Fin 2 → IVec S16 32) a x).toNat < S8x1696.size a := fun v1323 v1332 k1_hw339 => k1_hw339

def k1_chk340 (v1323 : IVec S16 32) (v1341 : IVec S16 32) : Prop :=
  (∀ a x, ((![v1323, v1341] : Fin 2 → IVec S16 32) a x).toNat < S8x1696.size a)
theorem k1_idx340_inb : ∀ (v1323 : IVec S16 32) (v1341 : IVec S16 32) (k1_hw340 : k1_chk340 v1323 v1341), ∀ a x, ((![v1323, v1341] : Fin 2 → IVec S16 32) a x).toNat < S8x1696.size a := fun v1323 v1341 k1_hw340 => k1_hw340

def k1_chk341 (v1323 : IVec S16 32) (v1350 : IVec S16 32) : Prop :=
  (∀ a x, ((![v1323, v1350] : Fin 2 → IVec S16 32) a x).toNat < S8x1696.size a)
theorem k1_idx341_inb : ∀ (v1323 : IVec S16 32) (v1350 : IVec S16 32) (k1_hw341 : k1_chk341 v1323 v1350), ∀ a x, ((![v1323, v1350] : Fin 2 → IVec S16 32) a x).toNat < S8x1696.size a := fun v1323 v1350 k1_hw341 => k1_hw341

def k1_chk342 (v1323 : IVec S16 32) (v1359 : IVec S16 32) : Prop :=
  (∀ a x, ((![v1323, v1359] : Fin 2 → IVec S16 32) a x).toNat < S8x1696.size a)
theorem k1_idx342_inb : ∀ (v1323 : IVec S16 32) (v1359 : IVec S16 32) (k1_hw342 : k1_chk342 v1323 v1359), ∀ a x, ((![v1323, v1359] : Fin 2 → IVec S16 32) a x).toNat < S8x1696.size a := fun v1323 v1359 k1_hw342 => k1_hw342

def k1_chk343 (v1323 : IVec S16 32) (v1368 : IVec S16 32) : Prop :=
  (∀ a x, ((![v1323, v1368] : Fin 2 → IVec S16 32) a x).toNat < S8x1696.size a)
theorem k1_idx343_inb : ∀ (v1323 : IVec S16 32) (v1368 : IVec S16 32) (k1_hw343 : k1_chk343 v1323 v1368), ∀ a x, ((![v1323, v1368] : Fin 2 → IVec S16 32) a x).toNat < S8x1696.size a := fun v1323 v1368 k1_hw343 => k1_hw343

def k1_chk344 (v1323 : IVec S16 32) (v1377 : IVec S16 32) : Prop :=
  (∀ a x, ((![v1323, v1377] : Fin 2 → IVec S16 32) a x).toNat < S8x1696.size a)
theorem k1_idx344_inb : ∀ (v1323 : IVec S16 32) (v1377 : IVec S16 32) (k1_hw344 : k1_chk344 v1323 v1377), ∀ a x, ((![v1323, v1377] : Fin 2 → IVec S16 32) a x).toNat < S8x1696.size a := fun v1323 v1377 k1_hw344 => k1_hw344

def k1_chk345 (v1323 : IVec S16 32) (v1386 : IVec S16 32) : Prop :=
  (∀ a x, ((![v1323, v1386] : Fin 2 → IVec S16 32) a x).toNat < S8x1696.size a)
theorem k1_idx345_inb : ∀ (v1323 : IVec S16 32) (v1386 : IVec S16 32) (k1_hw345 : k1_chk345 v1323 v1386), ∀ a x, ((![v1323, v1386] : Fin 2 → IVec S16 32) a x).toNat < S8x1696.size a := fun v1323 v1386 k1_hw345 => k1_hw345

def k1_chk346 (v1323 : IVec S16 32) (v1395 : IVec S16 32) : Prop :=
  (∀ a x, ((![v1323, v1395] : Fin 2 → IVec S16 32) a x).toNat < S8x1696.size a)
theorem k1_idx346_inb : ∀ (v1323 : IVec S16 32) (v1395 : IVec S16 32) (k1_hw346 : k1_chk346 v1323 v1395), ∀ a x, ((![v1323, v1395] : Fin 2 → IVec S16 32) a x).toNat < S8x1696.size a := fun v1323 v1395 k1_hw346 => k1_hw346

def k1_chk347 (v1323 : IVec S16 32) (v1404 : IVec S16 32) : Prop :=
  (∀ a x, ((![v1323, v1404] : Fin 2 → IVec S16 32) a x).toNat < S8x1696.size a)
theorem k1_idx347_inb : ∀ (v1323 : IVec S16 32) (v1404 : IVec S16 32) (k1_hw347 : k1_chk347 v1323 v1404), ∀ a x, ((![v1323, v1404] : Fin 2 → IVec S16 32) a x).toNat < S8x1696.size a := fun v1323 v1404 k1_hw347 => k1_hw347

def k1_chk348 (v1323 : IVec S16 32) (v1413 : IVec S16 32) : Prop :=
  (∀ a x, ((![v1323, v1413] : Fin 2 → IVec S16 32) a x).toNat < S8x1696.size a)
theorem k1_idx348_inb : ∀ (v1323 : IVec S16 32) (v1413 : IVec S16 32) (k1_hw348 : k1_chk348 v1323 v1413), ∀ a x, ((![v1323, v1413] : Fin 2 → IVec S16 32) a x).toNat < S8x1696.size a := fun v1323 v1413 k1_hw348 => k1_hw348

def k1_chk349 (v1323 : IVec S16 32) (v1422 : IVec S16 32) : Prop :=
  (∀ a x, ((![v1323, v1422] : Fin 2 → IVec S16 32) a x).toNat < S8x1696.size a)
theorem k1_idx349_inb : ∀ (v1323 : IVec S16 32) (v1422 : IVec S16 32) (k1_hw349 : k1_chk349 v1323 v1422), ∀ a x, ((![v1323, v1422] : Fin 2 → IVec S16 32) a x).toNat < S8x1696.size a := fun v1323 v1422 k1_hw349 => k1_hw349

def k1_chk350 (v1323 : IVec S16 32) (v1431 : IVec S16 32) : Prop :=
  (∀ a x, ((![v1323, v1431] : Fin 2 → IVec S16 32) a x).toNat < S8x1696.size a)
theorem k1_idx350_inb : ∀ (v1323 : IVec S16 32) (v1431 : IVec S16 32) (k1_hw350 : k1_chk350 v1323 v1431), ∀ a x, ((![v1323, v1431] : Fin 2 → IVec S16 32) a x).toNat < S8x1696.size a := fun v1323 v1431 k1_hw350 => k1_hw350

def k1_chk351 (v1323 : IVec S16 32) (v1441 : IVec S16 32) : Prop :=
  (∀ a x, ((![v1323, v1441] : Fin 2 → IVec S16 32) a x).toNat < S8x1696.size a)
theorem k1_idx351_inb : ∀ (v1323 : IVec S16 32) (v1441 : IVec S16 32) (k1_hw351 : k1_chk351 v1323 v1441), ∀ a x, ((![v1323, v1441] : Fin 2 → IVec S16 32) a x).toNat < S8x1696.size a := fun v1323 v1441 k1_hw351 => k1_hw351

def k1_chk352 (v1442 : IVec S16 32) (v1451 : IVec S16 32) : Prop :=
  (∀ a x, ((![v1442, v1451] : Fin 2 → IVec S16 32) a x).toNat < S8x1696.size a)
theorem k1_idx352_inb : ∀ (v1442 : IVec S16 32) (v1451 : IVec S16 32) (k1_hw352 : k1_chk352 v1442 v1451), ∀ a x, ((![v1442, v1451] : Fin 2 → IVec S16 32) a x).toNat < S8x1696.size a := fun v1442 v1451 k1_hw352 => k1_hw352

def k1_chk353 (v1442 : IVec S16 32) (v1460 : IVec S16 32) : Prop :=
  (∀ a x, ((![v1442, v1460] : Fin 2 → IVec S16 32) a x).toNat < S8x1696.size a)
theorem k1_idx353_inb : ∀ (v1442 : IVec S16 32) (v1460 : IVec S16 32) (k1_hw353 : k1_chk353 v1442 v1460), ∀ a x, ((![v1442, v1460] : Fin 2 → IVec S16 32) a x).toNat < S8x1696.size a := fun v1442 v1460 k1_hw353 => k1_hw353

def k1_chk354 (v1442 : IVec S16 32) (v1469 : IVec S16 32) : Prop :=
  (∀ a x, ((![v1442, v1469] : Fin 2 → IVec S16 32) a x).toNat < S8x1696.size a)
theorem k1_idx354_inb : ∀ (v1442 : IVec S16 32) (v1469 : IVec S16 32) (k1_hw354 : k1_chk354 v1442 v1469), ∀ a x, ((![v1442, v1469] : Fin 2 → IVec S16 32) a x).toNat < S8x1696.size a := fun v1442 v1469 k1_hw354 => k1_hw354

def k1_chk355 (v1442 : IVec S16 32) (v1478 : IVec S16 32) : Prop :=
  (∀ a x, ((![v1442, v1478] : Fin 2 → IVec S16 32) a x).toNat < S8x1696.size a)
theorem k1_idx355_inb : ∀ (v1442 : IVec S16 32) (v1478 : IVec S16 32) (k1_hw355 : k1_chk355 v1442 v1478), ∀ a x, ((![v1442, v1478] : Fin 2 → IVec S16 32) a x).toNat < S8x1696.size a := fun v1442 v1478 k1_hw355 => k1_hw355

def k1_chk356 (v1442 : IVec S16 32) (v1487 : IVec S16 32) : Prop :=
  (∀ a x, ((![v1442, v1487] : Fin 2 → IVec S16 32) a x).toNat < S8x1696.size a)
theorem k1_idx356_inb : ∀ (v1442 : IVec S16 32) (v1487 : IVec S16 32) (k1_hw356 : k1_chk356 v1442 v1487), ∀ a x, ((![v1442, v1487] : Fin 2 → IVec S16 32) a x).toNat < S8x1696.size a := fun v1442 v1487 k1_hw356 => k1_hw356

def k1_chk357 (v1442 : IVec S16 32) (v1496 : IVec S16 32) : Prop :=
  (∀ a x, ((![v1442, v1496] : Fin 2 → IVec S16 32) a x).toNat < S8x1696.size a)
theorem k1_idx357_inb : ∀ (v1442 : IVec S16 32) (v1496 : IVec S16 32) (k1_hw357 : k1_chk357 v1442 v1496), ∀ a x, ((![v1442, v1496] : Fin 2 → IVec S16 32) a x).toNat < S8x1696.size a := fun v1442 v1496 k1_hw357 => k1_hw357

def k1_chk358 (v1442 : IVec S16 32) (v1505 : IVec S16 32) : Prop :=
  (∀ a x, ((![v1442, v1505] : Fin 2 → IVec S16 32) a x).toNat < S8x1696.size a)
theorem k1_idx358_inb : ∀ (v1442 : IVec S16 32) (v1505 : IVec S16 32) (k1_hw358 : k1_chk358 v1442 v1505), ∀ a x, ((![v1442, v1505] : Fin 2 → IVec S16 32) a x).toNat < S8x1696.size a := fun v1442 v1505 k1_hw358 => k1_hw358

def k1_chk359 (v1442 : IVec S16 32) (v1514 : IVec S16 32) : Prop :=
  (∀ a x, ((![v1442, v1514] : Fin 2 → IVec S16 32) a x).toNat < S8x1696.size a)
theorem k1_idx359_inb : ∀ (v1442 : IVec S16 32) (v1514 : IVec S16 32) (k1_hw359 : k1_chk359 v1442 v1514), ∀ a x, ((![v1442, v1514] : Fin 2 → IVec S16 32) a x).toNat < S8x1696.size a := fun v1442 v1514 k1_hw359 => k1_hw359

def k1_chk360 (v1442 : IVec S16 32) (v1523 : IVec S16 32) : Prop :=
  (∀ a x, ((![v1442, v1523] : Fin 2 → IVec S16 32) a x).toNat < S8x1696.size a)
theorem k1_idx360_inb : ∀ (v1442 : IVec S16 32) (v1523 : IVec S16 32) (k1_hw360 : k1_chk360 v1442 v1523), ∀ a x, ((![v1442, v1523] : Fin 2 → IVec S16 32) a x).toNat < S8x1696.size a := fun v1442 v1523 k1_hw360 => k1_hw360

def k1_chk361 (v1442 : IVec S16 32) (v1532 : IVec S16 32) : Prop :=
  (∀ a x, ((![v1442, v1532] : Fin 2 → IVec S16 32) a x).toNat < S8x1696.size a)
theorem k1_idx361_inb : ∀ (v1442 : IVec S16 32) (v1532 : IVec S16 32) (k1_hw361 : k1_chk361 v1442 v1532), ∀ a x, ((![v1442, v1532] : Fin 2 → IVec S16 32) a x).toNat < S8x1696.size a := fun v1442 v1532 k1_hw361 => k1_hw361

def k1_chk362 (v1442 : IVec S16 32) (v1541 : IVec S16 32) : Prop :=
  (∀ a x, ((![v1442, v1541] : Fin 2 → IVec S16 32) a x).toNat < S8x1696.size a)
theorem k1_idx362_inb : ∀ (v1442 : IVec S16 32) (v1541 : IVec S16 32) (k1_hw362 : k1_chk362 v1442 v1541), ∀ a x, ((![v1442, v1541] : Fin 2 → IVec S16 32) a x).toNat < S8x1696.size a := fun v1442 v1541 k1_hw362 => k1_hw362

def k1_chk363 (v1442 : IVec S16 32) (v1550 : IVec S16 32) : Prop :=
  (∀ a x, ((![v1442, v1550] : Fin 2 → IVec S16 32) a x).toNat < S8x1696.size a)
theorem k1_idx363_inb : ∀ (v1442 : IVec S16 32) (v1550 : IVec S16 32) (k1_hw363 : k1_chk363 v1442 v1550), ∀ a x, ((![v1442, v1550] : Fin 2 → IVec S16 32) a x).toNat < S8x1696.size a := fun v1442 v1550 k1_hw363 => k1_hw363

def k1_chk364 (v1442 : IVec S16 32) (v1560 : IVec S16 32) : Prop :=
  (∀ a x, ((![v1442, v1560] : Fin 2 → IVec S16 32) a x).toNat < S8x1696.size a)
theorem k1_idx364_inb : ∀ (v1442 : IVec S16 32) (v1560 : IVec S16 32) (k1_hw364 : k1_chk364 v1442 v1560), ∀ a x, ((![v1442, v1560] : Fin 2 → IVec S16 32) a x).toNat < S8x1696.size a := fun v1442 v1560 k1_hw364 => k1_hw364

def k1_chk365 (v1561 : IVec S16 32) (v1570 : IVec S16 32) : Prop :=
  (∀ a x, ((![v1561, v1570] : Fin 2 → IVec S16 32) a x).toNat < S8x1696.size a)
theorem k1_idx365_inb : ∀ (v1561 : IVec S16 32) (v1570 : IVec S16 32) (k1_hw365 : k1_chk365 v1561 v1570), ∀ a x, ((![v1561, v1570] : Fin 2 → IVec S16 32) a x).toNat < S8x1696.size a := fun v1561 v1570 k1_hw365 => k1_hw365

def k1_chk366 (v1561 : IVec S16 32) (v1579 : IVec S16 32) : Prop :=
  (∀ a x, ((![v1561, v1579] : Fin 2 → IVec S16 32) a x).toNat < S8x1696.size a)
theorem k1_idx366_inb : ∀ (v1561 : IVec S16 32) (v1579 : IVec S16 32) (k1_hw366 : k1_chk366 v1561 v1579), ∀ a x, ((![v1561, v1579] : Fin 2 → IVec S16 32) a x).toNat < S8x1696.size a := fun v1561 v1579 k1_hw366 => k1_hw366

def k1_chk367 (v1561 : IVec S16 32) (v1588 : IVec S16 32) : Prop :=
  (∀ a x, ((![v1561, v1588] : Fin 2 → IVec S16 32) a x).toNat < S8x1696.size a)
theorem k1_idx367_inb : ∀ (v1561 : IVec S16 32) (v1588 : IVec S16 32) (k1_hw367 : k1_chk367 v1561 v1588), ∀ a x, ((![v1561, v1588] : Fin 2 → IVec S16 32) a x).toNat < S8x1696.size a := fun v1561 v1588 k1_hw367 => k1_hw367

def k1_chk368 (v1561 : IVec S16 32) (v1597 : IVec S16 32) : Prop :=
  (∀ a x, ((![v1561, v1597] : Fin 2 → IVec S16 32) a x).toNat < S8x1696.size a)
theorem k1_idx368_inb : ∀ (v1561 : IVec S16 32) (v1597 : IVec S16 32) (k1_hw368 : k1_chk368 v1561 v1597), ∀ a x, ((![v1561, v1597] : Fin 2 → IVec S16 32) a x).toNat < S8x1696.size a := fun v1561 v1597 k1_hw368 => k1_hw368

def k1_chk369 (v1561 : IVec S16 32) (v1606 : IVec S16 32) : Prop :=
  (∀ a x, ((![v1561, v1606] : Fin 2 → IVec S16 32) a x).toNat < S8x1696.size a)
theorem k1_idx369_inb : ∀ (v1561 : IVec S16 32) (v1606 : IVec S16 32) (k1_hw369 : k1_chk369 v1561 v1606), ∀ a x, ((![v1561, v1606] : Fin 2 → IVec S16 32) a x).toNat < S8x1696.size a := fun v1561 v1606 k1_hw369 => k1_hw369

def k1_chk370 (v1561 : IVec S16 32) (v1615 : IVec S16 32) : Prop :=
  (∀ a x, ((![v1561, v1615] : Fin 2 → IVec S16 32) a x).toNat < S8x1696.size a)
theorem k1_idx370_inb : ∀ (v1561 : IVec S16 32) (v1615 : IVec S16 32) (k1_hw370 : k1_chk370 v1561 v1615), ∀ a x, ((![v1561, v1615] : Fin 2 → IVec S16 32) a x).toNat < S8x1696.size a := fun v1561 v1615 k1_hw370 => k1_hw370

def k1_chk371 (v1561 : IVec S16 32) (v1624 : IVec S16 32) : Prop :=
  (∀ a x, ((![v1561, v1624] : Fin 2 → IVec S16 32) a x).toNat < S8x1696.size a)
theorem k1_idx371_inb : ∀ (v1561 : IVec S16 32) (v1624 : IVec S16 32) (k1_hw371 : k1_chk371 v1561 v1624), ∀ a x, ((![v1561, v1624] : Fin 2 → IVec S16 32) a x).toNat < S8x1696.size a := fun v1561 v1624 k1_hw371 => k1_hw371

def k1_chk372 (v1561 : IVec S16 32) (v1633 : IVec S16 32) : Prop :=
  (∀ a x, ((![v1561, v1633] : Fin 2 → IVec S16 32) a x).toNat < S8x1696.size a)
theorem k1_idx372_inb : ∀ (v1561 : IVec S16 32) (v1633 : IVec S16 32) (k1_hw372 : k1_chk372 v1561 v1633), ∀ a x, ((![v1561, v1633] : Fin 2 → IVec S16 32) a x).toNat < S8x1696.size a := fun v1561 v1633 k1_hw372 => k1_hw372

def k1_chk373 (v1561 : IVec S16 32) (v1642 : IVec S16 32) : Prop :=
  (∀ a x, ((![v1561, v1642] : Fin 2 → IVec S16 32) a x).toNat < S8x1696.size a)
theorem k1_idx373_inb : ∀ (v1561 : IVec S16 32) (v1642 : IVec S16 32) (k1_hw373 : k1_chk373 v1561 v1642), ∀ a x, ((![v1561, v1642] : Fin 2 → IVec S16 32) a x).toNat < S8x1696.size a := fun v1561 v1642 k1_hw373 => k1_hw373

def k1_chk374 (v1561 : IVec S16 32) (v1651 : IVec S16 32) : Prop :=
  (∀ a x, ((![v1561, v1651] : Fin 2 → IVec S16 32) a x).toNat < S8x1696.size a)
theorem k1_idx374_inb : ∀ (v1561 : IVec S16 32) (v1651 : IVec S16 32) (k1_hw374 : k1_chk374 v1561 v1651), ∀ a x, ((![v1561, v1651] : Fin 2 → IVec S16 32) a x).toNat < S8x1696.size a := fun v1561 v1651 k1_hw374 => k1_hw374

def k1_chk375 (v1561 : IVec S16 32) (v1660 : IVec S16 32) : Prop :=
  (∀ a x, ((![v1561, v1660] : Fin 2 → IVec S16 32) a x).toNat < S8x1696.size a)
theorem k1_idx375_inb : ∀ (v1561 : IVec S16 32) (v1660 : IVec S16 32) (k1_hw375 : k1_chk375 v1561 v1660), ∀ a x, ((![v1561, v1660] : Fin 2 → IVec S16 32) a x).toNat < S8x1696.size a := fun v1561 v1660 k1_hw375 => k1_hw375

def k1_chk376 (v1561 : IVec S16 32) (v1669 : IVec S16 32) : Prop :=
  (∀ a x, ((![v1561, v1669] : Fin 2 → IVec S16 32) a x).toNat < S8x1696.size a)
theorem k1_idx376_inb : ∀ (v1561 : IVec S16 32) (v1669 : IVec S16 32) (k1_hw376 : k1_chk376 v1561 v1669), ∀ a x, ((![v1561, v1669] : Fin 2 → IVec S16 32) a x).toNat < S8x1696.size a := fun v1561 v1669 k1_hw376 => k1_hw376

def k1_chk377 (v1561 : IVec S16 32) (v1679 : IVec S16 32) : Prop :=
  (∀ a x, ((![v1561, v1679] : Fin 2 → IVec S16 32) a x).toNat < S8x1696.size a)
theorem k1_idx377_inb : ∀ (v1561 : IVec S16 32) (v1679 : IVec S16 32) (k1_hw377 : k1_chk377 v1561 v1679), ∀ a x, ((![v1561, v1679] : Fin 2 → IVec S16 32) a x).toNat < S8x1696.size a := fun v1561 v1679 k1_hw377 => k1_hw377

def k1_chk378 (v1680 : IVec S16 32) (v1689 : IVec S16 32) : Prop :=
  (∀ a x, ((![v1680, v1689] : Fin 2 → IVec S16 32) a x).toNat < S8x1696.size a)
theorem k1_idx378_inb : ∀ (v1680 : IVec S16 32) (v1689 : IVec S16 32) (k1_hw378 : k1_chk378 v1680 v1689), ∀ a x, ((![v1680, v1689] : Fin 2 → IVec S16 32) a x).toNat < S8x1696.size a := fun v1680 v1689 k1_hw378 => k1_hw378

def k1_chk379 (v1680 : IVec S16 32) (v1698 : IVec S16 32) : Prop :=
  (∀ a x, ((![v1680, v1698] : Fin 2 → IVec S16 32) a x).toNat < S8x1696.size a)
theorem k1_idx379_inb : ∀ (v1680 : IVec S16 32) (v1698 : IVec S16 32) (k1_hw379 : k1_chk379 v1680 v1698), ∀ a x, ((![v1680, v1698] : Fin 2 → IVec S16 32) a x).toNat < S8x1696.size a := fun v1680 v1698 k1_hw379 => k1_hw379

def k1_chk380 (v1680 : IVec S16 32) (v1707 : IVec S16 32) : Prop :=
  (∀ a x, ((![v1680, v1707] : Fin 2 → IVec S16 32) a x).toNat < S8x1696.size a)
theorem k1_idx380_inb : ∀ (v1680 : IVec S16 32) (v1707 : IVec S16 32) (k1_hw380 : k1_chk380 v1680 v1707), ∀ a x, ((![v1680, v1707] : Fin 2 → IVec S16 32) a x).toNat < S8x1696.size a := fun v1680 v1707 k1_hw380 => k1_hw380

def k1_chk381 (v1680 : IVec S16 32) (v1716 : IVec S16 32) : Prop :=
  (∀ a x, ((![v1680, v1716] : Fin 2 → IVec S16 32) a x).toNat < S8x1696.size a)
theorem k1_idx381_inb : ∀ (v1680 : IVec S16 32) (v1716 : IVec S16 32) (k1_hw381 : k1_chk381 v1680 v1716), ∀ a x, ((![v1680, v1716] : Fin 2 → IVec S16 32) a x).toNat < S8x1696.size a := fun v1680 v1716 k1_hw381 => k1_hw381

def k1_chk382 (v1680 : IVec S16 32) (v1725 : IVec S16 32) : Prop :=
  (∀ a x, ((![v1680, v1725] : Fin 2 → IVec S16 32) a x).toNat < S8x1696.size a)
theorem k1_idx382_inb : ∀ (v1680 : IVec S16 32) (v1725 : IVec S16 32) (k1_hw382 : k1_chk382 v1680 v1725), ∀ a x, ((![v1680, v1725] : Fin 2 → IVec S16 32) a x).toNat < S8x1696.size a := fun v1680 v1725 k1_hw382 => k1_hw382

def k1_chk383 (v1680 : IVec S16 32) (v1734 : IVec S16 32) : Prop :=
  (∀ a x, ((![v1680, v1734] : Fin 2 → IVec S16 32) a x).toNat < S8x1696.size a)
theorem k1_idx383_inb : ∀ (v1680 : IVec S16 32) (v1734 : IVec S16 32) (k1_hw383 : k1_chk383 v1680 v1734), ∀ a x, ((![v1680, v1734] : Fin 2 → IVec S16 32) a x).toNat < S8x1696.size a := fun v1680 v1734 k1_hw383 => k1_hw383

def k1_chk384 (v1680 : IVec S16 32) (v1743 : IVec S16 32) : Prop :=
  (∀ a x, ((![v1680, v1743] : Fin 2 → IVec S16 32) a x).toNat < S8x1696.size a)
theorem k1_idx384_inb : ∀ (v1680 : IVec S16 32) (v1743 : IVec S16 32) (k1_hw384 : k1_chk384 v1680 v1743), ∀ a x, ((![v1680, v1743] : Fin 2 → IVec S16 32) a x).toNat < S8x1696.size a := fun v1680 v1743 k1_hw384 => k1_hw384

def k1_chk385 (v1680 : IVec S16 32) (v1752 : IVec S16 32) : Prop :=
  (∀ a x, ((![v1680, v1752] : Fin 2 → IVec S16 32) a x).toNat < S8x1696.size a)
theorem k1_idx385_inb : ∀ (v1680 : IVec S16 32) (v1752 : IVec S16 32) (k1_hw385 : k1_chk385 v1680 v1752), ∀ a x, ((![v1680, v1752] : Fin 2 → IVec S16 32) a x).toNat < S8x1696.size a := fun v1680 v1752 k1_hw385 => k1_hw385

def k1_chk386 (v1680 : IVec S16 32) (v1761 : IVec S16 32) : Prop :=
  (∀ a x, ((![v1680, v1761] : Fin 2 → IVec S16 32) a x).toNat < S8x1696.size a)
theorem k1_idx386_inb : ∀ (v1680 : IVec S16 32) (v1761 : IVec S16 32) (k1_hw386 : k1_chk386 v1680 v1761), ∀ a x, ((![v1680, v1761] : Fin 2 → IVec S16 32) a x).toNat < S8x1696.size a := fun v1680 v1761 k1_hw386 => k1_hw386

def k1_chk387 (v1680 : IVec S16 32) (v1770 : IVec S16 32) : Prop :=
  (∀ a x, ((![v1680, v1770] : Fin 2 → IVec S16 32) a x).toNat < S8x1696.size a)
theorem k1_idx387_inb : ∀ (v1680 : IVec S16 32) (v1770 : IVec S16 32) (k1_hw387 : k1_chk387 v1680 v1770), ∀ a x, ((![v1680, v1770] : Fin 2 → IVec S16 32) a x).toNat < S8x1696.size a := fun v1680 v1770 k1_hw387 => k1_hw387

def k1_chk388 (v1680 : IVec S16 32) (v1779 : IVec S16 32) : Prop :=
  (∀ a x, ((![v1680, v1779] : Fin 2 → IVec S16 32) a x).toNat < S8x1696.size a)
theorem k1_idx388_inb : ∀ (v1680 : IVec S16 32) (v1779 : IVec S16 32) (k1_hw388 : k1_chk388 v1680 v1779), ∀ a x, ((![v1680, v1779] : Fin 2 → IVec S16 32) a x).toNat < S8x1696.size a := fun v1680 v1779 k1_hw388 => k1_hw388

def k1_chk389 (v1680 : IVec S16 32) (v1788 : IVec S16 32) : Prop :=
  (∀ a x, ((![v1680, v1788] : Fin 2 → IVec S16 32) a x).toNat < S8x1696.size a)
theorem k1_idx389_inb : ∀ (v1680 : IVec S16 32) (v1788 : IVec S16 32) (k1_hw389 : k1_chk389 v1680 v1788), ∀ a x, ((![v1680, v1788] : Fin 2 → IVec S16 32) a x).toNat < S8x1696.size a := fun v1680 v1788 k1_hw389 => k1_hw389

def k1_chk390 (v1680 : IVec S16 32) (v1798 : IVec S16 32) : Prop :=
  (∀ a x, ((![v1680, v1798] : Fin 2 → IVec S16 32) a x).toNat < S8x1696.size a)
theorem k1_idx390_inb : ∀ (v1680 : IVec S16 32) (v1798 : IVec S16 32) (k1_hw390 : k1_chk390 v1680 v1798), ∀ a x, ((![v1680, v1798] : Fin 2 → IVec S16 32) a x).toNat < S8x1696.size a := fun v1680 v1798 k1_hw390 => k1_hw390

def k1_chk391 (v1799 : IVec S16 32) (v1808 : IVec S16 32) : Prop :=
  (∀ a x, ((![v1799, v1808] : Fin 2 → IVec S16 32) a x).toNat < S8x1696.size a)
theorem k1_idx391_inb : ∀ (v1799 : IVec S16 32) (v1808 : IVec S16 32) (k1_hw391 : k1_chk391 v1799 v1808), ∀ a x, ((![v1799, v1808] : Fin 2 → IVec S16 32) a x).toNat < S8x1696.size a := fun v1799 v1808 k1_hw391 => k1_hw391

def k1_chk392 (v1799 : IVec S16 32) (v1817 : IVec S16 32) : Prop :=
  (∀ a x, ((![v1799, v1817] : Fin 2 → IVec S16 32) a x).toNat < S8x1696.size a)
theorem k1_idx392_inb : ∀ (v1799 : IVec S16 32) (v1817 : IVec S16 32) (k1_hw392 : k1_chk392 v1799 v1817), ∀ a x, ((![v1799, v1817] : Fin 2 → IVec S16 32) a x).toNat < S8x1696.size a := fun v1799 v1817 k1_hw392 => k1_hw392

def k1_chk393 (v1799 : IVec S16 32) (v1826 : IVec S16 32) : Prop :=
  (∀ a x, ((![v1799, v1826] : Fin 2 → IVec S16 32) a x).toNat < S8x1696.size a)
theorem k1_idx393_inb : ∀ (v1799 : IVec S16 32) (v1826 : IVec S16 32) (k1_hw393 : k1_chk393 v1799 v1826), ∀ a x, ((![v1799, v1826] : Fin 2 → IVec S16 32) a x).toNat < S8x1696.size a := fun v1799 v1826 k1_hw393 => k1_hw393

def k1_chk394 (v1799 : IVec S16 32) (v1835 : IVec S16 32) : Prop :=
  (∀ a x, ((![v1799, v1835] : Fin 2 → IVec S16 32) a x).toNat < S8x1696.size a)
theorem k1_idx394_inb : ∀ (v1799 : IVec S16 32) (v1835 : IVec S16 32) (k1_hw394 : k1_chk394 v1799 v1835), ∀ a x, ((![v1799, v1835] : Fin 2 → IVec S16 32) a x).toNat < S8x1696.size a := fun v1799 v1835 k1_hw394 => k1_hw394

def k1_chk395 (v1799 : IVec S16 32) (v1844 : IVec S16 32) : Prop :=
  (∀ a x, ((![v1799, v1844] : Fin 2 → IVec S16 32) a x).toNat < S8x1696.size a)
theorem k1_idx395_inb : ∀ (v1799 : IVec S16 32) (v1844 : IVec S16 32) (k1_hw395 : k1_chk395 v1799 v1844), ∀ a x, ((![v1799, v1844] : Fin 2 → IVec S16 32) a x).toNat < S8x1696.size a := fun v1799 v1844 k1_hw395 => k1_hw395

def k1_chk396 (v1799 : IVec S16 32) (v1853 : IVec S16 32) : Prop :=
  (∀ a x, ((![v1799, v1853] : Fin 2 → IVec S16 32) a x).toNat < S8x1696.size a)
theorem k1_idx396_inb : ∀ (v1799 : IVec S16 32) (v1853 : IVec S16 32) (k1_hw396 : k1_chk396 v1799 v1853), ∀ a x, ((![v1799, v1853] : Fin 2 → IVec S16 32) a x).toNat < S8x1696.size a := fun v1799 v1853 k1_hw396 => k1_hw396

def k1_chk397 (v1799 : IVec S16 32) (v1862 : IVec S16 32) : Prop :=
  (∀ a x, ((![v1799, v1862] : Fin 2 → IVec S16 32) a x).toNat < S8x1696.size a)
theorem k1_idx397_inb : ∀ (v1799 : IVec S16 32) (v1862 : IVec S16 32) (k1_hw397 : k1_chk397 v1799 v1862), ∀ a x, ((![v1799, v1862] : Fin 2 → IVec S16 32) a x).toNat < S8x1696.size a := fun v1799 v1862 k1_hw397 => k1_hw397

def k1_chk398 (v1799 : IVec S16 32) (v1871 : IVec S16 32) : Prop :=
  (∀ a x, ((![v1799, v1871] : Fin 2 → IVec S16 32) a x).toNat < S8x1696.size a)
theorem k1_idx398_inb : ∀ (v1799 : IVec S16 32) (v1871 : IVec S16 32) (k1_hw398 : k1_chk398 v1799 v1871), ∀ a x, ((![v1799, v1871] : Fin 2 → IVec S16 32) a x).toNat < S8x1696.size a := fun v1799 v1871 k1_hw398 => k1_hw398

def k1_chk399 (v1799 : IVec S16 32) (v1880 : IVec S16 32) : Prop :=
  (∀ a x, ((![v1799, v1880] : Fin 2 → IVec S16 32) a x).toNat < S8x1696.size a)
theorem k1_idx399_inb : ∀ (v1799 : IVec S16 32) (v1880 : IVec S16 32) (k1_hw399 : k1_chk399 v1799 v1880), ∀ a x, ((![v1799, v1880] : Fin 2 → IVec S16 32) a x).toNat < S8x1696.size a := fun v1799 v1880 k1_hw399 => k1_hw399

def k1_chk400 (v1799 : IVec S16 32) (v1889 : IVec S16 32) : Prop :=
  (∀ a x, ((![v1799, v1889] : Fin 2 → IVec S16 32) a x).toNat < S8x1696.size a)
theorem k1_idx400_inb : ∀ (v1799 : IVec S16 32) (v1889 : IVec S16 32) (k1_hw400 : k1_chk400 v1799 v1889), ∀ a x, ((![v1799, v1889] : Fin 2 → IVec S16 32) a x).toNat < S8x1696.size a := fun v1799 v1889 k1_hw400 => k1_hw400

def k1_chk401 (v1799 : IVec S16 32) (v1898 : IVec S16 32) : Prop :=
  (∀ a x, ((![v1799, v1898] : Fin 2 → IVec S16 32) a x).toNat < S8x1696.size a)
theorem k1_idx401_inb : ∀ (v1799 : IVec S16 32) (v1898 : IVec S16 32) (k1_hw401 : k1_chk401 v1799 v1898), ∀ a x, ((![v1799, v1898] : Fin 2 → IVec S16 32) a x).toNat < S8x1696.size a := fun v1799 v1898 k1_hw401 => k1_hw401

def k1_chk402 (v1799 : IVec S16 32) (v1907 : IVec S16 32) : Prop :=
  (∀ a x, ((![v1799, v1907] : Fin 2 → IVec S16 32) a x).toNat < S8x1696.size a)
theorem k1_idx402_inb : ∀ (v1799 : IVec S16 32) (v1907 : IVec S16 32) (k1_hw402 : k1_chk402 v1799 v1907), ∀ a x, ((![v1799, v1907] : Fin 2 → IVec S16 32) a x).toNat < S8x1696.size a := fun v1799 v1907 k1_hw402 => k1_hw402

def k1_chk403 (v1799 : IVec S16 32) (v1917 : IVec S16 32) : Prop :=
  (∀ a x, ((![v1799, v1917] : Fin 2 → IVec S16 32) a x).toNat < S8x1696.size a)
theorem k1_idx403_inb : ∀ (v1799 : IVec S16 32) (v1917 : IVec S16 32) (k1_hw403 : k1_chk403 v1799 v1917), ∀ a x, ((![v1799, v1917] : Fin 2 → IVec S16 32) a x).toNat < S8x1696.size a := fun v1799 v1917 k1_hw403 => k1_hw403

def k1_chk404 (v1918 : IVec S16 32) (v1927 : IVec S16 32) : Prop :=
  (∀ a x, ((![v1918, v1927] : Fin 2 → IVec S16 32) a x).toNat < S8x1696.size a)
theorem k1_idx404_inb : ∀ (v1918 : IVec S16 32) (v1927 : IVec S16 32) (k1_hw404 : k1_chk404 v1918 v1927), ∀ a x, ((![v1918, v1927] : Fin 2 → IVec S16 32) a x).toNat < S8x1696.size a := fun v1918 v1927 k1_hw404 => k1_hw404

def k1_chk405 (v1918 : IVec S16 32) (v1936 : IVec S16 32) : Prop :=
  (∀ a x, ((![v1918, v1936] : Fin 2 → IVec S16 32) a x).toNat < S8x1696.size a)
theorem k1_idx405_inb : ∀ (v1918 : IVec S16 32) (v1936 : IVec S16 32) (k1_hw405 : k1_chk405 v1918 v1936), ∀ a x, ((![v1918, v1936] : Fin 2 → IVec S16 32) a x).toNat < S8x1696.size a := fun v1918 v1936 k1_hw405 => k1_hw405

def k1_chk406 (v1918 : IVec S16 32) (v1945 : IVec S16 32) : Prop :=
  (∀ a x, ((![v1918, v1945] : Fin 2 → IVec S16 32) a x).toNat < S8x1696.size a)
theorem k1_idx406_inb : ∀ (v1918 : IVec S16 32) (v1945 : IVec S16 32) (k1_hw406 : k1_chk406 v1918 v1945), ∀ a x, ((![v1918, v1945] : Fin 2 → IVec S16 32) a x).toNat < S8x1696.size a := fun v1918 v1945 k1_hw406 => k1_hw406

def k1_chk407 (v1918 : IVec S16 32) (v1954 : IVec S16 32) : Prop :=
  (∀ a x, ((![v1918, v1954] : Fin 2 → IVec S16 32) a x).toNat < S8x1696.size a)
theorem k1_idx407_inb : ∀ (v1918 : IVec S16 32) (v1954 : IVec S16 32) (k1_hw407 : k1_chk407 v1918 v1954), ∀ a x, ((![v1918, v1954] : Fin 2 → IVec S16 32) a x).toNat < S8x1696.size a := fun v1918 v1954 k1_hw407 => k1_hw407

def k1_chk408 (v1918 : IVec S16 32) (v1963 : IVec S16 32) : Prop :=
  (∀ a x, ((![v1918, v1963] : Fin 2 → IVec S16 32) a x).toNat < S8x1696.size a)
theorem k1_idx408_inb : ∀ (v1918 : IVec S16 32) (v1963 : IVec S16 32) (k1_hw408 : k1_chk408 v1918 v1963), ∀ a x, ((![v1918, v1963] : Fin 2 → IVec S16 32) a x).toNat < S8x1696.size a := fun v1918 v1963 k1_hw408 => k1_hw408

def k1_chk409 (v1918 : IVec S16 32) (v1972 : IVec S16 32) : Prop :=
  (∀ a x, ((![v1918, v1972] : Fin 2 → IVec S16 32) a x).toNat < S8x1696.size a)
theorem k1_idx409_inb : ∀ (v1918 : IVec S16 32) (v1972 : IVec S16 32) (k1_hw409 : k1_chk409 v1918 v1972), ∀ a x, ((![v1918, v1972] : Fin 2 → IVec S16 32) a x).toNat < S8x1696.size a := fun v1918 v1972 k1_hw409 => k1_hw409

def k1_chk410 (v1918 : IVec S16 32) (v1981 : IVec S16 32) : Prop :=
  (∀ a x, ((![v1918, v1981] : Fin 2 → IVec S16 32) a x).toNat < S8x1696.size a)
theorem k1_idx410_inb : ∀ (v1918 : IVec S16 32) (v1981 : IVec S16 32) (k1_hw410 : k1_chk410 v1918 v1981), ∀ a x, ((![v1918, v1981] : Fin 2 → IVec S16 32) a x).toNat < S8x1696.size a := fun v1918 v1981 k1_hw410 => k1_hw410

def k1_chk411 (v1918 : IVec S16 32) (v1990 : IVec S16 32) : Prop :=
  (∀ a x, ((![v1918, v1990] : Fin 2 → IVec S16 32) a x).toNat < S8x1696.size a)
theorem k1_idx411_inb : ∀ (v1918 : IVec S16 32) (v1990 : IVec S16 32) (k1_hw411 : k1_chk411 v1918 v1990), ∀ a x, ((![v1918, v1990] : Fin 2 → IVec S16 32) a x).toNat < S8x1696.size a := fun v1918 v1990 k1_hw411 => k1_hw411

def k1_chk412 (v1918 : IVec S16 32) (v1999 : IVec S16 32) : Prop :=
  (∀ a x, ((![v1918, v1999] : Fin 2 → IVec S16 32) a x).toNat < S8x1696.size a)
theorem k1_idx412_inb : ∀ (v1918 : IVec S16 32) (v1999 : IVec S16 32) (k1_hw412 : k1_chk412 v1918 v1999), ∀ a x, ((![v1918, v1999] : Fin 2 → IVec S16 32) a x).toNat < S8x1696.size a := fun v1918 v1999 k1_hw412 => k1_hw412

def k1_chk413 (v1918 : IVec S16 32) (v2008 : IVec S16 32) : Prop :=
  (∀ a x, ((![v1918, v2008] : Fin 2 → IVec S16 32) a x).toNat < S8x1696.size a)
theorem k1_idx413_inb : ∀ (v1918 : IVec S16 32) (v2008 : IVec S16 32) (k1_hw413 : k1_chk413 v1918 v2008), ∀ a x, ((![v1918, v2008] : Fin 2 → IVec S16 32) a x).toNat < S8x1696.size a := fun v1918 v2008 k1_hw413 => k1_hw413

def k1_chk414 (v1918 : IVec S16 32) (v2017 : IVec S16 32) : Prop :=
  (∀ a x, ((![v1918, v2017] : Fin 2 → IVec S16 32) a x).toNat < S8x1696.size a)
theorem k1_idx414_inb : ∀ (v1918 : IVec S16 32) (v2017 : IVec S16 32) (k1_hw414 : k1_chk414 v1918 v2017), ∀ a x, ((![v1918, v2017] : Fin 2 → IVec S16 32) a x).toNat < S8x1696.size a := fun v1918 v2017 k1_hw414 => k1_hw414

def k1_chk415 (v1918 : IVec S16 32) (v2026 : IVec S16 32) : Prop :=
  (∀ a x, ((![v1918, v2026] : Fin 2 → IVec S16 32) a x).toNat < S8x1696.size a)
theorem k1_idx415_inb : ∀ (v1918 : IVec S16 32) (v2026 : IVec S16 32) (k1_hw415 : k1_chk415 v1918 v2026), ∀ a x, ((![v1918, v2026] : Fin 2 → IVec S16 32) a x).toNat < S8x1696.size a := fun v1918 v2026 k1_hw415 => k1_hw415

def k1_chk416 (v1918 : IVec S16 32) (v2036 : IVec S16 32) : Prop :=
  (∀ a x, ((![v1918, v2036] : Fin 2 → IVec S16 32) a x).toNat < S8x1696.size a)
theorem k1_idx416_inb : ∀ (v1918 : IVec S16 32) (v2036 : IVec S16 32) (k1_hw416 : k1_chk416 v1918 v2036), ∀ a x, ((![v1918, v2036] : Fin 2 → IVec S16 32) a x).toNat < S8x1696.size a := fun v1918 v2036 k1_hw416 => k1_hw416
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200x64 : Shape := ⟨3, ![1024, 200, 64]⟩
abbrev S1024x200 : Shape := ⟨2, ![1024, 200]⟩
abbrev S64 : Shape := ⟨1, ![64]⟩
abbrev S1 : Shape := ⟨1, ![1]⟩
abbrev S_ : Shape := ⟨0, ![]⟩
abbrev S1024x1x64 : Shape := ⟨3, ![1024, 1, 64]⟩
abbrev S1x1 : Shape := ⟨2, ![1, 1]⟩
abbrev S1024 : Shape := ⟨1, ![1024]⟩
abbrev S1024x1 : Shape := ⟨2, ![1024, 1]⟩
abbrev S1024x100000 : Shape := ⟨2, ![1024, 100000]⟩
abbrev S1024x200x1 : Shape := ⟨3, ![1024, 200, 1]⟩
abbrev S1024x200x2 : Shape := ⟨3, ![1024, 200, 2]⟩

abbrev nBuf : Space → Nat
  | .hbm => 60
  | .vmem => 0
  | .smem => 0
  | _ => 0

abbrev bufTy : (tb : Table) → Fin (tcTables nBuf tb) → BufTy
  | .hbm, ⟨0, _⟩ => ⟨S1024x200x64, .f32⟩
  | .hbm, ⟨1, _⟩ => ⟨S1024x200, .i32⟩
  | .hbm, ⟨2, _⟩ => ⟨S64, .f32⟩
  | .hbm, ⟨3, _⟩ => ⟨S1, .f32⟩
  | .hbm, ⟨4, _⟩ => ⟨S_, .i32⟩
  | .hbm, ⟨5, _⟩ => ⟨S1024x200, .i32⟩
  | .hbm, ⟨6, _⟩ => ⟨S1024x200, .i1⟩
  | .hbm, ⟨7, _⟩ => ⟨S_, .i32⟩
  | .hbm, ⟨8, _⟩ => ⟨S1024x200, .i32⟩
  | .hbm, ⟨9, _⟩ => ⟨S1024x200, .i1⟩
  | .hbm, ⟨10, _⟩ => ⟨S1024x200, .i1⟩
  | .hbm, ⟨11, _⟩ => ⟨S1024x1x64, .f32⟩
  | .hbm, ⟨12, _⟩ => ⟨S1024x200x64, .f32⟩
  | .hbm, ⟨13, _⟩ => ⟨S1024x200x64, .f32⟩
  | .hbm, ⟨14, _⟩ => ⟨S1024x200x64, .f32⟩
  | .hbm, ⟨15, _⟩ => ⟨S1024x200, .f32⟩
  | .hbm, ⟨16, _⟩ => ⟨S1x1, .f32⟩
  | .hbm, ⟨17, _⟩ => ⟨S1024x200, .f32⟩
  | .hbm, ⟨18, _⟩ => ⟨S1024x200, .f32⟩
  | .hbm, ⟨19, _⟩ => ⟨S_, .f32⟩
  | .hbm, ⟨20, _⟩ => ⟨S_, .f32⟩
  | .hbm, ⟨21, _⟩ => ⟨S1024x200, .f32⟩
  | .hbm, ⟨22, _⟩ => ⟨S1024x200, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S1024x1, .f32⟩
  | .hbm, ⟨29, _⟩ => ⟨S1024x200, .f32⟩
  | .hbm, ⟨30, _⟩ => ⟨S1024x200, .f32⟩
  | .hbm, ⟨31, _⟩ => ⟨S1024x200, .f32⟩
  | .hbm, ⟨32, _⟩ => ⟨S_, .f32⟩
  | .hbm, ⟨33, _⟩ => ⟨S1024, .f32⟩
  | .hbm, ⟨34, _⟩ => ⟨S1024x1, .f32⟩
  | .hbm, ⟨35, _⟩ => ⟨S1024x200, .f32⟩
  | .hbm, ⟨36, _⟩ => ⟨S1024x200, .f32⟩
  | .hbm, ⟨37, _⟩ => ⟨S_, .f32⟩
  | .hbm, ⟨38, _⟩ => ⟨S1024x100000, .f32⟩
  | .hbm, ⟨39, _⟩ => ⟨S1024, .i32⟩
  | .hbm, ⟨40, _⟩ => ⟨S1024x1, .i32⟩
  | .hbm, ⟨41, _⟩ => ⟨S_, .i32⟩
  | .hbm, ⟨42, _⟩ => ⟨S1024x1, .i32⟩
  | .hbm, ⟨43, _⟩ => ⟨S1024x1, .i1⟩
  | .hbm, ⟨44, _⟩ => ⟨S_, .i32⟩
  | .hbm, ⟨45, _⟩ => ⟨S1024x1, .i32⟩
  | .hbm, ⟨46, _⟩ => ⟨S1024x1, .i32⟩
  | .hbm, ⟨47, _⟩ => ⟨S1024x1, .i32⟩
  | .hbm, ⟨48, _⟩ => ⟨S_, .i32⟩
  | .hbm, ⟨49, _⟩ => ⟨S1024x200, .i32⟩
  | .hbm, ⟨50, _⟩ => ⟨S1024x200, .i1⟩
  | .hbm, ⟨51, _⟩ => ⟨S_, .i32⟩
  | .hbm, ⟨52, _⟩ => ⟨S1024x200, .i32⟩
  | .hbm, ⟨53, _⟩ => ⟨S1024x200, .i32⟩
  | .hbm, ⟨54, _⟩ => ⟨S1024x200, .i32⟩
  | .hbm, ⟨55, _⟩ => ⟨S1024x200, .i32⟩
  | .hbm, ⟨56, _⟩ => ⟨S1024x200x1, .i32⟩
  | .hbm, ⟨57, _⟩ => ⟨S1024x200x1, .i32⟩
  | .hbm, ⟨58, _⟩ => ⟨S1024x200x2, .i32⟩
  | .hbm, ⟨59, _⟩ => ⟨S1024x100000, .f32⟩
  | _, _ => ⟨S1024x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Proof.Steps.lean ====
/-
  The SparseCore kernel's scatter passes as one list of equal steps.

  A group of eight rows is staged as 1600 index words and 1600 weights. A pass walks over the 104 windows of sixteen
  words (thirteen a row, the last one of a row half masked off) and scatters each window, masked to the words that
  belong to one range of columns, into a buffer of eight rows. `addStep` is a window of the pass that adds the weights,
  `zeroStep` a window of the pass that clears the same places again.
-/
module

public import proofs.«01_k».proof.Proof.Gen.KernelIdeal
public import Idealize.ShloMosaic.Lib.SparseCore.Ops

@[expose] public section

noncomputable section

namespace Cert.Proof.Body

open Cert.KernelIdeal Cert.KernelIdeal.Gen
open Idealize.ShloMosaic Idealize.SL.Sem

variable {F : FTy → Type} [FloatOps F]

/-- The programs of a vector subcore. -/
abbrev PV (i : grid1.Coords) (α : Type) :=
  Prog (TpuEff nD τ sig (Elt F) Λ₀ (.scVector ((i 0).castLE hcore1) ((i 1).castLE hsub1))) α

/-- The first staged word of window `n`. -/
def winOff (n : ℕ) : ℕ := 200 * (n / 13 % 8) + 16 * (n % 13)

theorem winOff_inb (n : ℕ) : ∀ a, (![winOff n] : Fin 1 → ℕ) a + S16.size a ≤ S1616.size a := by
  intro a
  obtain rfl : a = 0 := Subsingleton.elim _ _
  show winOff n + 16 ≤ 1616
  unfold winOff; omega

/-- Window `n` of a staging buffer. -/
abbrev winRect (n : ℕ) : Rect S1616 := Rect.unit (s := S1616) ![winOff n] S16.size (winOff_inb n)

/-- The row window `n` is scattered to, one copy a lane. -/
def winRow (n : ℕ) : IVec S16 32 := broadcast S16 (BitVec.ofNat 32 (n / 13))

/-- Every lane's place lies inside a buffer of eight rows and `W` columns. -/
def chkW (W : ℕ) (r l : IVec S16 32) : Prop :=
  ∀ a x, ((![r, l] : Fin 2 → IVec S16 32) a x).toNat < (⟨2, ![8, W]⟩ : Shape).size a

instance chkW.dec (W : ℕ) (r l : IVec S16 32) : Decidable (chkW W r l) :=
  decidable_of_iff' _ (Iff.of_eq (chkW.eq_1 W r l))

/-- The lanes of window `n` whose word lies in range `s` of columns, the last window of a row only in its first half. -/
def winMask (s : BitVec 32) (v5 : IVec S16 1) (n : ℕ) (v : IVec S16 32) : IVec S16 1 :=
  if n % 13 = 12 then andi (cmpi .eq (shrsi v (broadcast S16 13#32)) (broadcast S16 s)) v5
  else cmpi .eq (shrsi v (broadcast S16 13#32)) (broadcast S16 s)

/-- A word's column inside its range. -/
def locMain (_ : IVec S16 1) (v : IVec S16 32) : IVec S16 32 := andi v (broadcast S16 8191#32)
/-- A word's column inside the last range, column 0 on the lanes masked off. -/
def locTail (m : IVec S16 1) (v : IVec S16 32) : IVec S16 32 :=
  select m (andi v (broadcast S16 8191#32)) (broadcast S16 0#32)

/-- The float zero the buffers are cleared with. -/
abbrev zeroF : F .f32 := Scalar.ofBits .f32 0x00000000#32

/-- The lanes of the first half of a window. -/
abbrev low8 : IVec S16 1 := cmpi .slt (iota .scVector S16 32 [0] iota_S16_d0_w32_scVector) (broadcast S16 8#32)

section

variable {i : grid1.Coords} {W : ℕ} (buf : Memref sig .scVector .vmem ⟨2, ![8, W]⟩ .f32)
  (hst : (buf.access (.whole _)).Stores Finset.univ)
  (ids : Memref sig .scVector .vmem S1616 .i32) (ws : Memref sig .scVector .vmem S1616 .f32)
  (s : BitVec 32) (v5 : IVec S16 1) (loc : IVec S16 1 → IVec S16 32 → IVec S16 32) (z : FVec F S16 .f32)

/-- Window `n` of the adding pass. -/
def addStep (n : ℕ) : PV (F := F) i PUnit := do
  let v : Vec F S16 .i32 ← Prog.lift (.load ids (winRect n).toLoadRect (View.loadsAt_vmem h_S16))
  have hw : chkW W (winRow n) (loc (winMask s v5 n v) v) :=
    (← Prog.lift (TpuEff.assume (chkW W (winRow n) (loc (winMask s v5 n v) v)) (chkW.dec W _ _))).down
  let w : Vec F S16 .f32 ← Prog.lift (.load ws (winRect n).toLoadRect (View.loadsAt_vmem h_S16))
  SparseCore.vectorStoreIdx buf ![winRow n, loc (winMask s v5 n v) v] w (winMask s v5 n v) true hw hst

/-- Window `n` of the clearing pass. -/
def zeroStep (n : ℕ) : PV (F := F) i PUnit := do
  let v : Vec F S16 .i32 ← Prog.lift (.load ids (winRect n).toLoadRect (View.loadsAt_vmem h_S16))
  have hw : chkW W (winRow n) (loc (winMask s v5 n v) v) :=
    (← Prog.lift (TpuEff.assume (chkW W (winRow n) (loc (winMask s v5 n v) v)) (chkW.dec W _ _))).down
  SparseCore.vectorStoreIdx buf ![winRow n, loc (winMask s v5 n v) v] z (winMask s v5 n v) false hw hst

/-- The steps of a list one after the other, then `p`. -/
def runThen (st : ℕ → PV (F := F) i PUnit) (l : List ℕ) (p : PV (F := F) i PUnit) : PV (F := F) i PUnit :=
  l.foldr (fun n k => st n >>= fun _ => k) p

end

/-- The windows of a group in order. -/
def wins : List ℕ := List.range' 0 104

end Cert.Proof.Body

end
-- ==== Proof.Body.lean ====
/-
  The SparseCore kernel as it is printed, equal to a short program: clear the two buffers row by row, then for each
  group of eight rows stage its words and take the thirteen ranges of columns one after the other.
-/
module
public import proofs.«01_k».proof.Proof.Steps
@[expose] public section
noncomputable section
namespace Cert.Proof.Body
open Cert.KernelIdeal Cert.KernelIdeal.Gen
open Idealize.ShloMosaic Idealize.SL.Sem
variable {F : FTy → Type} [FloatOps F]
variable (i : grid1.Coords) (arg2 : Memref sig .scVector .hbm S204800 .i32) (harg2 : arg2.IsWhole) (arg3 : Memref sig .scVector .hbm S204800 .f32) (harg3 : arg3.IsWhole) (arg4 : Memref sig .scVector .hbm S1024x100000 .f32) (harg4 : arg4.IsWhole) (arg5 : Memref sig .scVector .vmem S8x8192 .f32) (harg5 : arg5.IsWhole) (arg6 : Memref sig .scVector .vmem S8x1696 .f32) (harg6 : arg6.IsWhole) (arg7 : Memref sig .scVector .vmem S1616 .i32) (harg7 : arg7.IsWhole) (arg8 : Memref sig .scVector .vmem S1616 .f32) (harg8 : arg8.IsWhole) (r0 : DmaSems sig S_) (r1 : DmaSems sig S_) (r2 : DmaSems sig S_) (r3 : DmaSems sig S_)

/-- Trip `t` of the loop over the twelve full ranges of columns: add, copy out, clear. -/
def trip (z : FVec F S16 .f32) (v5 : IVec S16 1) (g : Fin k1_t17_loop.trips) (t : Fin k1_t18_loop.trips) : PV (F := F) i PUnit :=
  runThen (addStep arg5 (View.stores_vmem_bits_univ h_S8x8192 rfl) arg7 arg8 (Scf.iv 0#32 1#32 t) v5 locMain) wins <|
  Prog.lift (.enqueueDma arg5 (.here (arg4.slice (Rect.unit (s := S1024x100000) (k1_off18 i g t) S8x8192.size (k1_off18_inb i g t)) (fun _ => rfl))) (.dma r2.sem) harg5.wordExact (View.wordExact_bits rfl) ⟨Or.inl rfl, trivial⟩) >>= fun _ =>
  Prog.lift (.waitDma2 r2.sem arg5 (arg4.slice (Rect.unit (s := S1024x100000) (k1_off18 i g t) S8x8192.size (k1_off18_inb i g t)) (fun _ => rfl)) harg5.wordExact (View.wordExact_bits rfl)) >>= fun _ =>
  runThen (zeroStep arg5 (View.stores_vmem_bits_univ h_S8x8192 rfl) arg7 (Scf.iv 0#32 1#32 t) v5 locMain z) wins (pure ⟨⟩)

/-- What follows the loop over the full ranges: the last range, added, copied out and cleared in the narrow buffer. -/
def lastRange (z : FVec F S16 .f32) (v5 : IVec S16 1) (g : Fin k1_t17_loop.trips) : PV (F := F) i PUnit :=
  runThen (addStep arg6 (View.stores_vmem_bits_univ h_S8x1696 rfl) arg7 arg8 12#32 v5 locTail) wins <|
  Prog.lift (.enqueueDma arg6 (.here (arg4.slice (Rect.unit (s := S1024x100000) (k1_off19 i g) S8x1696.size (k1_off19_inb i g)) (fun _ => rfl))) (.dma r3.sem) harg6.wordExact (View.wordExact_bits rfl) ⟨Or.inl rfl, trivial⟩) >>= fun _ =>
  Prog.lift (.waitDma2 r3.sem arg6 (arg4.slice (Rect.unit (s := S1024x100000) (k1_off19 i g) S8x1696.size (k1_off19_inb i g)) (fun _ => rfl)) harg6.wordExact (View.wordExact_bits rfl)) >>= fun _ =>
  runThen (zeroStep arg6 (View.stores_vmem_bits_univ h_S8x1696 rfl) arg7 12#32 v5 locTail z) wins (pure ⟨⟩)

def stagePre {α : Type} (g : Fin k1_t17_loop.trips) (p : PV (F := F) i α) : PV (F := F) i α :=
  Prog.lift (.enqueueDma (arg2.slice (Rect.unit (s := S204800) (k1_off17 i g) S1600.size (k1_off17_inb i g)) (fun _ => rfl)) (.here (arg7.slice (Rect.unit (s := S1616) ![0] S1600.size inb_S1616_S1600_0) (fun _ => rfl))) (.dma r0.sem) (View.wordExact_bits rfl) (View.wordExact_bits rfl) ⟨Or.inl rfl, trivial⟩) >>= fun _ =>
  Prog.lift (.waitDma2 r0.sem (arg2.slice (Rect.unit (s := S204800) (k1_off17 i g) S1600.size (k1_off17_inb i g)) (fun _ => rfl)) (arg7.slice (Rect.unit (s := S1616) ![0] S1600.size inb_S1616_S1600_0) (fun _ => rfl)) (View.wordExact_bits rfl) (View.wordExact_bits rfl)) >>= fun _ =>
  Prog.lift (.enqueueDma (arg3.slice (Rect.unit (s := S204800) (k1_off17 i g) S1600.size (k1_off17_inb i g)) (fun _ => rfl)) (.here (arg8.slice (Rect.unit (s := S1616) ![0] S1600.size inb_S1616_S1600_0) (fun _ => rfl))) (.dma r1.sem) (View.wordExact_bits rfl) (View.wordExact_bits rfl) ⟨Or.inl rfl, trivial⟩) >>= fun _ =>
  Prog.lift (.waitDma2 r1.sem (arg3.slice (Rect.unit (s := S204800) (k1_off17 i g) S1600.size (k1_off17_inb i g)) (fun _ => rfl)) (arg8.slice (Rect.unit (s := S1616) ![0] S1600.size inb_S1616_S1600_0) (fun _ => rfl)) (View.wordExact_bits rfl) (View.wordExact_bits rfl)) >>= fun _ => p

/-- One group of eight rows. -/
def group (z : FVec F S16 .f32) (v5 : IVec S16 1) (g : Fin k1_t17_loop.trips) : PV (F := F) i PUnit :=
  stagePre i arg2 arg3 arg7 arg8 r0 r1 g <|
  Scf.Loop.for k1_t18_loop k1_t18_ok PUnit.unit (fun t _ => trip i arg4 arg5 harg5 arg7 arg8 r2 z v5 g t) >>= fun _ =>
  lastRange i arg4 arg6 harg6 arg7 arg8 r3 z v5 g

set_option maxRecDepth 1000000 in
theorem part47 (v1 : BitVec 32) (z : FVec F S16 .f32) (v5 : IVec S16 1) (g : Fin k1_t17_loop.trips) :
   k1_part47 i arg2 harg2 arg3 harg3 arg4 harg4 arg5 harg5 arg6 harg6 arg7 harg7 arg8 harg8 r0 r1 r2 r3 v1 z v5 0#32 1#32 g
   = stagePre i arg2 arg3 arg7 arg8 r0 r1 g (
  Scf.Loop.for k1_t18_loop k1_t18_ok PUnit.unit (fun t _ => trip i arg4 arg5 harg5 arg7 arg8 r2 z v5 g t) >>= fun _ =>
  (do let v ← Prog.lift (.load arg7 (winRect 0).toLoadRect (View.loadsAt_vmem h_S16))
      pure ⟨winRow 0, winMask 12#32 v5 0 v, locTail (winMask 12#32 v5 0 v) v⟩)) := rfl

theorem bind_stage {α β γ : Type} {g : Fin k1_t17_loop.trips} (L : PV (F := F) i PUnit) (f : PUnit → PV (F := F) i α) (G : α → PV (F := F) i β) (H : β → PV (F := F) i γ) :
    (stagePre i arg2 arg3 arg7 arg8 r0 r1 g (L >>= f) >>= G) >>= H = stagePre i arg2 arg3 arg7 arg8 r0 r1 g (L >>= fun x => (f x >>= G) >>= H) := by
  simp only [stagePre, bind_assoc]

/-- Window `n` of the clearing pass, scattered to the row `row` names. -/
def zeroAt {W : ℕ} (buf : Memref sig .scVector .vmem ⟨2, ![8, W]⟩ .f32) (hst : (buf.access (.whole _)).Stores Finset.univ)
    (ids : Memref sig .scVector .vmem S1616 .i32) (s : BitVec 32) (v5 : IVec S16 1) (loc : IVec S16 1 → IVec S16 32 → IVec S16 32)
    (z : FVec F S16 .f32) (row : IVec S16 32) (n : ℕ) : PV (F := F) i PUnit := do
  let v : Vec F S16 .i32 ← Prog.lift (.load ids (winRect n).toLoadRect (View.loadsAt_vmem h_S16))
  have hw : chkW W row (loc (winMask s v5 n v) v) :=
    (← Prog.lift (TpuEff.assume (chkW W row (loc (winMask s v5 n v) v)) (chkW.dec W _ _))).down
  SparseCore.vectorStoreIdx buf ![row, loc (winMask s v5 n v) v] z (winMask s v5 n v) false hw hst

set_option maxRecDepth 1000000 in
/-- The printed body of one group is `group`. -/
theorem group_eq (v1 : BitVec 32) (z : FVec F S16 .f32) (v5 : IVec S16 1) (g : Fin k1_t17_loop.trips) :
   (k1_part107 i arg2 harg2 arg3 harg3 arg4 harg4 arg5 harg5 arg6 harg6 arg7 harg7 arg8 harg8 r0 r1 r2 r3 v1 z v5 0#32 1#32 g >>= fun x => do
       have hw : chkW 1696 x.1 (select x.2.1 x.2.2 (broadcast S16 0#32)) :=
         (← Prog.lift (TpuEff.assume (chkW 1696 x.1 (select x.2.1 x.2.2 (broadcast S16 0#32))) (chkW.dec 1696 _ _))).down
       SparseCore.vectorStoreIdx arg6 ![x.1, (select x.2.1 x.2.2 (broadcast S16 0#32))] z x.2.1 false hw (View.stores_vmem_bits_univ h_S8x1696 rfl)
       runThen (zeroAt i arg6 (View.stores_vmem_bits_univ h_S8x1696 rfl) arg7 12#32 v5 locTail z x.1) [102, 103] (pure ⟨⟩))
    = group i arg2 arg3 arg4 arg5 harg5 arg6 harg6 arg7 arg8 r0 r1 r2 r3 z v5 g := by
  unfold k1_part107
  rw [part47]
  exact (bind_stage i arg2 arg3 arg7 arg8 r0 r1 _ _ _ _).trans rfl

/-- A loop that stores `z` over one row of a buffer, sixteen words a trip. -/
def clearRow {W : ℕ} (buf : Memref sig .scVector .vmem ⟨2, ![8, W]⟩ .f32) (L : Scf.Loop 32) (ok : L.OK) (off : Fin L.trips → Fin 2 → ℕ)
    (inb : ∀ t a, off t a + S1x16.size a ≤ (⟨2, ![8, W]⟩ : Shape).size a) (z : FVec F S16 .f32) : PV (F := F) i PUnit :=
  Scf.Loop.for L ok PUnit.unit fun t _ => do
    let _ : Vec F S1x16 .f32 ← Prog.lift (.load buf (Rect.unit (s := ⟨2, ![8, W]⟩) (off t) S1x16.size (inb t)).toLoadRect (View.loadsAt_vmem h_S1x16))
    Prog.lift (.store buf (Rect.unit (s := ⟨2, ![8, W]⟩) (off t) S1x16.size (inb t)) (shapeCast S1x16 z shapeCasts_S16_S1x16) Finset.univ (View.stores_vmem_bits_univ h_S1x16 rfl) (.inl rfl))
    pure ⟨⟩

/-- The two buffers' rows cleared one after the other, then `p`. -/
def clearAll (z : FVec F S16 .f32) (p : PV (F := F) i PUnit) : PV (F := F) i PUnit :=
  clearRow i arg5 k1_t1_loop k1_t1_ok k1_off1 k1_off1_inb z >>= fun _ => clearRow i arg6 k1_t2_loop k1_t2_ok k1_off2 k1_off2_inb z >>= fun _ =>
  clearRow i arg5 k1_t3_loop k1_t3_ok k1_off3 k1_off3_inb z >>= fun _ => clearRow i arg6 k1_t4_loop k1_t4_ok k1_off4 k1_off4_inb z >>= fun _ =>
  clearRow i arg5 k1_t5_loop k1_t5_ok k1_off5 k1_off5_inb z >>= fun _ => clearRow i arg6 k1_t6_loop k1_t6_ok k1_off6 k1_off6_inb z >>= fun _ =>
  clearRow i arg5 k1_t7_loop k1_t7_ok k1_off7 k1_off7_inb z >>= fun _ => clearRow i arg6 k1_t8_loop k1_t8_ok k1_off8 k1_off8_inb z >>= fun _ =>
  clearRow i arg5 k1_t9_loop k1_t9_ok k1_off9 k1_off9_inb z >>= fun _ => clearRow i arg6 k1_t10_loop k1_t10_ok k1_off10 k1_off10_inb z >>= fun _ =>
  clearRow i arg5 k1_t11_loop k1_t11_ok k1_off11 k1_off11_inb z >>= fun _ => clearRow i arg6 k1_t12_loop k1_t12_ok k1_off12 k1_off12_inb z >>= fun _ =>
  clearRow i arg5 k1_t13_loop k1_t13_ok k1_off13 k1_off13_inb z >>= fun _ => clearRow i arg6 k1_t14_loop k1_t14_ok k1_off14 k1_off14_inb z >>= fun _ =>
  clearRow i arg5 k1_t15_loop k1_t15_ok k1_off15 k1_off15_inb z >>= fun _ => clearRow i arg6 k1_t16_loop k1_t16_ok k1_off16 k1_off16_inb z >>= fun _ => p

/-- The word of every lane of a cleared window. -/
abbrev zero16 : FVec F S16 .f32 := broadcast S16 zeroF

set_option maxRecDepth 1000000 in
theorem kernel_eq :
   cc1_sc_kernel (F := F) i arg2 harg2 arg3 harg3 arg4 harg4 arg5 harg5 arg6 harg6 arg7 harg7 arg8 harg8 r0 r1 r2 r3
   = clearAll i arg5 arg6 zero16 (Scf.Loop.for k1_t17_loop k1_t17_ok PUnit.unit (fun g _ => group i arg2 arg3 arg4 arg5 harg5 arg6 harg6 arg7 arg8 r0 r1 r2 r3 zero16 low8 g) >>= fun _ => pure ⟨⟩) := by
  unfold cc1_sc_kernel k1_part108
  unfold clearAll clearRow
  iterate 8 refine (bind_assoc _ _ _).trans (congrArg (Prog.bind _) (funext fun _ => ?_))
  refine (pure_bind _ _).trans ?_
  iterate 8 refine congrArg (Prog.bind _) (funext fun _ => ?_)
  refine congrArg (fun b => (Scf.Loop.for k1_t17_loop k1_t17_ok PUnit.unit b >>= fun _ => pure PUnit.unit : PV (F := F) i PUnit)) (funext fun g => funext fun _ => ?_)
  exact (group_eq i arg2 harg2 arg3 harg3 arg4 harg4 arg5 harg5 arg6 harg6 arg7 harg7 arg8 harg8 r0 r1 r2 r3
      (Scalar.addi (Scalar.muli (BitVec.ofNat 32 (i 1).val) 2#32) (BitVec.ofNat 32 (i 0).val)) zero16 low8 g)
end Cert.Proof.Body
-- ==== Proof.Windows.lean ====
/-
  What the scatter passes compute, window by window.

  `addVal … n` is a buffer after `n` windows of the adding pass over zeros: place `(r, c)` holds the weights, summed in
  order, of the positions of row `r` seen so far whose word is column `c` of the range. `zeroVal … n` is that buffer after
  `n` windows of the clearing pass. One window takes either at `n` to itself at `n + 1`.
-/
module

public import proofs.«01_k».proof.Proof.Steps
public import Idealize.ShloMosaic.Lib.WordCmp

@[expose] public section

noncomputable section

namespace Cert.Proof.Body

open Cert.KernelIdeal Cert.KernelIdeal.Gen
open Idealize.ShloMosaic Idealize.SL.Sem

variable {F : FTy → Type} [FloatOps F]

/-! ## One scatter, place by place -/

theorem foldl_apply {κ ι α : Type} (l : List κ) (st : κ → (ι → α) → ι → α) (st' : κ → ι → α → α)
    (h : ∀ k g j, st k g j = st' k j (g j)) (f : ι → α) (j : ι) :
    l.foldl (fun g k => st k g) f j = l.foldl (fun a k => st' k j a) (f j) := by
  induction l generalizing f with
  | nil => rfl
  | cons k l ih => simp only [List.foldl_cons]; rw [ih, h]

section Scatter

variable {s : Shape} {d : Fin 1 → ℕ} (f : Vec F s .f32) (idxs : Fin s.rank → IVec ⟨1, d⟩ 32) (v : Vec F ⟨1, d⟩ .f32)
  (mask : IVec ⟨1, d⟩ 1) (h : ∀ a x, (idxs a x).toNat < s.size a)

/-- Lane `k` is set and names place `j`. -/
def Names (j : s.Idx) (k : Fin (d 0)) : Prop := mask (Shape.ofLane k) = 1 ∧ ∀ a, (j a).val = (idxs a (Shape.ofLane k)).toNat

open Classical in
theorem storeIdx_add (j : s.Idx) : storeIdx f idxs v mask true h j
    = (List.finRange (d 0)).foldl (fun a k => if Names idxs mask j k then FloatOps.idxAddf a (v (Shape.ofLane k)) else a) (f j) := by
  unfold storeIdx
  refine foldl_apply _ (fun k g => _) (fun k j a => if Names idxs mask j k then FloatOps.idxAddf a (v (Shape.ofLane k)) else a) (fun k g i => ?_) f j
  by_cases hm : mask (Shape.ofLane k) = 1
  · simp only [hm, ↓reduceIte]
    have hp : (∀ a, (i a).val = (idxAt idxs h (Shape.ofLane k) a).val) ↔ Names idxs mask i k :=
      ⟨fun hh => ⟨hm, hh⟩, fun hh => hh.2⟩
    simp only [hp]
    split
    · rename_i hn
      rw [show idxAt idxs h (Shape.ofLane k) = i from funext fun a => Fin.ext (hn.2 a).symm]; rfl
    · rfl
  · have : ¬ Names idxs mask i k := fun hh => hm hh.1
    simp only [hm, this, ↓reduceIte]

open Classical in
theorem storeIdx_set (z : F .f32) (j : s.Idx) : storeIdx f idxs (fun _ => z) mask false h j
    = if ∃ k, Names idxs mask j k then z else f j := by
  have e : storeIdx f idxs (fun _ => z) mask false h j
      = (List.finRange (d 0)).foldl (fun a k => if Names idxs mask j k then z else a) (f j) := by
    unfold storeIdx
    refine foldl_apply _ (fun k g => _) (fun k j a => if Names idxs mask j k then z else a) (fun k g i => ?_) f j
    by_cases hm : mask (Shape.ofLane k) = 1
    · simp only [hm, ↓reduceIte]
      have hp : (∀ a, (i a).val = (idxAt idxs h (Shape.ofLane k) a).val) ↔ Names idxs mask i k :=
        ⟨fun hh => ⟨hm, hh⟩, fun hh => hh.2⟩
      simp only [hp]; rfl
    · have : ¬ Names idxs mask i k := fun hh => hm hh.1
      simp only [hm, this, ↓reduceIte]
  rw [e]
  have key : ∀ (l : List (Fin (d 0))) (a : F .f32),
      l.foldl (fun a k => if Names idxs mask j k then z else a) a = if ∃ k ∈ l, Names idxs mask j k then z else a := by
    intro l; induction l with
    | nil => intro a; simp
    | cons k l ih =>
      intro a; rw [List.foldl_cons, ih]
      by_cases hk : Names idxs mask j k <;> by_cases hl : ∃ k ∈ l, Names idxs mask j k <;> simp [hk, hl]
  rw [key]; simp

end Scatter

/-! ## The passes -/

/-- Word `n` of a staging buffer. -/
def at1 {α : Type} (f : S1616.Idx → α) (n : ℕ) : α := f (Shape.ofLane (d := ![1616]) ⟨n % 1616, Nat.mod_lt _ (by decide)⟩)

/-- How many positions of row `r` the first `n` windows cover. -/
def cnt (r n : ℕ) : ℕ := min 200 (16 * (n - 13 * r))

/-- Position `p` of row `r` is column `c` of range `s`. -/
def Hit (ids : S1616.Idx → BitVec 32) (s r c p : ℕ) : Prop := (at1 ids (200 * r + p)).toNat = 8192 * s + c

instance (ids : S1616.Idx → BitVec 32) (s r c p : ℕ) : Decidable (Hit ids s r c p) := inferInstanceAs (Decidable (_ = _))

/-- The weights of the first `m` positions of row `r` that are column `c` of range `s`, summed in order. -/
def sumTo (ids : S1616.Idx → BitVec 32) (ws : S1616.Idx → F .f32) (s r c m : ℕ) : F .f32 :=
  (List.range m).foldl (fun a p => if Hit ids s r c p then FloatOps.idxAddf a (at1 ws (200 * r + p)) else a) zeroF

section Passes

variable {W : ℕ} (ids : S1616.Idx → BitVec 32) (ws : S1616.Idx → F .f32) (s : ℕ)

/-- A buffer after `n` windows of the adding pass. -/
def addVal (W : ℕ) (n : ℕ) : Vec F ⟨2, ![8, W]⟩ .f32 := fun j => sumTo ids ws s (j 0).val (j 1).val (cnt (j 0).val n)

open Classical in
/-- A buffer after the adding pass and `n` windows of the clearing pass. -/
def zeroVal (W : ℕ) (n : ℕ) : Vec F ⟨2, ![8, W]⟩ .f32 := fun j =>
  if ∃ p < cnt (j 0).val n, Hit ids s (j 0).val (j 1).val p then zeroF else addVal ids ws s W 104 j

/-- A buffer of zeros. -/
def zeros (W : ℕ) : Vec F ⟨2, ![8, W]⟩ .f32 := fun _ => zeroF

theorem addVal_zero : addVal ids ws s W 0 = zeros W := by
  funext j; simp [addVal, zeros, cnt, sumTo]

theorem zeroVal_zero : zeroVal ids ws s W 0 = addVal ids ws s W 104 := by
  funext j; simp [zeroVal, cnt]

theorem cnt_last {r : ℕ} (h : r < 8) : cnt r 104 = 200 := by unfold cnt; omega

theorem zeroVal_last : zeroVal ids ws s W 104 = zeros W := by
  classical
  funext j
  have hr : (j 0).val < 8 := (j 0).isLt
  unfold zeroVal addVal zeros; rw [cnt_last hr]
  by_cases h : ∃ p < 200, Hit ids s (j 0).val (j 1).val p
  · rw [if_pos h]
  · rw [if_neg h]; unfold sumTo
    have : ∀ l : List ℕ, (∀ p ∈ l, p < 200) →
        l.foldl (fun a p => if Hit ids s (j 0).val (j 1).val p then FloatOps.idxAddf a (at1 ws (200 * (j 0).val + p)) else a) (zeroF (F := F)) = zeroF := by
      intro l; induction l with
      | nil => intro _; rfl
      | cons p l ih =>
        intro hl; rw [List.foldl_cons, if_neg fun hp => h ⟨p, hl p (by simp), hp⟩]
        exact ih fun q hq => hl q (by simp [hq])
    exact this _ fun p hp => List.mem_range.mp hp

end Passes

/-! ## The lanes of one window -/

/-- A rule for a word's place in its range, right on the lanes set. -/
def LocOK (loc : IVec S16 1 → IVec S16 32 → IVec S16 32) : Prop :=
  ∀ m v x, m x = 1 → loc m v x = v x &&& 8191#32

theorem locMain_ok : LocOK locMain := fun _ _ _ _ => rfl
theorem locTail_ok : LocOK locTail := fun m v x h => by
  show Scalar.select (m x) _ _ = _
  unfold Scalar.select; rw [if_pos h]; rfl

theorem low8_iff (k : Fin 16) : low8 (Shape.ofLane (d := ![16]) k) = 1 ↔ k.val < 8 := by
  revert k; decide

/-- The staged words of the positions are column numbers. -/
def InRange (ids : S1616.Idx → BitVec 32) : Prop := ∀ p < 1600, (at1 ids p).toNat < 100000

theorem shift_eq {v : BitVec 32} (hv : v.toNat < 100000) {s : ℕ} (hs : s < 13) :
    IntOp.cmpi .eq (IntOp.shrsi .vector v 13#32) (BitVec.ofNat 32 s) = 1#1 ↔ v.toNat / 8192 = s := by
  rw [WordCmp.cmpi_eq_eq_toNat]
  have : (IntOp.shrsi .vector v 13#32).toNat = v.toNat / 8192 := by
    show (if (13#32).toNat < 32 then v.sshiftRight' 13#32 else _).toNat = _
    rw [if_pos (by decide)]
    show (v.sshiftRight 13).toNat = _
    rw [BitVec.sshiftRight_eq_of_msb_false (by rw [BitVec.msb_eq_decide]; simp; omega)]
    rw [BitVec.toNat_ushiftRight, Nat.shiftRight_eq_div_pow]
  rw [this, BitVec.toNat_ofNat, Nat.mod_eq_of_lt (a := s) (by omega)]
  by_cases h : v.toNat / 8192 = s <;> simp [h]

section Lanes

variable {W : ℕ} {ids : S1616.Idx → BitVec 32} {s n : ℕ} {v : IVec S16 32}
  (hv : ∀ k : Fin 16, v (Shape.ofLane (d := ![16]) k) = at1 ids (winOff n + k.val))
  (hn : n < 104) (hs : s < 13) (hr : InRange ids)

include hv hn hs hr in
/-- A lane is set where its position is one of the row's and its word lies in the range. -/
theorem winMask_iff (k : Fin 16) : winMask (BitVec.ofNat 32 s) low8 n v (Shape.ofLane (d := ![16]) k) = 1
    ↔ 16 * (n % 13) + k.val < 200 ∧ (at1 ids (winOff n + k.val)).toNat / 8192 = s := by
  have hk : k.val < 16 := k.isLt
  have e : ∀ hlt : 16 * (n % 13) + k.val < 200,
      cmpi .eq (shrsi v (broadcast S16 13#32)) (broadcast S16 (BitVec.ofNat 32 s)) (Shape.ofLane (d := ![16]) k) = 1
        ↔ (at1 ids (winOff n + k.val)).toNat / 8192 = s := by
    intro hlt
    rw [← shift_eq (hr _ (by unfold winOff; omega)) hs, ← hv k]; rfl
  unfold winMask
  by_cases h : n % 13 = 12
  · rw [if_pos h]
    show IntOp.andi (cmpi .eq (shrsi v (broadcast S16 13#32)) (broadcast S16 (BitVec.ofNat 32 s)) (Shape.ofLane (d := ![16]) k)) (low8 (Shape.ofLane (d := ![16]) k)) = 1 ↔ _
    have ha : ∀ x y : BitVec 1, IntOp.andi x y = 1 ↔ x = 1 ∧ y = 1 := by decide
    rw [ha, low8_iff]
    constructor
    · rintro ⟨h1, h2⟩; have hlt : 16 * (n % 13) + k.val < 200 := by omega
      exact ⟨hlt, (e hlt).mp h1⟩
    · rintro ⟨h1, h2⟩; exact ⟨(e h1).mpr h2, by omega⟩
  · rw [if_neg h]
    have hlt : 16 * (n % 13) + k.val < 200 := by omega
    rw [e hlt]; simp [hlt]

theorem and_8191 (v : BitVec 32) : (v &&& 8191#32).toNat = v.toNat % 8192 := by
  rw [BitVec.toNat_and]; exact Nat.and_two_pow_sub_one_eq_mod v.toNat 13

include hv hn hs hr in
theorem names_iff {loc : IVec S16 1 → IVec S16 32 → IVec S16 32} (hl : LocOK loc) (hW : W ≤ 8192)
    (j : (⟨2, ![8, W]⟩ : Shape).Idx) (k : Fin 16) :
    Names (s := ⟨2, ![8, W]⟩) (d := ![16]) ![winRow n, loc (winMask (BitVec.ofNat 32 s) low8 n v) v] (winMask (BitVec.ofNat 32 s) low8 n v) j k
      ↔ n / 13 = (j 0).val ∧ 16 * (n % 13) + k.val < 200 ∧ Hit ids s (j 0).val (j 1).val (16 * (n % 13) + k.val) := by
  have hj0 : (j 0).val < 8 := (j 0).isLt
  have hj1 : (j 1).val < W := (j 1).isLt
  unfold Names
  rw [winMask_iff hv hn hs hr]
  have hrow : (winRow n (Shape.ofLane (d := ![16]) k)).toNat = n / 13 := by
    show (BitVec.ofNat 32 (n / 13)).toNat = _
    rw [BitVec.toNat_ofNat, Nat.mod_eq_of_lt (by omega)]
  have hoff : n / 13 = (j 0).val → 200 * (j 0).val + (16 * (n % 13) + k.val) = winOff n + k.val := by
    intro h; unfold winOff; omega
  constructor
  · rintro ⟨⟨h1, h2⟩, h3⟩
    have h30 := h3 0; have h31 := h3 1
    have h30' : (j 0).val = n / 13 := h30.trans hrow
    have h31' : (j 1).val = (at1 ids (winOff n + k.val)).toNat % 8192 := by
      refine h31.trans ?_
      show (loc _ v (Shape.ofLane (d := ![16]) k)).toNat = _
      rw [hl _ _ _ ((winMask_iff hv hn hs hr k).mpr ⟨h1, h2⟩), and_8191, hv k]
    refine ⟨h30'.symm, h1, ?_⟩
    unfold Hit; rw [hoff h30'.symm]; omega
  · rintro ⟨h0, h1, h2⟩
    unfold Hit at h2; rw [hoff h0] at h2
    have hm : (at1 ids (winOff n + k.val)).toNat / 8192 = s := by omega
    refine ⟨⟨h1, hm⟩, fun a => ?_⟩
    match a with
    | 0 => exact (hrow.trans h0).symm
    | 1 =>
      show _ = (loc _ v (Shape.ofLane (d := ![16]) k)).toNat
      rw [hl _ _ _ ((winMask_iff hv hn hs hr k).mpr ⟨h1, hm⟩), and_8191, hv k]
      omega

include hn in
theorem winRow_lt (x : S16.Idx) : (winRow n x).toNat < 8 := by
  show (BitVec.ofNat 32 (n / 13)).toNat < 8
  rw [BitVec.toNat_ofNat, Nat.mod_eq_of_lt (by omega)]; omega

include hn in
theorem chk_main : chkW 8192 (winRow n) (locMain (winMask (BitVec.ofNat 32 s) low8 n v) v) := by
  intro a x
  match a with
  | 0 => exact winRow_lt hn x
  | 1 =>
    show (v x &&& 8191#32).toNat < 8192
    rw [and_8191]; omega

include hv hn hr in
theorem chk_tail : chkW 1696 (winRow n) (locTail (winMask 12#32 low8 n v) v) := by
  intro a x
  match a with
  | 0 => exact winRow_lt hn x
  | 1 =>
    show (locTail (winMask 12#32 low8 n v) v x).toNat < 1696
    obtain ⟨k, rfl⟩ : ∃ k : Fin 16, x = Shape.ofLane (d := ![16]) k :=
      ⟨x 0, funext fun a => by obtain rfl : a = 0 := Subsingleton.elim _ _; rfl⟩
    by_cases hm : winMask 12#32 low8 n v (Shape.ofLane (d := ![16]) k) = 1
    · rw [locTail_ok _ _ _ hm, and_8191, hv k]
      obtain ⟨h1, h2⟩ := (winMask_iff (s := 12) hv hn (by decide) hr k).mp hm
      have := hr (winOff n + k.val) (by unfold winOff; omega)
      omega
    · show (Scalar.select (winMask 12#32 low8 n v (Shape.ofLane (d := ![16]) k)) (_ : BitVec 32) 0#32).toNat < _
      unfold Scalar.select; rw [if_neg hm]; show (0#32).toNat < 1696; decide

theorem foldl_finRange {α : Type} (m : ℕ) (st : α → ℕ → α) (a : α) :
    (List.finRange m).foldl (fun a k => st a k.val) a = (List.range m).foldl st a := by
  rw [← List.foldl_map (f := Fin.val) (g := st), List.map_coe_finRange_eq_range]

/-- A fold over sixteen lanes of which only the first `b` do anything. -/
theorem foldl_low {α : Type} (st : α → ℕ → α) (b : ℕ) (hb : b ≤ 16) (h : ∀ a k, b ≤ k → k < 16 → st a k = a) (a : α) :
    (List.range 16).foldl st a = (List.range b).foldl st a := by
  obtain ⟨c, hc⟩ := Nat.exists_eq_add_of_le hb
  rw [hc, List.range_add, List.foldl_append, List.foldl_map]
  generalize (List.range b).foldl st a = a'
  have : ∀ l : List ℕ, (∀ k ∈ l, k < c) → l.foldl (fun x y => st x (b + y)) a' = a' := by
    intro l; induction l with
    | nil => intro _; rfl
    | cons k l ih =>
      intro hl; rw [List.foldl_cons, h _ _ (Nat.le_add_right b k) (by have := hl k (by simp); omega)]
      exact ih fun q hq => hl q (by simp [hq])
  exact this _ fun k hk => List.mem_range.mp hk

include hv hn hs hr in
/-- One window of the adding pass. -/
theorem addVal_succ (ws : S1616.Idx → F .f32) {w : FVec F S16 .f32}
    (hw : ∀ k : Fin 16, w (Shape.ofLane (d := ![16]) k) = at1 ws (winOff n + k.val))
    {loc : IVec S16 1 → IVec S16 32 → IVec S16 32} (hl : LocOK loc) (hW : W ≤ 8192)
    (h : chkW W (winRow n) (loc (winMask (BitVec.ofNat 32 s) low8 n v) v)) :
    storeIdx (addVal ids ws s W n) ![winRow n, loc (winMask (BitVec.ofNat 32 s) low8 n v) v] w (winMask (BitVec.ofNat 32 s) low8 n v) true h
      = addVal ids ws s W (n + 1) := by
  classical
  funext j
  have hj0 : (j 0).val < 8 := (j 0).isLt
  refine (storeIdx_add (s := ⟨2, ![8, W]⟩) (d := ![16]) _ _ _ _ h j).trans ?_
  refine (congrArg (fun st => List.foldl st (addVal ids ws s W n j) (List.finRange 16)) (funext₂ fun a k =>
    if_congr (names_iff hv hn hs hr hl hW j k) (congrArg (FloatOps.idxAddf a) (hw k)) rfl)).trans ?_
  by_cases h0 : n / 13 = (j 0).val
  · have hc0 : cnt (j 0).val n = 16 * (n % 13) := by unfold cnt; omega
    have hc1 : cnt (j 0).val (n + 1) = 16 * (n % 13) + min 16 (200 - 16 * (n % 13)) := by unfold cnt; omega
    unfold addVal; rw [hc0, hc1]
    simp only [h0, true_and]
    have hoff : ∀ k, winOff n + k = 200 * (j 0).val + (16 * (n % 13) + k) := by intro k; unfold winOff; omega
    simp only [hoff]
    rw [foldl_finRange 16 (fun a k => if 16 * (n % 13) + k < 200 ∧ Hit ids s (j 0).val (j 1).val (16 * (n % 13) + k) then
        FloatOps.idxAddf a (at1 ws (200 * (j 0).val + (16 * (n % 13) + k))) else a)]
    rw [foldl_low _ (min 16 (200 - 16 * (n % 13))) (by omega) (by intro a k hk hk'; apply if_neg; omega)]
    conv_rhs => unfold sumTo; rw [List.range_add, List.foldl_append, List.foldl_map]
    change List.foldl _ (sumTo ids ws s (j 0).val (j 1).val (16 * (n % 13))) _ = List.foldl _ (sumTo ids ws s (j 0).val (j 1).val (16 * (n % 13))) _
    refine List.foldl_ext _ _ _ fun a k hk => ?_
    have : k < 16 ∧ 16 * (n % 13) + k < 200 := by have := List.mem_range.mp hk; omega
    simp only [this.2, true_and]
  · simp only [h0, false_and, ↓reduceIte]
    have hc : cnt (j 0).val (n + 1) = cnt (j 0).val n := by unfold cnt; omega
    rw [List.foldl_fixed]
    unfold addVal; rw [hc]

include hv hn hs hr in
/-- One window of the clearing pass. -/
theorem zeroVal_succ (ws : S1616.Idx → F .f32)
    {loc : IVec S16 1 → IVec S16 32 → IVec S16 32} (hl : LocOK loc) (hW : W ≤ 8192)
    (h : chkW W (winRow n) (loc (winMask (BitVec.ofNat 32 s) low8 n v) v)) :
    storeIdx (zeroVal ids ws s W n) ![winRow n, loc (winMask (BitVec.ofNat 32 s) low8 n v) v] (fun _ => zeroF) (winMask (BitVec.ofNat 32 s) low8 n v) false h
      = zeroVal ids ws s W (n + 1) := by
  classical
  funext j
  have hj0 : (j 0).val < 8 := (j 0).isLt
  refine (storeIdx_set (s := ⟨2, ![8, W]⟩) (d := ![16]) _ _ _ h _ j).trans ?_
  refine Eq.trans (if_congr (exists_congr fun k => names_iff hv hn hs hr hl hW j k) rfl rfl) ?_
  unfold zeroVal
  by_cases h0 : n / 13 = (j 0).val
  · have hc0 : cnt (j 0).val n = 16 * (n % 13) := by unfold cnt; omega
    have hc1 : cnt (j 0).val (n + 1) = 16 * (n % 13) + min 16 (200 - 16 * (n % 13)) := by unfold cnt; omega
    rw [hc0, hc1]
    by_cases hA : ∃ p < 16 * (n % 13), Hit ids s (j 0).val (j 1).val p
    · rw [if_pos hA, ite_self]
      obtain ⟨p, hp, hh⟩ := hA
      exact (if_pos ⟨p, by omega, hh⟩).symm
    · rw [if_neg hA]
      refine if_congr ?_ rfl rfl
      constructor
      · rintro ⟨k, -, hk, hh⟩; exact ⟨_, by have := k.isLt; omega, hh⟩
      · rintro ⟨p, hp, hh⟩
        have : ¬ p < 16 * (n % 13) := fun h => hA ⟨p, h, hh⟩
        exact ⟨⟨p - 16 * (n % 13), show _ < 16 by omega⟩, h0, show 16 * (n % 13) + (p - 16 * (n % 13)) < 200 by omega,
          by show Hit ids s _ _ (16 * (n % 13) + (p - 16 * (n % 13))); rwa [Nat.add_sub_cancel' (by omega)]⟩
  · have hc : cnt (j 0).val (n + 1) = cnt (j 0).val n := by unfold cnt; omega
    rw [hc, if_neg (by rintro ⟨k, hk, _⟩; exact h0 hk)]

end Lanes

end Cert.Proof.Body

end
-- ==== Proof.Common.lean ====
/-
  The launch's set-up: the program as the launch theorem sees it, the ghost state (the handshakes' rounds, the TensorCore
  pipeline's rounds and the transfers' counters), and the arrays' names.
-/
module

public import proofs.«01_k».proof.Proof.Body
public import proofs.«01_k».proof.Proof.Windows
public import Idealize.ShloMosaic.Lib.SparseCore.Quiescent
public import Idealize.ShloMosaic.Lib.StableHlo.Run
public import Idealize.ShloMosaic.Lib.Pipeline.Kit
public import Idealize.ShloMosaic.Lib.Memref
public import Idealize.ShloMosaic.Lib.Tactic

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL

/-- The TensorCore pipeline's rounds, the middle component. -/
def EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP; infer_instance

end Cert.Proof

end
-- ==== Proof.Passes.lean ====
/-
  The scatter passes run: a pass over a group's 104 windows takes a buffer of zeros to the sums of the range's columns,
  or those sums back to zeros.
-/
module

public import proofs.«01_k».proof.Proof.Common

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section Rules

variable (c : Thread nD τ) {α : Type} {s : Shape}

/-- A load through a rectangle of a memref held at known contents. -/
theorem wp_load_owns {Q : α → sProp 𝕄} {e : EltTy} {m : Memref sig c.2.kind .vmem s e} {r : Rect s} {hl : m.view.LoadsAt r.toLoadRect} {q : PosShare TreeShare}
    {X : s.Idx → Elt F e} {k : (r.shape.Idx → Elt F e) → Prog (TpuEff nD τ sig (Elt F) Λ₀ c.2) α} :
    (owns c m q X : sProp 𝕄)
      ⊢ iprop((owns c m q X -∗ wp frame (wpE (defs₀ (F := F)) 𝒱₀ c none) Set.univ (k fun x => X (r.emb x)) Q)
        -∗ wp frame (wpE (defs₀ (F := F)) 𝒱₀ c none) Set.univ (.op (.load m r.toLoadRect hl) k) Q) := by
  unfold owns
  iintro ⟨%f, %hf, H⟩ Hk
  iapply (wp_load 𝒱₀ c none Set.univ (m := m) (S := m.view.set) (View.setOn_subset_set _ _)) $$ H
  iintro H
  have e : m.view.readAt (Elt F) r.toLoadRect f = fun x => X (r.emb x) := by subst hf; rfl
  rw [e]
  iapply Hk
  iexists f; isplitr
  · ipureintro; exact hf
  · iexact H

omit [FloatOps F] in
/-- Held whole through the access of the whole rectangle, or as the memref: the same. -/
theorem owns_access {e : EltTy} {m : Memref sig c.2.kind .vmem s e} {q : PosShare TreeShare} {g : m.view.ty.Contents (Elt F)} {X : Vec F s e}
    (hX : (m.access (.whole s)).read (Elt F) g = X) :
    ((m.access (.whole s)).loc c ↦[(m.access (.whole s)).set]{q} g : sProp 𝕄) ⊢ owns c m q X := by
  have hset : (m.access (.whole s)).set = m.view.set := by rw [View.set_slice, Rect.set_whole]; rfl
  have hread : (m.access (.whole s)).read (Elt F) g = m.view.read (Elt F) g := by
    funext x
    show m.view.read (Elt F) g ((Rect.whole s).emb x) = _
    rw [Rect.emb_whole_apply]
  rw [hset, ← hX, hread]
  exact owns_intro c m q g

omit [FloatOps F] in
theorem access_owns {e : EltTy} {m : Memref sig c.2.kind .vmem s e} {q : PosShare TreeShare} {X : Vec F s e} :
    (owns c m q X : sProp 𝕄) ⊢ iprop(∃ g, ⌜(m.access (.whole s)).read (Elt F) g = X⌝ ∗ ((m.access (.whole s)).loc c ↦[(m.access (.whole s)).set]{q} g)) := by
  have hset : (m.access (.whole s)).set = m.view.set := by rw [View.set_slice, Rect.set_whole]; rfl
  have hread : ∀ g, (m.access (.whole s)).read (Elt F) g = m.view.read (Elt F) g := by
    intro g; funext x
    show m.view.read (Elt F) g ((Rect.whole s).emb x) = _
    rw [Rect.emb_whole_apply]
  unfold owns
  rw [hset]
  simp only [hread]
  exact .rfl

/-- A scatter into a memref held at known contents. -/
theorem wp_scatter_owns {Q : α → sProp 𝕄} {d : Fin 1 → ℕ} {m : Memref sig c.2.kind .vmem s .f32} {X : Vec F s .f32} {idxs : Fin s.rank → IVec ⟨1, d⟩ 32} {v : Vec F ⟨1, d⟩ .f32}
    {mask : IVec ⟨1, d⟩ 1} {add : Bool} {h : ∀ a x, (idxs a x).toNat < s.size a} {hs : (m.access (.whole s)).Stores Finset.univ}
    {k : PUnit → Prog (TpuEff nD τ sig (Elt F) Λ₀ c.2) α} :
    (owns c m fullShare X : sProp 𝕄)
      ⊢ iprop((owns c m fullShare (storeIdx X idxs v mask add h) -∗ wp frame (wpE (defs₀ (F := F)) 𝒱₀ c none) Set.univ (k ⟨⟩) Q)
        -∗ wp frame (wpE (defs₀ (F := F)) 𝒱₀ c none) Set.univ (SparseCore.vectorStoreIdx m idxs v mask add h hs >>= k) Q) := by
  refine (access_owns (F := F) c).trans ?_
  iintro ⟨%f, %hf, H⟩ Hk
  iapply (SparseCore.wp_vectorStoreIdx (defs := defs₀ (F := F)) 𝒱₀ c none Set.univ (base := m) (f := f)) $$ H
  iintro H
  iapply Hk
  iapply (owns_access (F := F) c (by rw [View.read_write_univ, hf])) $$ H

end Rules

/-! ## The passes -/

section Pass

variable (d : Dev nD) (i : grid1.Coords)

/-- The tile at coordinates `i`. -/
abbrev thr : Thread nD τ := V d ((i 0).castLE hcore1) ((i 1).castLE hsub1)

theorem winRect_emb (n : ℕ) (k : Fin 16) (hn : n < 104) {α : Type} (f : S1616.Idx → α) :
    f ((winRect n).emb (Shape.ofLane (d := ![16]) k)) = at1 f (winOff n + k.val) := by
  unfold at1
  refine congrArg f (funext fun a => Fin.ext ?_)
  obtain rfl : a = 0 := Subsingleton.elim _ _
  show winOff n + 1 * k.val = (winOff n + k.val) % 1616
  have := k.isLt
  rw [Nat.mod_eq_of_lt (by unfold winOff; omega), Nat.one_mul]

/-- Window `n` of a staging buffer's contents. -/
abbrev winVal {α : Type} (n : ℕ) (f : S1616.Idx → α) : S16.Idx → α := fun x => f ((winRect n).emb x)

/-- Every window's places lie in the buffer. -/
def ChkOK (W : ℕ) (s : ℕ) (loc : IVec S16 1 → IVec S16 32 → IVec S16 32) (ids : S1616.Idx → BitVec 32) : Prop :=
  ∀ n < 104, ∀ v : IVec S16 32, (∀ k : Fin 16, v (Shape.ofLane (d := ![16]) k) = at1 ids (winOff n + k.val)) →
    chkW W (winRow n) (loc (winMask (BitVec.ofNat 32 s) low8 n v) v)

theorem chkOK_main {s : ℕ} {ids : S1616.Idx → BitVec 32} : ChkOK 8192 s locMain ids := fun _ hn _ _ => chk_main hn
theorem chkOK_tail {ids : S1616.Idx → BitVec 32} (hr : InRange ids) : ChkOK 1696 12 locTail ids := fun _ hn _ hv => chk_tail hv hn hr

variable {W : ℕ} {buf : Memref sig .scVector .vmem ⟨2, ![8, W]⟩ .f32} {hst : (buf.access (.whole _)).Stores Finset.univ}
  {ids : Memref sig .scVector .vmem S1616 .i32} {ws : Memref sig .scVector .vmem S1616 .f32}
  {s : ℕ} {loc : IVec S16 1 → IVec S16 32 → IVec S16 32}
  {X : S1616.Idx → BitVec 32} {Y : S1616.Idx → F .f32} (hs : s < 13) (hr : InRange X) (hl : LocOK loc) (hW : W ≤ 8192) (hc : ChkOK W s loc X)

include hs hr hl hW hc in
theorem wp_addStep {Q : PUnit → sProp 𝕄} {n : ℕ} (hn : n < 104) {k : PUnit → PV (F := F) i PUnit} :
    iprop(owns (thr d i) ids fullShare X ∗ owns (thr d i) ws fullShare Y ∗ owns (thr d i) buf fullShare (addVal X Y s W n))
      ⊢ iprop(((owns (thr d i) ids fullShare X ∗ owns (thr d i) ws fullShare Y ∗ owns (thr d i) buf fullShare (addVal X Y s W (n + 1)))
            -∗ wp frame (wpE (defs₀ (F := F)) 𝒱₀ (thr d i) none) Set.univ (k ⟨⟩) Q)
        -∗ wp frame (wpE (defs₀ (F := F)) 𝒱₀ (thr d i) none) Set.univ (addStep buf hst ids ws (BitVec.ofNat 32 s) low8 loc n >>= k) Q) := by
  unfold addStep
  simp only [Prog.lift, Prog.bind_op, Prog.bind_ret, Prog.pure_eq_ret]
  iintro ⟨Hi, Hw, Hb⟩ Hk
  iapply (wp_load_owns (F := F) (thr d i)) $$ Hi
  iintro Hi
  have hv : ∀ k : Fin 16, winVal n X (Shape.ofLane (d := ![16]) k) = at1 X (winOff n + k.val) := fun k => winRect_emb n k hn X
  have hw : ∀ k : Fin 16, winVal n Y (Shape.ofLane (d := ![16]) k) = at1 Y (winOff n + k.val) := fun k => winRect_emb n k hn Y
  have hck := hc n hn _ hv
  iapply (wp_assume 𝒱₀ (thr d i) none Set.univ hck)
  iapply (wp_load_owns (F := F) (thr d i)) $$ Hw
  iintro Hw
  iapply (wp_scatter_owns (F := F) (thr d i)) $$ Hb
  iintro Hb
  iapply Hk
  isplitl [Hi]; · iexact Hi
  isplitl [Hw]; · iexact Hw
  rw [← addVal_succ hv hn hs hr Y hw hl hW hck]
  iexact Hb

include hs hr hl hW hc in
theorem wp_zeroStep {Q : PUnit → sProp 𝕄} {n : ℕ} (hn : n < 104) {k : PUnit → PV (F := F) i PUnit} :
    iprop(owns (thr d i) ids fullShare X ∗ owns (thr d i) buf fullShare (zeroVal X Y s W n))
      ⊢ iprop(((owns (thr d i) ids fullShare X ∗ owns (thr d i) buf fullShare (zeroVal X Y s W (n + 1)))
            -∗ wp frame (wpE (defs₀ (F := F)) 𝒱₀ (thr d i) none) Set.univ (k ⟨⟩) Q)
        -∗ wp frame (wpE (defs₀ (F := F)) 𝒱₀ (thr d i) none) Set.univ (zeroStep buf hst ids (BitVec.ofNat 32 s) low8 loc zero16 n >>= k) Q) := by
  unfold zeroStep
  simp only [Prog.lift, Prog.bind_op, Prog.bind_ret, Prog.pure_eq_ret]
  iintro ⟨Hi, Hb⟩ Hk
  iapply (wp_load_owns (F := F) (thr d i)) $$ Hi
  iintro Hi
  have hv : ∀ k : Fin 16, winVal n X (Shape.ofLane (d := ![16]) k) = at1 X (winOff n + k.val) := fun k => winRect_emb n k hn X
  have hck := hc n hn _ hv
  iapply (wp_assume 𝒱₀ (thr d i) none Set.univ hck)
  iapply (wp_scatter_owns (F := F) (thr d i)) $$ Hb
  iintro Hb
  iapply Hk
  isplitl [Hi]; · iexact Hi
  rw [← zeroVal_succ hv hn hs hr Y hl hW hck]
  iexact Hb

/-- A pass: an invariant carried over every window carries over the list of them. -/
theorem wp_runThen {Q : PUnit → sProp 𝕄} {st : ℕ → PV (F := F) i PUnit} {p : PV (F := F) i PUnit} (I : ℕ → sProp 𝕄)
    (h : ∀ n < 104, ∀ k : PUnit → PV (F := F) i PUnit,
      I n ⊢ iprop((I (n + 1) -∗ wp frame (wpE (defs₀ (F := F)) 𝒱₀ (thr d i) none) Set.univ (k ⟨⟩) Q)
        -∗ wp frame (wpE (defs₀ (F := F)) 𝒱₀ (thr d i) none) Set.univ (st n >>= k) Q)) :
    I 0 ⊢ iprop((I 104 -∗ wp frame (wpE (defs₀ (F := F)) 𝒱₀ (thr d i) none) Set.univ p Q)
        -∗ wp frame (wpE (defs₀ (F := F)) 𝒱₀ (thr d i) none) Set.univ (runThen st wins p) Q) := by
  have key : ∀ l a, a + l = 104 → (I a ⊢ iprop((I 104 -∗ wp frame (wpE (defs₀ (F := F)) 𝒱₀ (thr d i) none) Set.univ p Q)
        -∗ wp frame (wpE (defs₀ (F := F)) 𝒱₀ (thr d i) none) Set.univ (runThen st (List.range' a l) p) Q)) := by
    intro l
    induction l with
    | zero =>
      intro a ha; obtain rfl : a = 104 := by omega
      change I 104 ⊢ iprop((I 104 -∗ wp frame (wpE (defs₀ (F := F)) 𝒱₀ (thr d i) none) Set.univ p Q)
        -∗ wp frame (wpE (defs₀ (F := F)) 𝒱₀ (thr d i) none) Set.univ p Q)
      iintro HI Hk
      iapply Hk; iexact HI
    | succ l ih =>
      intro a ha
      change I a ⊢ iprop((I 104 -∗ wp frame (wpE (defs₀ (F := F)) 𝒱₀ (thr d i) none) Set.univ p Q)
        -∗ wp frame (wpE (defs₀ (F := F)) 𝒱₀ (thr d i) none) Set.univ (st a >>= fun _ => runThen st (List.range' (a + 1) l) p) Q)
      iintro HI Hk
      iapply (h a (by omega) fun _ => runThen st (List.range' (a + 1) l) p) $$ HI
      iintro HI
      iapply (ih (a + 1) (by omega)) $$ HI
      iexact Hk
  exact key 104 0 rfl

include hs hr hl hW hc in
/-- The adding pass. -/
theorem wp_addPass {Q : PUnit → sProp 𝕄} {p : PV (F := F) i PUnit} :
    iprop(owns (thr d i) ids fullShare X ∗ owns (thr d i) ws fullShare Y ∗ owns (thr d i) buf fullShare (zeros W))
      ⊢ iprop(((owns (thr d i) ids fullShare X ∗ owns (thr d i) ws fullShare Y ∗ owns (thr d i) buf fullShare (addVal X Y s W 104))
            -∗ wp frame (wpE (defs₀ (F := F)) 𝒱₀ (thr d i) none) Set.univ p Q)
        -∗ wp frame (wpE (defs₀ (F := F)) 𝒱₀ (thr d i) none) Set.univ (runThen (addStep buf hst ids ws (BitVec.ofNat 32 s) low8 loc) wins p) Q) := by
  have := wp_runThen (Q := Q) (p := p) d i
    (fun n => iprop(owns (thr d i) ids fullShare X ∗ owns (thr d i) ws fullShare Y ∗ owns (thr d i) buf fullShare (addVal X Y s W n)))
    (fun n hn k => wp_addStep d i (hst := hst) hs hr hl hW hc hn)
  rwa [addVal_zero] at this

include hs hr hl hW hc in
/-- The clearing pass. -/
theorem wp_zeroPass {Q : PUnit → sProp 𝕄} {p : PV (F := F) i PUnit} :
    iprop(owns (thr d i) ids fullShare X ∗ owns (thr d i) buf fullShare (addVal X Y s W 104))
      ⊢ iprop(((owns (thr d i) ids fullShare X ∗ owns (thr d i) buf fullShare (zeros W))
            -∗ wp frame (wpE (defs₀ (F := F)) 𝒱₀ (thr d i) none) Set.univ p Q)
        -∗ wp frame (wpE (defs₀ (F := F)) 𝒱₀ (thr d i) none) Set.univ (runThen (zeroStep buf hst ids (BitVec.ofNat 32 s) low8 loc zero16) wins p) Q) := by
  have := wp_runThen (Q := Q) (p := p) d i
    (fun n => iprop(owns (thr d i) ids fullShare X ∗ owns (thr d i) buf fullShare (zeroVal X Y s W n)))
    (fun n hn k => wp_zeroStep d i (hst := hst) hs hr hl hW hc hn)
  rwa [zeroVal_zero, zeroVal_last] at this

end Pass

end Cert.Proof.Body

end
-- ==== Proof.Copies.lean ====
/-
  The kernel's other steps at known contents: a local copy and its wait, and the loops that clear the buffers.
-/
module

public import proofs.«01_k».proof.Proof.Passes

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- What a thread owes, with waits recorded beyond `W` at the index that no schedule orders. -/
def Rec (c : Thread nD τ) (O : CellTallies nD τ sig (HIx 1)) (W : Waits sig (HIx 1)) : sProp 𝕄 :=
  iprop(∃ W', ⌜∀ p ∈ W', p ∈ W ∨ p.2 = none⌝ ∗ owes c O W')

omit [FloatOps F] in
theorem Rec_intro {c : Thread nD τ} {O : CellTallies nD τ sig (HIx 1)} {W W' : Waits sig (HIx 1)} (h : ∀ p ∈ W', p ∈ W ∨ p.2 = none) :
    (owes c O W' : sProp 𝕄) ⊢ Rec (F := F) c O W := by
  unfold Rec; iintro H; iexists W'; isplitr
  · ipureintro; exact h
  · iexact H

omit [FloatOps F] in
/-- A write through a slice, read through the whole memref. -/
theorem read_slice_write {κ : Kind} {sp : Space} {s : Shape} {e : EltTy} (m : Memref sig κ sp s e) (r : Rect s) (h : ∀ a, r.stride a = 1)
    (f : m.view.ty.Contents (Elt F)) (w : r.shape.Idx → Elt F e) :
    m.view.read (Elt F) ((m.slice r h).view.write (Elt F) f w Finset.univ) = r.overlay (m.view.read (Elt F) f) w := by
  funext j
  by_cases hj : j ∈ r.set
  · obtain ⟨i, rfl⟩ := r.exists_idx_of_mem hj
    refine Eq.trans ?_ (Rect.overlay_emb r _ _ i).symm
    exact congrFun (View.read_write_univ (v := (m.slice r h).view) f w) i
  · refine Eq.trans ?_ (Rect.overlay_of_not_mem r _ _ hj).symm
    rw [View.read_apply, View.read_apply]
    refine congrArg _ (View.write_of_not_mem (v := (m.slice r h).view) f w _ ?_)
    show m.view.emb j ∉ (m.view.slice r).set
    rw [View.set_slice, Finset.mem_map' m.view.emb]; exact hj

section Copy

variable (c : Thread nD τ) {α : Type} {O : CellTallies nD τ sig (HIx 1)} {W : Waits sig (HIx 1)}

/-- A copy whose source is held at known contents, and its wait. -/
theorem wp_copyWait {Q : α → sProp 𝕄} {sp sp' : Space} {s : Shape} {e : EltTy} {src : Memref sig c.2.kind sp s e} {dst : Memref sig c.2.kind sp' s e} {sem : DmaSem sig}
    {h1 : src.view.WordExact} {h2 : dst.view.WordExact} {h3 : DmaTarget.Typed (nD := nD) sp (SemLoc.dma sem) (.here dst)}
    {h4 : src.view.WordExact} {h5 : dst.view.WordExact}
    {k : PUnit → Prog (TpuEff nD τ sig (Elt F) Λ₀ c.2) α} {q : PosShare TreeShare} {X : s.Idx → Elt F e}
    {Sd : Finset (Idx (dst.view.loc c))} {fd : Buf (Elt F) (dst.view.loc c)} (hs : 0 < s.numel) (hSd : dst.view.set ⊆ Sd) :
    iprop(Transfers.MayWaits c (none : HIx 1) O ∗ owns c src q X ∗ (dst.view.loc c ↦[Sd]{fullShare} fd) ∗ semVal (c, SemLoc.dma sem) 0 ∗ Rec (F := F) c O W)
      ⊢ iprop(((owns c src q X ∗ (dst.view.loc c ↦[Sd]{fullShare} (dst.view.write (Elt F) fd X Finset.univ)) ∗ semVal (c, SemLoc.dma sem) 0 ∗ Rec (F := F) c O W)
            -∗ wp frame (wpE (defs₀ (F := F)) 𝒱₀ c none) Set.univ (k ⟨⟩) Q)
        -∗ wp frame (wpE (defs₀ (F := F)) 𝒱₀ c none) Set.univ
            (.op (.enqueueDma src (.here dst) (.dma sem) h1 h2 h3) fun _ => .op (.waitDma2 sem src dst h4 h5) k) Q) := by
  unfold owns Rec
  iintro ⟨#Hmw, ⟨%f, %hf, Hs⟩, Hd, Hv, %W', %hW', HO⟩ Hk
  subst hf
  iapply (Transfers.wp_dmaLocal countersEmb 𝒱₀ c none (none : HIx 1) _ rfl (View.amount_pos _ _ hs) hSd) $$ [Hs Hd Hv]
  · isplitl [Hs]; · iexact Hs
    isplitl [Hd] <;> iassumption
  iintro Hf
  iapply (Transfers.wp_waitLocalO countersEmb 𝒱₀ c none (none : HIx 1) rfl) $$ [Hf HO]
  · isplitl [Hf]; · iexact Hf
    isplitl [HO]; · iexact HO
    iapply (Transfers.MayWaits.elim _) $$ Hmw
  iintro ⟨⟨Hd, Hs⟩, Hv, HO⟩
  iapply Hk
  isplitl [Hs]
  · iexists f; isplitr
    · ipureintro; rfl
    · iexact Hs
  isplitl [Hd]; · iexact Hd
  isplitl [Hv]; · iexact Hv
  iexists (insert (SemLoc.dma sem, (none : HIx 1)) W'); isplitr
  · ipureintro; intro p hp
    rcases Finset.mem_insert.mp hp with hp | hp
    · exact .inr (hp ▸ rfl)
    · exact hW' p hp
  · iexact HO

/-- Sixteen words of a row, or any unit-stride piece, stored into a memref held at known contents. -/
theorem wp_store_owns {Q : α → sProp 𝕄} {s : Shape} {e : EltTy} {m : Memref sig c.2.kind .vmem s e} {r : Rect s} {w : r.shape.Idx → Elt F e}
    {h : (m.access r).Stores Finset.univ} {hm : Finset.univ = Finset.univ ∨ ∀ a, r.stride a = 1} (hr : ∀ a, r.stride a = 1)
    {k : PUnit → Prog (TpuEff nD τ sig (Elt F) Λ₀ c.2) α} {X : s.Idx → Elt F e} :
    (owns c m fullShare X : sProp 𝕄)
      ⊢ iprop((owns c m fullShare (r.overlay X w) -∗ wp frame (wpE (defs₀ (F := F)) 𝒱₀ c none) Set.univ (k ⟨⟩) Q)
        -∗ wp frame (wpE (defs₀ (F := F)) 𝒱₀ c none) Set.univ (.op (.store m r w Finset.univ h hm) k) Q) := by
  unfold owns
  iintro ⟨%f, %hf, H⟩ Hk
  subst hf
  iapply (wp_store 𝒱₀ c none Set.univ (m := m) (f := f) (S := m.view.set) (hx := h) (hm := hm) (Memref.setOn_access_subset m r _)) $$ H
  iintro H
  iapply Hk
  iexists _; isplitr
  · ipureintro; exact read_slice_write m r hr f w
  · iexact H

end Copy

/-! ## Clearing -/

section Clear

variable (d : Dev nD) (i : grid1.Coords)

/-- A buffer held, zero at the places that `P` holds of. -/
def Cleared {W : ℕ} (buf : Memref sig .scVector .vmem ⟨2, ![8, W]⟩ .f32) (P : (⟨2, ![8, W]⟩ : Shape).Idx → Prop) : sProp 𝕄 :=
  iprop(∃ X : Vec F ⟨2, ![8, W]⟩ .f32, ⌜∀ j, P j → X j = zeroF⌝ ∗ owns (thr d i) buf fullShare X)

theorem Cleared_intro {W : ℕ} {buf : Memref sig .scVector .vmem ⟨2, ![8, W]⟩ .f32} {P : (⟨2, ![8, W]⟩ : Shape).Idx → Prop}
    {X : Vec F ⟨2, ![8, W]⟩ .f32} (h : ∀ j, P j → X j = zeroF) : (owns (thr d i) buf fullShare X : sProp 𝕄) ⊢ Cleared (F := F) d i buf P := by
  unfold Cleared; iintro H; iexists X; isplitr
  · ipureintro; exact h
  · iexact H

theorem Cleared_mono {W : ℕ} {buf : Memref sig .scVector .vmem ⟨2, ![8, W]⟩ .f32} {P P' : (⟨2, ![8, W]⟩ : Shape).Idx → Prop}
    (h : ∀ j, P' j → P j) : (Cleared (F := F) d i buf P : sProp 𝕄) ⊢ Cleared (F := F) d i buf P' := by
  unfold Cleared; iintro ⟨%X, %hX, H⟩; iexists X; isplitr
  · ipureintro; exact fun j hj => hX j (h j hj)
  · iexact H

/-- Sixteen more words of a row cleared. -/
theorem cleared_step {W : ℕ} {X : Vec F ⟨2, ![8, W]⟩ .f32} {row n : ℕ} {off : Fin 2 → ℕ} (hoff : off = ![row, 16 * n])
    (inb : ∀ a, off a + S1x16.size a ≤ (⟨2, ![8, W]⟩ : Shape).size a)
    (hX : ∀ j, ((j 0).val < row ∨ ((j 0).val = row ∧ (j 1).val < 16 * n)) → X j = zeroF) :
    ∀ j, ((j 0).val < row ∨ ((j 0).val = row ∧ (j 1).val < 16 * (n + 1)))
      → (Rect.unit (s := ⟨2, ![8, W]⟩) off S1x16.size inb).overlay X (fun _ => zeroF) j = zeroF := by
  subst hoff
  intro j hj
  by_cases hm : j ∈ (Rect.unit (s := ⟨2, ![8, W]⟩) ![row, 16 * n] S1x16.size inb).set
  · obtain ⟨x, rfl⟩ := (Rect.unit (s := ⟨2, ![8, W]⟩) ![row, 16 * n] S1x16.size inb).exists_idx_of_mem hm
    exact Rect.overlay_emb _ _ _ x
  · rw [Rect.overlay_of_not_mem _ _ _ hm]
    apply hX
    rcases hj with hj | ⟨h0, h1⟩
    · exact .inl hj
    · refine .inr ⟨h0, ?_⟩
      by_contra hc
      refine hm (Rect.mem_set_unit.mpr fun a => ?_)
      match a with
      | 0 => exact ⟨show row ≤ (j 0).val by omega, show (j 0).val < row + 1 by omega⟩
      | 1 => exact ⟨show 16 * n ≤ (j 1).val by omega, show (j 1).val < 16 * n + 16 by omega⟩

theorem wp_clearRow {Q : PUnit → sProp 𝕄} {W : ℕ} {buf : Memref sig .scVector .vmem ⟨2, ![8, W]⟩ .f32} {L : Scf.Loop 32} {ok : L.OK} {off : Fin L.trips → Fin 2 → ℕ}
    {inb : ∀ t a, off t a + S1x16.size a ≤ (⟨2, ![8, W]⟩ : Shape).size a} {k : PUnit → PV (F := F) i PUnit} (row : ℕ)
    (hoff : ∀ t, off t = ![row, 16 * t.val]) (hL : 16 * L.trips = W) :
    Cleared (F := F) d i buf (fun j => (j 0).val < row)
      ⊢ iprop((Cleared (F := F) d i buf (fun j => (j 0).val < row + 1) -∗ wp frame (wpE (defs₀ (F := F)) 𝒱₀ (thr d i) none) Set.univ (k ⟨⟩) Q)
        -∗ wp frame (wpE (defs₀ (F := F)) 𝒱₀ (thr d i) none) Set.univ (clearRow i buf L ok off inb zero16 >>= k) Q) := by
  unfold clearRow
  iintro H Hk
  iapply (Scf.wp_for_bind (E := TpuEff nD τ sig (Elt F) Λ₀ (thr d i).2) frame (wpE (defs₀ (F := F)) 𝒱₀ (thr d i) none) Set.univ L.lb L.ub L.st ok PUnit.unit _
    (fun n _ => Cleared (F := F) d i buf (fun j => (j 0).val < row ∨ ((j 0).val = row ∧ (j 1).val < 16 * n))) ?_) $$ [H]
  · intro t acc
    simp only [Prog.lift, Prog.bind_op, Prog.bind_ret, Prog.pure_eq_ret]
    unfold Cleared
    iintro ⟨%X, %hX, H⟩
    iapply (wp_load_owns (F := F) (thr d i)) $$ H
    iintro H
    iapply (wp_store_owns (F := F) (thr d i) (fun _ => rfl)) $$ H
    iintro H
    rw [wp_ret]
    imodintro
    iexists _; isplitr
    · ipureintro
      refine Eq.mp ?_ (cleared_step (row := row) (n := t.val) (hoff t) (inb t) hX)
      rfl
    · iexact H
  · iapply (Cleared_mono (F := F) d i (fun j hj => ?_)) $$ H
    rcases hj with hj | hj <;> omega
  · iintro %_ H
    iapply Hk
    iapply (Cleared_mono (F := F) d i (fun j hj => ?_)) $$ H
    have h1 : (j 1).val < W := (j 1).isLt
    change (j 1).val < W at h1
    have : (j 0).val < row ∨ (j 0).val = row := by omega
    rcases this with h | h
    · exact .inl h
    · exact .inr ⟨h, by show (j 1).val < 16 * L.trips; omega⟩

end Clear

end Cert.Proof.Body

end
-- ==== Proof.Tile.lean ====
/-
  One tile's run: it clears its buffers, and for each of its four groups of eight rows it stages the group's words and
  weights and writes the thirteen ranges of columns; it ends with its 32 rows of the result written.
-/
module

public import proofs.«01_k».proof.Proof.Copies

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The values -/

/-- Word `n` of a flat array. -/
def flat {α : Type} (f : S204800.Idx → α) (n : ℕ) : α := f (Shape.ofLane (d := ![204800]) ⟨n % 204800, Nat.mod_lt _ (by decide)⟩)

/-- Row `r`, column `c` of the result: the weights of the positions of row `r` whose word is `c`, summed in order. -/
def scat (A : S204800.Idx → BitVec 32) (B : S204800.Idx → F .f32) (r c : ℕ) : F .f32 :=
  (List.range 200).foldl (fun a p => if (flat A (200 * r + p)).toNat = c then FloatOps.idxAddf a (flat B (200 * r + p)) else a) zeroF

/-- The whole result. -/
def scatAll (A : S204800.Idx → BitVec 32) (B : S204800.Idx → F .f32) : Vec F S1024x100000 .f32 := fun j => scat A B (j 0).val (j 1).val

/-- A staging buffer holds the words of the eight rows from row `R`. -/
def Staged {α : Type} (A : S204800.Idx → α) (R : ℕ) (X : S1616.Idx → α) : Prop := ∀ p < 1600, at1 X p = flat A (200 * R + p)

theorem foldl_range_congr {α : Type} (n : ℕ) (f g : α → ℕ → α) (h : ∀ a p, p < n → f a p = g a p) (a : α) :
    (List.range n).foldl f a = (List.range n).foldl g a := by
  induction n with
  | zero => rfl
  | succ n ih =>
    rw [List.range_succ, List.foldl_append, List.foldl_append, ih fun a p hp => h a p (by omega)]
    exact h _ n (by omega)

theorem addVal_scat {A : S204800.Idx → BitVec 32} {B : S204800.Idx → F .f32} {R : ℕ} {X : S1616.Idx → BitVec 32} {Y : S1616.Idx → F .f32}
    (hX : Staged A R X) (hY : Staged B R Y) (s W : ℕ) (j : (⟨2, ![8, W]⟩ : Shape).Idx) :
    addVal X Y s W 104 j = scat A B (R + (j 0).val) (8192 * s + (j 1).val) := by
  have hr : (j 0).val < 8 := (j 0).isLt
  unfold addVal sumTo scat
  rw [cnt_last hr]
  refine foldl_range_congr _ _ _ (fun a p hp => ?_) _
  have e : 200 * R + (200 * (j 0).val + p) = 200 * (R + (j 0).val) + p := by omega
  have eX := hX (200 * (j 0).val + p) (by omega)
  have eY := hY (200 * (j 0).val + p) (by omega)
  rw [e] at eX eY
  exact if_congr (by unfold Hit; rw [eX]) (by rw [eY]) rfl

theorem inRange_of_staged {A : S204800.Idx → BitVec 32} (hA : ∀ n, (flat A n).toNat < 100000) {R : ℕ} {X : S1616.Idx → BitVec 32}
    (hX : Staged A R X) : InRange X := fun p hp => by rw [hX p hp]; exact hA _

/-- Copying a group's words into a staging buffer stages them. -/
theorem staged_overlay {α : Type} {A : S204800.Idx → α} {X : S1616.Idx → α} {off : Fin 1 → ℕ} {R : ℕ} (hoff : off = ![200 * R])
    (inb : ∀ a, off a + S1600.size a ≤ S204800.size a) :
    Staged A R ((Rect.unit (s := S1616) ![0] S1600.size inb_S1616_S1600_0).overlay X
      (fun x => A ((Rect.unit (s := S204800) off S1600.size inb).emb x))) := by
  subst hoff
  intro p hp
  have hb : 200 * R + 1600 ≤ 204800 := inb 0
  have e : (Shape.ofLane (d := ![1616]) ⟨p % 1616, Nat.mod_lt _ (by decide)⟩ : S1616.Idx)
      = (Rect.unit (s := S1616) ![0] S1600.size inb_S1616_S1600_0).emb (Shape.ofLane (d := ![1600]) ⟨p, hp⟩) := by
    funext a
    refine Fin.ext ?_
    obtain rfl : a = 0 := Subsingleton.elim _ _
    show p % 1616 = 0 + 1 * p
    omega
  unfold at1 flat
  rw [e]
  refine (Rect.overlay_emb _ _ _ _).trans (congrArg A (funext fun a => Fin.ext ?_))
  obtain rfl : a = 0 := Subsingleton.elim _ _
  show 200 * R + 1 * p = (200 * R + p) % 204800
  omega

/-! ## The tile's part of the result -/

section Tile

variable (d : Dev nD) (i : grid1.Coords)

/-- The tile's first row. -/
def base : ℕ := 64 * (i 1).val + 32 * (i 0).val

/-- The tile's places of the result. -/
def tileSet : Finset S1024x100000.Idx := Finset.univ.filter fun j => base i ≤ (j 0).val ∧ (j 0).val < base i + 32

/-- The places written once group `g` has its first `t` ranges of columns. -/
def Done (g t : ℕ) (j : S1024x100000.Idx) : Prop :=
  base i ≤ (j 0).val ∧ ((j 0).val < base i + 8 * g ∨ ((j 0).val < base i + 8 * (g + 1) ∧ (j 1).val < 8192 * t))

variable {arg2 : Memref sig .scVector .hbm S204800 .i32} {arg3 : Memref sig .scVector .hbm S204800 .f32} {arg4 : Memref sig .scVector .hbm S1024x100000 .f32}

/-- The tile's part of the result held, at the values `G` where `P` holds. -/
def OutHeld (arg4 : Memref sig .scVector .hbm S1024x100000 .f32) (G : Vec F S1024x100000 .f32) (P : S1024x100000.Idx → Prop) : sProp 𝕄 :=
  iprop(∃ f : Buf (Elt F) (arg4.view.loc (thr d i)), ⌜∀ j, P j → arg4.view.read (Elt F) f j = G j⌝
    ∗ (arg4.view.loc (thr d i) ↦[arg4.view.setOn (tileSet i)]{fullShare} f))

theorem OutHeld_mono {G : Vec F S1024x100000 .f32} {P P' : S1024x100000.Idx → Prop} (h : ∀ j, P' j → P j) :
    (OutHeld (F := F) d i arg4 G P : sProp 𝕄) ⊢ OutHeld (F := F) d i arg4 G P' := by
  unfold OutHeld; iintro ⟨%f, %hf, H⟩; iexists f; isplitr
  · ipureintro; exact fun j hj => hf j (h j hj)
  · iexact H

/-- The eight-row piece of the result at `off`. -/
abbrev outPiece (arg4 : Memref sig .scVector .hbm S1024x100000 .f32) (W : ℕ) (off : Fin 2 → ℕ)
    (inb : ∀ a, off a + (⟨2, ![8, W]⟩ : Shape).size a ≤ S1024x100000.size a) : Memref sig (thr d i).2.kind .hbm ⟨2, ![8, W]⟩ .f32 :=
  arg4.slice (Rect.unit (s := S1024x100000) off (⟨2, ![8, W]⟩ : Shape).size inb) (fun _ => rfl)

variable {O : CellTallies nD τ sig (HIx 1)} {Wt : Waits sig (HIx 1)}

/-- A buffer copied out over its rectangle of the result. -/
theorem wp_outCopy {Q : PUnit → sProp 𝕄} {W : ℕ} {buf : Memref sig .scVector .vmem ⟨2, ![8, W]⟩ .f32} {off : Fin 2 → ℕ} {R C : ℕ} {sem : DmaSem sig}
    {inb : ∀ a, off a + (⟨2, ![8, W]⟩ : Shape).size a ≤ S1024x100000.size a}
    {h1 : buf.view.WordExact} {h2 : (outPiece d i arg4 W off inb).view.WordExact}
    {h3 : DmaTarget.Typed (nD := nD) .vmem (SemLoc.dma sem) (.here (outPiece d i arg4 W off inb))}
    {h4 : buf.view.WordExact} {h5 : (outPiece d i arg4 W off inb).view.WordExact}
    {k : PUnit → PV (F := F) i PUnit} {G : Vec F S1024x100000 .f32} {P P' : S1024x100000.Idx → Prop} {X : Vec F ⟨2, ![8, W]⟩ .f32}
    (hoff : off = ![R, C]) (hW : 0 < W) (hR : base i ≤ R ∧ R + 8 ≤ base i + 32)
    (hP : ∀ j, P' j → P j ∨ ((R ≤ (j 0).val ∧ (j 0).val < R + 8) ∧ C ≤ (j 1).val ∧ (j 1).val < C + W))
    (hX : ∀ x, X x = G ((Rect.unit (s := S1024x100000) off (⟨2, ![8, W]⟩ : Shape).size inb).emb x)) :
    iprop(Transfers.MayWaits (thr d i) (none : HIx 1) O ∗ owns (thr d i) buf fullShare X ∗ OutHeld (F := F) d i arg4 G P
        ∗ semVal (thr d i, SemLoc.dma sem) 0 ∗ Rec (F := F) (thr d i) O Wt)
      ⊢ iprop(((owns (thr d i) buf fullShare X ∗ OutHeld (F := F) d i arg4 G P' ∗ semVal (thr d i, SemLoc.dma sem) 0 ∗ Rec (F := F) (thr d i) O Wt)
            -∗ wp frame (wpE (defs₀ (F := F)) 𝒱₀ (thr d i) none) Set.univ (k ⟨⟩) Q)
        -∗ wp frame (wpE (defs₀ (F := F)) 𝒱₀ (thr d i) none) Set.univ
            (.op (.enqueueDma buf (.here (outPiece d i arg4 W off inb)) (.dma sem) h1 h2 h3) fun _ =>
              .op (.waitDma2 sem buf (outPiece d i arg4 W off inb) h4 h5) k) Q) := by
  subst hoff
  unfold OutHeld
  iintro ⟨#Hmw, Hb, ⟨%f, %hf, Ho⟩, Hv, HR⟩ Hk
  iapply (wp_copyWait (F := F) (thr d i) (Shape.numel_pos fun a => by match a with | 0 => exact Nat.succ_pos _ | 1 => exact hW) (?_)) $$ [Hb Ho Hv HR]
  rotate_left
  · isplitr; · iexact Hmw
    isplitl [Hb]; · iexact Hb
    isplitl [Ho]; · iexact Ho
    isplitl [Hv] <;> iassumption
  · iintro ⟨Hb, Ho, Hv, HR⟩
    iapply Hk
    isplitl [Hb]; · iexact Hb
    isplitl [Ho]
    · iexists _; isplitr
      · ipureintro; intro j hj
        refine (congrFun (read_slice_write arg4 (Rect.unit (s := S1024x100000) ![R, C] (⟨2, ![8, W]⟩ : Shape).size inb) (fun _ => rfl) f X) j).trans ?_
        by_cases hm : j ∈ (Rect.unit (s := S1024x100000) ![R, C] (⟨2, ![8, W]⟩ : Shape).size inb).set
        · obtain ⟨x, rfl⟩ := (Rect.unit (s := S1024x100000) ![R, C] (⟨2, ![8, W]⟩ : Shape).size inb).exists_idx_of_mem hm
          exact (Rect.overlay_emb _ _ _ x).trans (hX x)
        · refine (Rect.overlay_of_not_mem _ _ _ hm).trans ?_
          rcases hP j hj with h | ⟨h, h'⟩
          · exact hf j h
          · refine absurd (Rect.mem_set_unit.mpr fun a => ?_) hm
            match a with
            | 0 => exact h
            | 1 => exact h'
      · iexact Ho
    isplitl [Hv] <;> iassumption
  · show (arg4.view.slice (Rect.unit (s := S1024x100000) ![R, C] (⟨2, ![8, W]⟩ : Shape).size inb)).set ⊆ arg4.view.setOn (tileSet i)
    rw [View.set_slice]
    refine Finset.map_subset_map.mpr fun j hj => ?_
    have h := Rect.mem_set_unit.mp hj 0
    refine Finset.mem_filter.mpr ⟨Finset.mem_univ _, ?_⟩
    have h1 : R ≤ (j 0).val := h.1
    have h2 : (j 0).val < R + 8 := h.2
    omega

/-! ## A group -/

variable {arg5 : Memref sig .scVector .vmem S8x8192 .f32} {harg5 : arg5.IsWhole} {arg6 : Memref sig .scVector .vmem S8x1696 .f32} {harg6 : arg6.IsWhole}
  {arg7 : Memref sig .scVector .vmem S1616 .i32} {arg8 : Memref sig .scVector .vmem S1616 .f32} {r0 r1 r2 r3 : DmaSems sig S_}
  {A : S204800.Idx → BitVec 32} {B : S204800.Idx → F .f32} {X : S1616.Idx → BitVec 32} {Y : S1616.Idx → F .f32}

theorem trips17 (g : Fin k1_t17_loop.trips) : g.val < 4 := Nat.lt_of_lt_of_le g.isLt k1_t17_abs.2.1
theorem trips18 (t : Fin k1_t18_loop.trips) : t.val < 12 := Nat.lt_of_lt_of_le t.isLt k1_t18_abs.2.1
theorem iv_eq (n : ℕ) : Scf.iv 0#32 1#32 n = BitVec.ofNat 32 n := by
  unfold Scf.iv; rw [BitVec.zero_add, BitVec.mul_one]

/-- What a tile holds while it writes a group's ranges of columns. -/
def Mid (arg4 : Memref sig .scVector .hbm S1024x100000 .f32) {W : ℕ} (buf : Memref sig .scVector .vmem ⟨2, ![8, W]⟩ .f32)
    (arg7 : Memref sig .scVector .vmem S1616 .i32) (arg8 : Memref sig .scVector .vmem S1616 .f32) (r2 : DmaSems sig S_)
    (O : CellTallies nD τ sig (HIx 1)) (Wt : Waits sig (HIx 1)) (A : S204800.Idx → BitVec 32) (B : S204800.Idx → F .f32)
    (X : S1616.Idx → BitVec 32) (Y : S1616.Idx → F .f32) (P : S1024x100000.Idx → Prop) : sProp 𝕄 :=
  iprop(Transfers.MayWaits (thr d i) (none : HIx 1) O ∗ owns (thr d i) arg7 fullShare X ∗ owns (thr d i) arg8 fullShare Y ∗ owns (thr d i) buf fullShare (zeros W)
    ∗ OutHeld (F := F) d i arg4 (scatAll A B) P ∗ semVal (thr d i, SemLoc.dma r2.sem) 0 ∗ Rec (F := F) (thr d i) O Wt)

/-- One range of columns: added, copied out, cleared. -/
theorem wp_range {Q : PUnit → sProp 𝕄} {W : ℕ} {buf : Memref sig .scVector .vmem ⟨2, ![8, W]⟩ .f32} {hst : (buf.access (.whole _)).Stores Finset.univ}
    {loc : IVec S16 1 → IVec S16 32 → IVec S16 32} {off : Fin 2 → ℕ} {R s : ℕ}
    {inb : ∀ a, off a + (⟨2, ![8, W]⟩ : Shape).size a ≤ S1024x100000.size a}
    {h1 : buf.view.WordExact} {h2 : (outPiece d i arg4 W off inb).view.WordExact}
    {h3 : DmaTarget.Typed (nD := nD) .vmem (SemLoc.dma r2.sem) (.here (outPiece d i arg4 W off inb))}
    {h4 : buf.view.WordExact} {h5 : (outPiece d i arg4 W off inb).view.WordExact}
    {P P' : S1024x100000.Idx → Prop}
    (hoff : off = ![R, 8192 * s]) (hW : 0 < W) (hR : base i ≤ R ∧ R + 8 ≤ base i + 32)
    (hP : ∀ j, P' j → P j ∨ ((R ≤ (j 0).val ∧ (j 0).val < R + 8) ∧ 8192 * s ≤ (j 1).val ∧ (j 1).val < 8192 * s + W))
    (hX : Staged A R X) (hY : Staged B R Y) (hA : ∀ n, (flat A n).toNat < 100000)
    (hs : s < 13) (hl : LocOK loc) (hW8 : W ≤ 8192) (hc : ChkOK W s loc X) :
    Mid (F := F) d i arg4 buf arg7 arg8 r2 O Wt A B X Y P
      ⊢ iprop((Mid (F := F) d i arg4 buf arg7 arg8 r2 O Wt A B X Y P' -∗ Q ⟨⟩)
        -∗ wp frame (wpE (defs₀ (F := F)) 𝒱₀ (thr d i) none) Set.univ
          (runThen (addStep buf hst arg7 arg8 (BitVec.ofNat 32 s) low8 loc) wins
            (.op (.enqueueDma buf (.here (outPiece d i arg4 W off inb)) (.dma r2.sem) h1 h2 h3) fun _ =>
              .op (.waitDma2 r2.sem buf (outPiece d i arg4 W off inb) h4 h5) fun _ =>
                runThen (zeroStep buf hst arg7 (BitVec.ofNat 32 s) low8 loc zero16) wins (pure ⟨⟩))) Q) := by
  unfold Mid
  iintro ⟨#Hmw, H7, H8, Hb, Ho, Hv, HR⟩ Hk
  iapply (wp_addPass (F := F) d i hs (inRange_of_staged hA hX) hl hW8 hc) $$ [H7 H8 Hb]
  · isplitl [H7]; · iexact H7
    isplitl [H8] <;> iassumption
  iintro ⟨H7, H8, Hb⟩
  have hval : ∀ x, addVal X Y s W 104 x = scatAll A B ((Rect.unit (s := S1024x100000) off (⟨2, ![8, W]⟩ : Shape).size inb).emb x) := by
    intro x
    subst hoff
    rw [addVal_scat hX hY]
    unfold scatAll
    congr 1
    · show R + (x 0).val = R + 1 * (x 0).val; omega
    · show 8192 * s + (x 1).val = 8192 * s + 1 * (x 1).val; omega
  iapply (wp_outCopy (F := F) d i (G := scatAll A B) (P := P) (P' := P') hoff hW hR hP hval) $$ [Hb Ho Hv HR]
  · isplitr; · iexact Hmw
    isplitl [Hb]; · iexact Hb
    isplitl [Ho]; · iexact Ho
    isplitl [Hv] <;> iassumption
  iintro ⟨Hb, Ho, Hv, HR⟩
  iapply (wp_zeroPass (F := F) d i hs (inRange_of_staged hA hX) hl hW8 hc) $$ [H7 Hb]
  · isplitl [H7] <;> iassumption
  iintro ⟨H7, Hb⟩
  rw [wp_pure]
  imodintro
  iapply Hk
  isplitr; · iexact Hmw
  isplitl [H7]; · iexact H7
  isplitl [H8]; · iexact H8
  isplitl [Hb]; · iexact Hb
  isplitl [Ho]; · iexact Ho
  isplitl [Hv] <;> iassumption

set_option maxRecDepth 100000 in
/-- A trip of the loop over the full ranges. -/
theorem wp_trip {Q : PUnit → sProp 𝕄} {g : Fin k1_t17_loop.trips} {t : Fin k1_t18_loop.trips}
    (hX : Staged A (base i + 8 * g.val) X) (hY : Staged B (base i + 8 * g.val) Y) (hA : ∀ n, (flat A n).toNat < 100000) :
    Mid (F := F) d i arg4 arg5 arg7 arg8 r2 O Wt A B X Y (Done i g.val t.val)
      ⊢ iprop((Mid (F := F) d i arg4 arg5 arg7 arg8 r2 O Wt A B X Y (Done i g.val (t.val + 1)) -∗ Q ⟨⟩)
        -∗ wp frame (wpE (defs₀ (F := F)) 𝒱₀ (thr d i) none) Set.univ (trip i arg4 arg5 harg5 arg7 arg8 r2 zero16 low8 g t) Q) := by
  unfold trip
  rw [iv_eq]
  simp only [Prog.lift, Prog.bind_op, Prog.bind_ret]
  have hoff : k1_off18 i g t = ![base i + 8 * g.val, 8192 * t.val] := k1_off18_eq i g t
  have hg := trips17 g
  have ht := trips18 t
  have hR : base i ≤ base i + 8 * g.val ∧ base i + 8 * g.val + 8 ≤ base i + 32 := by omega
  have ht' : t.val < 13 := by omega
  refine wp_range (F := F) d i (W := 8192) (buf := arg5) (s := t.val) (off := k1_off18 i g t) (inb := k1_off18_inb i g t) (R := base i + 8 * g.val) (P := Done i g.val t.val) (P' := Done i g.val (t.val + 1)) hoff (Nat.succ_pos _) hR ?_ hX hY hA
    ht' locMain_ok (Nat.le_refl _) chkOK_main
  intro j hj
  unfold Done at hj ⊢
  omega

set_option maxRecDepth 100000 in
/-- The last range. -/
theorem wp_lastRange {Q : PUnit → sProp 𝕄} {g : Fin k1_t17_loop.trips}
    (hX : Staged A (base i + 8 * g.val) X) (hY : Staged B (base i + 8 * g.val) Y) (hA : ∀ n, (flat A n).toNat < 100000) :
    Mid (F := F) d i arg4 arg6 arg7 arg8 r3 O Wt A B X Y (Done i g.val 12)
      ⊢ iprop((Mid (F := F) d i arg4 arg6 arg7 arg8 r3 O Wt A B X Y (Done i (g.val + 1) 0) -∗ Q ⟨⟩)
        -∗ wp frame (wpE (defs₀ (F := F)) 𝒱₀ (thr d i) none) Set.univ (lastRange i arg4 arg6 harg6 arg7 arg8 r3 zero16 low8 g) Q) := by
  unfold lastRange
  simp only [Prog.lift, Prog.bind_op, Prog.bind_ret]
  have hoff : k1_off19 i g = ![base i + 8 * g.val, 8192 * 12] := k1_off19_eq i g
  have hg := trips17 g
  have hR : base i ≤ base i + 8 * g.val ∧ base i + 8 * g.val + 8 ≤ base i + 32 := by omega
  have h12 : 12 < 13 := by omega
  have hW : 1696 ≤ 8192 := by omega
  refine wp_range (F := F) d i (W := 1696) (buf := arg6) (s := 12) (off := k1_off19 i g) (inb := k1_off19_inb i g) (R := base i + 8 * g.val) (P := Done i g.val 12) (P' := Done i (g.val + 1) 0) hoff (Nat.succ_pos _) hR ?_ hX hY hA
    h12 locTail_ok hW (chkOK_tail (inRange_of_staged hA hX))
  intro j hj
  have h1 : (j 1).val < 100000 := (j 1).isLt
  unfold Done at hj ⊢
  omega

end Tile

end Cert.Proof.Body

end
-- ==== Proof.Group.lean ====
/-
  A tile's four groups and its whole run.
-/
module

public import proofs.«01_k».proof.Proof.Tile

@[expose] public section

noncomputable section

namespace Cert.Proof.Body

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid1.Coords)
variable {arg2 : Memref sig .scVector .hbm S204800 .i32} {harg2 : arg2.IsWhole} {arg3 : Memref sig .scVector .hbm S204800 .f32} {harg3 : arg3.IsWhole}
  {arg4 : Memref sig .scVector .hbm S1024x100000 .f32} {harg4 : arg4.IsWhole}
  {arg5 : Memref sig .scVector .vmem S8x8192 .f32} {harg5 : arg5.IsWhole} {arg6 : Memref sig .scVector .vmem S8x1696 .f32} {harg6 : arg6.IsWhole}
  {arg7 : Memref sig .scVector .vmem S1616 .i32} {harg7 : arg7.IsWhole} {arg8 : Memref sig .scVector .vmem S1616 .f32} {harg8 : arg8.IsWhole}
  {r0 r1 r2 r3 : DmaSems sig S_}
  {A : S204800.Idx → BitVec 32} {B : S204800.Idx → F .f32}
  {O : CellTallies nD τ sig (HIx 1)} {Wt : Waits sig (HIx 1)} {q q' : PosShare TreeShare}

/-- A group's words copied into a staging buffer. -/
theorem wp_stage {Q : PUnit → sProp 𝕄} {e : EltTy} {src : Memref sig (thr d i).2.kind .hbm S204800 e} {dst : Memref sig (thr d i).2.kind .vmem S1616 e} {sem : DmaSem sig}
    {off : Fin 1 → ℕ} {inb : ∀ a, off a + S1600.size a ≤ S204800.size a}
    {src' : Memref sig (thr d i).2.kind .hbm S1600 e} {dst' : Memref sig (thr d i).2.kind .vmem S1600 e}
    (hsrc : src' = src.slice (Rect.unit (s := S204800) off S1600.size inb) (fun _ => rfl))
    (hdst : dst' = dst.slice (Rect.unit (s := S1616) ![0] S1600.size inb_S1616_S1600_0) (fun _ => rfl))
    {h1 : src'.view.WordExact} {h2 : dst'.view.WordExact} {h3 : DmaTarget.Typed (nD := nD) .hbm (SemLoc.dma sem) (.here dst')}
    {h4 : src'.view.WordExact} {h5 : dst'.view.WordExact}
    {k : PUnit → PV (F := F) i PUnit} {Z : S204800.Idx → Elt F e} {R : ℕ} (hoff : off = ![200 * R]) :
    iprop(Transfers.MayWaits (thr d i) (none : HIx 1) O ∗ owns (thr d i) src q Z ∗ (∃ X, owns (thr d i) dst fullShare X) ∗ semVal (thr d i, SemLoc.dma sem) 0 ∗ Rec (F := F) (thr d i) O Wt)
      ⊢ iprop(((owns (thr d i) src q Z ∗ (∃ X, ⌜Staged Z R X⌝ ∗ owns (thr d i) dst fullShare X) ∗ semVal (thr d i, SemLoc.dma sem) 0 ∗ Rec (F := F) (thr d i) O Wt)
            -∗ wp frame (wpE (defs₀ (F := F)) 𝒱₀ (thr d i) none) Set.univ (k ⟨⟩) Q)
        -∗ wp frame (wpE (defs₀ (F := F)) 𝒱₀ (thr d i) none) Set.univ
            (.op (.enqueueDma src' (.here dst') (.dma sem) h1 h2 h3) fun _ => .op (.waitDma2 sem src' dst' h4 h5) k) Q) := by
  subst hsrc hdst
  iintro ⟨#Hmw, Hs, ⟨%X, Hd⟩, Hv, HR⟩ Hk
  ihave Hs' := (owns_slice_split (thr d i) src q (Rect.unit (s := S204800) off S1600.size inb) (fun _ => rfl) Z) $$ Hs
  icases Hs' with ⟨Hs, %fr, %hfr, Hr⟩
  ihave Hd' := (show owns (thr d i) dst fullShare X ⊢ iprop(∃ g, ⌜dst.view.read (Elt F) g = X⌝ ∗ dst.view.loc (thr d i) ↦[dst.view.set]{fullShare} g : sProp 𝕄) from .rfl) $$ Hd
  icases Hd' with ⟨%fd, %hfd, Hd⟩
  iapply (wp_copyWait (F := F) (thr d i) (dst := dst.slice (Rect.unit (s := S1616) ![0] S1600.size inb_S1616_S1600_0) (fun _ => rfl)) (Sd := dst.view.set) (by decide) (dst.view.set_slice_subset _)) $$ [Hs Hd Hv HR]
  · isplitr; · iexact Hmw
    isplitl [Hs]; · iexact Hs
    isplitl [Hd]; · iexact Hd
    isplitl [Hv] <;> iassumption
  iintro ⟨Hs, Hd, Hv, HR⟩
  iapply Hk
  isplitl [Hs Hr]
  · have e : (Rect.unit (s := S204800) off S1600.size inb).overlay (src.view.read (Elt F) fr) (fun x => Z ((Rect.unit (s := S204800) off S1600.size inb).emb x)) = Z := by
      funext j
      by_cases hm : j ∈ (Rect.unit (s := S204800) off S1600.size inb).set
      · obtain ⟨x, rfl⟩ := (Rect.unit (s := S204800) off S1600.size inb).exists_idx_of_mem hm
        exact Rect.overlay_emb _ _ _ x
      · rw [Rect.overlay_of_not_mem _ _ _ hm, hfr]
    have := owns_slice_join (Ix := HIx 1) (Name := ℕ) (U := UU) (Lvl := ℕ) (Val := Elt F) (thr d i) src q (Rect.unit (s := S204800) off S1600.size inb) (fun _ => rfl) (fun x => Z ((Rect.unit (s := S204800) off S1600.size inb).emb x)) fr
    rw [e] at this
    iapply this
    isplitl [Hs] <;> iassumption
  isplitl [Hd]
  · iexists _; isplitr
    rotate_left
    · iapply (owns_intro (thr d i) dst fullShare) $$ Hd
    · ipureintro
      rw [read_slice_write]
      exact staged_overlay hoff inb
  isplitl [Hv] <;> iassumption

/-- What a tile holds between groups: `g` groups of its rows written. -/
def Between (arg2 : Memref sig .scVector .hbm S204800 .i32) (arg3 : Memref sig .scVector .hbm S204800 .f32) (arg4 : Memref sig .scVector .hbm S1024x100000 .f32)
    (arg5 : Memref sig .scVector .vmem S8x8192 .f32) (arg6 : Memref sig .scVector .vmem S8x1696 .f32) (arg7 : Memref sig .scVector .vmem S1616 .i32)
    (arg8 : Memref sig .scVector .vmem S1616 .f32) (r0 r1 r2 r3 : DmaSems sig S_) (q q' : PosShare TreeShare)
    (O : CellTallies nD τ sig (HIx 1)) (Wt : Waits sig (HIx 1)) (A : S204800.Idx → BitVec 32) (B : S204800.Idx → F .f32) (g : ℕ) : sProp 𝕄 :=
  iprop(Transfers.MayWaits (thr d i) (none : HIx 1) O ∗ owns (thr d i) arg2 q A ∗ owns (thr d i) arg3 q' B
    ∗ (∃ X, owns (thr d i) arg7 fullShare X) ∗ (∃ Y, owns (thr d i) arg8 fullShare Y)
    ∗ owns (thr d i) arg5 fullShare (zeros 8192 : Vec F S8x8192 .f32) ∗ owns (thr d i) arg6 fullShare (zeros 1696 : Vec F S8x1696 .f32)
    ∗ OutHeld (F := F) d i arg4 (scatAll A B) (Done i g 0)
    ∗ semVal (thr d i, SemLoc.dma r0.sem) 0 ∗ semVal (thr d i, SemLoc.dma r1.sem) 0 ∗ semVal (thr d i, SemLoc.dma r2.sem) 0 ∗ semVal (thr d i, SemLoc.dma r3.sem) 0
    ∗ Rec (F := F) (thr d i) O Wt)

theorem wp_group {g : Fin k1_t17_loop.trips} (hA : ∀ n, (flat A n).toNat < 100000) :
    Between (F := F) d i arg2 arg3 arg4 arg5 arg6 arg7 arg8 r0 r1 r2 r3 q q' O Wt A B g.val
      ⊢ wp frame (wpE (defs₀ (F := F)) 𝒱₀ (thr d i) none) Set.univ (group i arg2 arg3 arg4 arg5 harg5 arg6 harg6 arg7 arg8 r0 r1 r2 r3 zero16 low8 g)
        fun _ => Between (F := F) d i arg2 arg3 arg4 arg5 arg6 arg7 arg8 r0 r1 r2 r3 q q' O Wt A B (g.val + 1) := by
  have hoff : k1_off17 i g = ![200 * (base i + 8 * g.val)] := by
    rw [k1_off17_eq i g]; congr 1; unfold base; omega
  unfold group stagePre Between
  simp only [Prog.lift, Prog.bind_op, Prog.bind_ret]
  iintro ⟨#Hmw, H2, H3, H7, H8, H5, H6, Ho, Hr0, Hr1, Hr2, Hr3, HR⟩
  iapply (wp_stage (F := F) d i (src := arg2) (dst := arg7) (off := k1_off17 i g) (inb := k1_off17_inb i g) rfl rfl hoff) $$ [H2 H7 Hr0 HR]
  · isplitr; · iexact Hmw
    isplitl [H2]; · iexact H2
    isplitl [H7]; · iexact H7
    isplitl [Hr0] <;> iassumption
  iintro ⟨H2, ⟨%X, %hX, H7⟩, Hr0, HR⟩
  iapply (wp_stage (F := F) d i (src := arg3) (dst := arg8) (off := k1_off17 i g) (inb := k1_off17_inb i g) rfl rfl hoff) $$ [H3 H8 Hr1 HR]
  · isplitr; · iexact Hmw
    isplitl [H3]; · iexact H3
    isplitl [H8]; · iexact H8
    isplitl [Hr1] <;> iassumption
  iintro ⟨H3, ⟨%Y, %hY, H8⟩, Hr1, HR⟩
  iapply (Scf.wp_for_bind (E := TpuEff nD τ sig (Elt F) Λ₀ (thr d i).2) frame (wpE (defs₀ (F := F)) 𝒱₀ (thr d i) none) Set.univ k1_t18_loop.lb k1_t18_loop.ub k1_t18_loop.st k1_t18_ok PUnit.unit _
    (fun t _ => Mid (F := F) d i arg4 arg5 arg7 arg8 r2 O Wt A B X Y (Done i g.val t)) ?_) $$ [H7 H8 H5 Ho Hr2 HR]
  · intro t acc
    iintro H
    iapply (wp_trip (F := F) d i hX hY hA) $$ H
    iintro H; iexact H
  · unfold Mid
    isplitr; · iexact Hmw
    isplitl [H7]; · iexact H7
    isplitl [H8]; · iexact H8
    isplitl [H5]; · iexact H5
    isplitl [Ho]; · iexact Ho
    isplitl [Hr2] <;> iassumption
  iintro %_ H
  unfold Mid
  icases H with ⟨-, H7, H8, H5, Ho, Hr2, HR⟩
  iapply (wp_lastRange (F := F) d i hX hY hA) $$ [H7 H8 H6 Ho Hr3 HR]
  · unfold Mid
    isplitr; · iexact Hmw
    isplitl [H7]; · iexact H7
    isplitl [H8]; · iexact H8
    isplitl [H6]; · iexact H6
    isplitl [Ho]; · iexact Ho
    isplitl [Hr3] <;> iassumption
  unfold Mid
  iintro ⟨-, H7, H8, H6, Ho, Hr3, HR⟩
  isplitr; · iexact Hmw
  isplitl [H2]; · iexact H2
  isplitl [H3]; · iexact H3
  isplitl [H7]; · iexists X; iexact H7
  isplitl [H8]; · iexists Y; iexact H8
  isplitl [H5]; · iexact H5
  isplitl [H6]; · iexact H6
  isplitl [Ho]; · iexact Ho
  isplitl [Hr0]; · iexact Hr0
  isplitl [Hr1]; · iexact Hr1
  isplitl [Hr2]; · iexact Hr2
  isplitl [Hr3] <;> iassumption

/-- Both buffers cleared. -/
theorem wp_clearAll {Q : PUnit → sProp 𝕄} {p : PV (F := F) i PUnit} :
    iprop((∃ X, owns (thr d i) arg5 fullShare X) ∗ (∃ X, owns (thr d i) arg6 fullShare X))
      ⊢ iprop(((owns (thr d i) arg5 fullShare (zeros 8192 : Vec F S8x8192 .f32) ∗ owns (thr d i) arg6 fullShare (zeros 1696 : Vec F S8x1696 .f32))
            -∗ wp frame (wpE (defs₀ (F := F)) 𝒱₀ (thr d i) none) Set.univ p Q)
        -∗ wp frame (wpE (defs₀ (F := F)) 𝒱₀ (thr d i) none) Set.univ (clearAll i arg5 arg6 zero16 p) Q) := by
  have fin : ∀ {W : ℕ} {buf : Memref sig .scVector .vmem ⟨2, ![8, W]⟩ .f32}, (Cleared (F := F) d i buf (fun j => (j 0).val < 8) : sProp 𝕄) ⊢ owns (thr d i) buf fullShare (zeros W) := by
    intro W buf
    unfold Cleared
    iintro ⟨%X, %hX, H⟩
    have : X = zeros W := funext fun j => hX j (j 0).isLt
    subst this; iexact H
  have ini : ∀ {W : ℕ} {buf : Memref sig .scVector .vmem ⟨2, ![8, W]⟩ .f32} (X : Vec F ⟨2, ![8, W]⟩ .f32), owns (thr d i) buf fullShare X ⊢ (Cleared (F := F) d i buf (fun j => (j 0).val < 0) : sProp 𝕄) :=
    fun X => Cleared_intro (F := F) d i fun j hj => absurd hj (Nat.not_lt_zero _)
  unfold clearAll
  iintro ⟨⟨%X5, H5⟩, ⟨%X6, H6⟩⟩ Hk
  ihave H5 := (ini X5) $$ H5
  ihave H6 := (ini X6) $$ H6
  iapply (wp_clearRow (F := F) d i (W := 8192) (buf := arg5) 0 k1_off1_eq rfl) $$ H5; iintro H5
  iapply (wp_clearRow (F := F) d i (W := 1696) (buf := arg6) 0 k1_off2_eq rfl) $$ H6; iintro H6
  iapply (wp_clearRow (F := F) d i (W := 8192) (buf := arg5) 1 k1_off3_eq rfl) $$ H5; iintro H5
  iapply (wp_clearRow (F := F) d i (W := 1696) (buf := arg6) 1 k1_off4_eq rfl) $$ H6; iintro H6
  iapply (wp_clearRow (F := F) d i (W := 8192) (buf := arg5) 2 k1_off5_eq rfl) $$ H5; iintro H5
  iapply (wp_clearRow (F := F) d i (W := 1696) (buf := arg6) 2 k1_off6_eq rfl) $$ H6; iintro H6
  iapply (wp_clearRow (F := F) d i (W := 8192) (buf := arg5) 3 k1_off7_eq rfl) $$ H5; iintro H5
  iapply (wp_clearRow (F := F) d i (W := 1696) (buf := arg6) 3 k1_off8_eq rfl) $$ H6; iintro H6
  iapply (wp_clearRow (F := F) d i (W := 8192) (buf := arg5) 4 k1_off9_eq rfl) $$ H5; iintro H5
  iapply (wp_clearRow (F := F) d i (W := 1696) (buf := arg6) 4 k1_off10_eq rfl) $$ H6; iintro H6
  iapply (wp_clearRow (F := F) d i (W := 8192) (buf := arg5) 5 k1_off11_eq rfl) $$ H5; iintro H5
  iapply (wp_clearRow (F := F) d i (W := 1696) (buf := arg6) 5 k1_off12_eq rfl) $$ H6; iintro H6
  iapply (wp_clearRow (F := F) d i (W := 8192) (buf := arg5) 6 k1_off13_eq rfl) $$ H5; iintro H5
  iapply (wp_clearRow (F := F) d i (W := 1696) (buf := arg6) 6 k1_off14_eq rfl) $$ H6; iintro H6
  iapply (wp_clearRow (F := F) d i (W := 8192) (buf := arg5) 7 k1_off15_eq rfl) $$ H5; iintro H5
  iapply (wp_clearRow (F := F) d i (W := 1696) (buf := arg6) 7 k1_off16_eq rfl) $$ H6; iintro H6
  iapply Hk
  isplitl [H5]
  · iapply fin $$ H5
  · iapply fin $$ H6

/-- The tile's run: from its share of the words and weights and its part of the result at any contents, to that part
    written. -/
theorem wp_tile (hA : ∀ n, (flat A n).toNat < 100000) :
    iprop(Transfers.MayWaits (thr d i) (none : HIx 1) O ∗ owns (thr d i) arg2 q A ∗ owns (thr d i) arg3 q' B
        ∗ (∃ X, owns (thr d i) arg7 fullShare X) ∗ (∃ Y, owns (thr d i) arg8 fullShare Y)
        ∗ (∃ X, owns (thr d i) arg5 fullShare X) ∗ (∃ X, owns (thr d i) arg6 fullShare X)
        ∗ OutHeld (F := F) d i arg4 (scatAll A B) (fun _ => False)
        ∗ semVal (thr d i, SemLoc.dma r0.sem) 0 ∗ semVal (thr d i, SemLoc.dma r1.sem) 0 ∗ semVal (thr d i, SemLoc.dma r2.sem) 0 ∗ semVal (thr d i, SemLoc.dma r3.sem) 0
        ∗ Rec (F := F) (thr d i) O Wt)
      ⊢ wp frame (wpE (defs₀ (F := F)) 𝒱₀ (thr d i) none) Set.univ
          (cc1_sc_kernel (F := F) i arg2 harg2 arg3 harg3 arg4 harg4 arg5 harg5 arg6 harg6 arg7 harg7 arg8 harg8 r0 r1 r2 r3)
          fun _ => Between (F := F) d i arg2 arg3 arg4 arg5 arg6 arg7 arg8 r0 r1 r2 r3 q q' O Wt A B 4 := by
  rw [kernel_eq]
  iintro ⟨#Hmw, H2, H3, H7, H8, H5, H6, Ho, Hr0, Hr1, Hr2, Hr3, HR⟩
  iapply (wp_clearAll (F := F) d i) $$ [H5 H6]
  · isplitl [H5] <;> iassumption
  iintro ⟨H5, H6⟩
  iapply (Scf.wp_for_bind (E := TpuEff nD τ sig (Elt F) Λ₀ (thr d i).2) frame (wpE (defs₀ (F := F)) 𝒱₀ (thr d i) none) Set.univ k1_t17_loop.lb k1_t17_loop.ub k1_t17_loop.st k1_t17_ok PUnit.unit _
    (fun g _ => Between (F := F) d i arg2 arg3 arg4 arg5 arg6 arg7 arg8 r0 r1 r2 r3 q q' O Wt A B g) ?_) $$ [H2 H3 H7 H8 H5 H6 Ho Hr0 Hr1 Hr2 Hr3 HR]
  · intro g acc
    exact wp_group (F := F) d i hA
  · unfold Between
    isplitr; · iexact Hmw
    isplitl [H2]; · iexact H2
    isplitl [H3]; · iexact H3
    isplitl [H7]; · iexact H7
    isplitl [H8]; · iexact H8
    isplitl [H5]; · iexact H5
    isplitl [H6]; · iexact H6
    isplitl [Ho]
    · iapply (OutHeld_mono (F := F) d i (fun j hj => ?_)) $$ Ho
      unfold Done at hj; omega
    isplitl [Hr0]; · iexact Hr0
    isplitl [Hr1]; · iexact Hr1
    isplitl [Hr2]; · iexact Hr2
    isplitl [Hr3] <;> iassumption
  iintro %_ H
  rw [wp_pure]
  imodintro
  iexact H

end Cert.Proof.Body

end
-- ==== Proof.Region.lean ====
/-
  The TensorCore part: one pipelined kernel over eight blocks of rows, computing the attention weights. Its body's
  effect on the staging buffers, the proof data of the pipeline, and the call's rule: the four operands come back as they
  were and the result array holds, block by block, what the body computes of the operands' blocks.
-/
module

public import proofs.«01_k».proof.Proof.Common
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArrays
public import Idealize.ShloMosaic.Lib.Pipeline.Value
public import Idealize.ShloMosaic.Lib.Ring

@[expose] public section

set_option maxRecDepth 16384

noncomputable section

namespace Cert.Proof

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)

variable {F : FTy → Type} [FloatOps F]

local notation "𝕄" => MT nD τ sig (HIx 1) (Elt F) ℕ UU ℕ

/-! ## The body -/

abbrev aH : Rect S200x64x128 := Rect.unit (s := S200x64x128) ![0, 0, 0] S200x64x128.size inb_S200x64x128_S200x64x128_0_0_0
abbrev aW : Rect S64 := Rect.unit (s := S64) ![0] S64.size inb_S64_S64_0
abbrev aB : Rect S1 := Rect.unit (s := S1) ![0] S1.size inb_S1_S1_0
abbrev aI : Rect S200x128 := Rect.unit (s := S200x128) ![0, 0] S200x128.size inb_S200x128_S200x128_0_0
abbrev aO : Rect S128x200 := Rect.unit (s := S128x200) ![0, 0] S128x200.size inb_S128x200_S128x200_0_0

/-- What the body stores, of the four input blocks: hidden states, identifiers, projection, bias. -/
def blockOut (h : Vec F S200x64x128 .f32) (ids : Vec F S200x128 .i32) (w : Vec F S64 .f32) (b : Vec F S1 .f32) : Vec F S128x200 .f32 :=
  View.canon [⟨aO, k0_pay1 (View.ld h aH) (View.ld w aW) (View.ld b aB) (View.ld ids aI)⟩]

theorem aO_cover (p : Vec F S128x200 .f32) (y : S128x200.Idx) : ∃ pc ∈ ([⟨aO, p⟩] : List (View.Piece (Elt F) S128x200 .f32)), y ∈ pc.1.set :=
  View.cover_of_tiled [⟨aO, p⟩] S128x200.size (by rfl) y

set_option maxHeartbeats 1000000 in
/-- The body on whole staging buffers: the inputs are kept, the output buffer ends at `blockOut` of them. -/
theorem wp_weights (c : Dev nD) (E : Set ℕ) (i : grid0.Coords)
    (b1 : Memref sig .tc .vmem S200x64x128 .f32) (h1 : b1.IsWhole) (b2 : Memref sig .tc .vmem S200x128 .i32) (h2 : b2.IsWhole)
    (b3 : Memref sig .tc .vmem S64 .f32) (h3 : b3.IsWhole) (b4 : Memref sig .tc .vmem S1 .f32) (h4 : b4.IsWhole)
    (b5 : Memref sig .tc .vmem S128x200 .f32) (h5 : b5.IsWhole)
    (x : Vec F S200x64x128 .f32) (ids : Vec F S200x128 .i32) (w : Vec F S64 .f32) (b : Vec F S1 .f32) (Q : PUnit → sProp 𝕄) :
    iprop(owns (c : Thread nD τ) b1 fullShare x ∗ owns (c : Thread nD τ) b2 fullShare ids ∗ owns (c : Thread nD τ) b3 fullShare w
        ∗ owns (c : Thread nD τ) b4 fullShare b ∗ (∃ y, owns (c : Thread nD τ) b5 fullShare y)
        ∗ (iprop(owns (c : Thread nD τ) b1 fullShare x ∗ owns (c : Thread nD τ) b2 fullShare ids ∗ owns (c : Thread nD τ) b3 fullShare w
            ∗ owns (c : Thread nD τ) b4 fullShare b ∗ owns (c : Thread nD τ) b5 fullShare (blockOut x ids w b)) -∗ Q ⟨⟩))
      ⊢ wp frame (wpE (defs₀ (F := F)) 𝒱₀ c none) E (cc0__tc_weights_kernel i b1 h1 b2 h2 b3 h3 b4 h4 b5 h5) Q := by
  simp only [cc0__tc_weights_kernel_eq_skeleton]; unfold cc0__tc_weights_kernel_skel
  unfold owns
  iintro ⟨⟨%f1, %e1, A1⟩, ⟨%f2, %e2, A2⟩, ⟨%f3, %e3, A3⟩, ⟨%f4, %e4, A4⟩, ⟨%y, %f5, -, A5⟩, HQ⟩
  subst e1 e2 e3 e4
  sl_exec
  sl_step
  iapply HQ
  isplitl [A1]; · iexists f1; isplitr; · ipureintro; rfl
                  iexact A1
  isplitl [A2]; · iexists f2; isplitr; · ipureintro; rfl
                  iexact A2
  isplitl [A3]; · iexists f3; isplitr; · ipureintro; rfl
                  iexact A3
  isplitl [A4]; · iexists f4; isplitr; · ipureintro; rfl
                  iexact A4
  iexists _; isplitr
  swap; · iexact A5
  ipureintro
  exact View.read_writes_eq_canon _ _ _ (aO_cover _)

/-! ## The pipeline's proof data -/

/-- The TensorCore's buffers, by name. -/
abbrev Bufs : Type := (c : Dev nD) → (b : Ref sig .tc) → Buf (Elt F) ((c : Thread nD τ).loc b)

/-- Window `w`'s block at grid point `t` of its array. -/
def blockAt (X : Bufs (F := F)) (c : Dev nD) (w : Fin cfg0.W) (t : Fin cfg0.N) :
    ((cfg0.win w).xblock (cfg0.grid.coords t)).Idx → Elt F (cfg0.win w).elt :=
  ((cfg0.win w).blk t).view.read (Elt F) (X c (Pipeline.arrRef spec0 w))

/-- Arrays at `X`; the body keeps each input's block and leaves `blockOut` of them in the output's buffer; the core owes
    its start signals throughout, and every wait recorded so far is one of the kernels' own transfers'. -/
def pdat (X : Bufs (F := F)) (_ : Fin 1) (c : Dev nD) : Dat τ (Elt F) (HIx 1) ℕ UU ℕ cfg0 c where
  A w := X c (Pipeline.arrRef spec0 w)
  after w t := match w with
    | ⟨0, _⟩ => blockAt X c 0 t
    | ⟨1, _⟩ => blockAt X c 1 t
    | ⟨2, _⟩ => blockAt X c 2 t
    | ⟨3, _⟩ => blockAt X c 3 t
    | ⟨4, _⟩ => blockOut (blockAt X c 0 t) (blockAt X c 1 t) (blockAt X c 2 t) (blockAt X c 3 t)
  Φ _ := Pipeline.scopedRest spec0 c
  q _ := fullShare
  owed _ := (K (F := F)).Otc c 0
  recorded _ := {p | p.2 = none}

variable (X : Bufs (F := F))

theorem pdat_A (c : Dev nD) (w : Fin cfg0.W) : (pdat X 0 c).A w = X c (Pipeline.arrRef spec0 w) := by dsimp only [pdat]
theorem after_0 (c : Dev nD) (t : Fin cfg0.N) : (pdat X 0 c).after 0 t = blockAt X c 0 t := by dsimp only [pdat]
theorem after_1 (c : Dev nD) (t : Fin cfg0.N) : (pdat X 0 c).after 1 t = blockAt X c 1 t := by dsimp only [pdat]
theorem after_2 (c : Dev nD) (t : Fin cfg0.N) : (pdat X 0 c).after 2 t = blockAt X c 2 t := by dsimp only [pdat]
theorem after_3 (c : Dev nD) (t : Fin cfg0.N) : (pdat X 0 c).after 3 t = blockAt X c 3 t := by dsimp only [pdat]
theorem after_4 (c : Dev nD) (t : Fin cfg0.N) : (pdat X 0 c).after 4 t
    = blockOut (blockAt X c 0 t) (blockAt X c 1 t) (blockAt X c 2 t) (blockAt X c 3 t) := by dsimp only [pdat]

theorem before_0 (c : Dev nD) (t : Fin cfg0.N) (y) : (pdat X 0 c).before 0 t y = blockAt X c 0 t :=
  ((pdat X 0 c).before_in_eq_fetched 0 rfl (fun _ => rfl) (fun _ _ _ => rfl)
    (fun t => by rw [after_0]; unfold Dat.blockOf blockAt; rw [pdat_A]; try rfl) t y).trans (by unfold Dat.fetched Dat.blockOf blockAt; rw [pdat_A]; try rfl)
theorem before_1 (c : Dev nD) (t : Fin cfg0.N) (y) : (pdat X 0 c).before 1 t y = blockAt X c 1 t :=
  ((pdat X 0 c).before_in_eq_fetched 1 rfl (fun _ => rfl) (fun _ _ _ => rfl)
    (fun t => by rw [after_1]; unfold Dat.blockOf blockAt; rw [pdat_A]; try rfl) t y).trans (by unfold Dat.fetched Dat.blockOf blockAt; rw [pdat_A]; try rfl)
theorem before_2 (c : Dev nD) (t : Fin cfg0.N) (y) : (pdat X 0 c).before 2 t y = blockAt X c 2 t :=
  ((pdat X 0 c).before_in_eq_fetched 2 rfl (fun _ => rfl) (fun _ _ _ => rfl)
    (fun t => by rw [after_2]; unfold Dat.blockOf blockAt; rw [pdat_A]; try rfl) t y).trans (by unfold Dat.fetched Dat.blockOf blockAt; rw [pdat_A]; try rfl)
theorem before_3 (c : Dev nD) (t : Fin cfg0.N) (y) : (pdat X 0 c).before 3 t y = blockAt X c 3 t :=
  ((pdat X 0 c).before_in_eq_fetched 3 rfl (fun _ => rfl) (fun _ _ _ => rfl)
    (fun t => by rw [after_3]; unfold Dat.blockOf blockAt; rw [pdat_A]; try rfl) t y).trans (by unfold Dat.fetched Dat.blockOf blockAt; rw [pdat_A]; try rfl)

/-- What the body is handed at point `t`, and what it hands back, window by window. -/
def handed (c : Dev nD) (t : Fin cfg0.N) : sProp 𝕄 :=
  iprop((pdat X 0 c).Φ t.castSucc ∗ (pdat X 0 c).owesAt none t.castSucc
    ∗ (∃ y, owns (c : Thread nD τ) (st0_0 t) fullShare ((pdat X 0 c).before 0 t y))
    ∗ (∃ y, owns (c : Thread nD τ) (st0_1 t) fullShare ((pdat X 0 c).before 1 t y))
    ∗ (∃ y, owns (c : Thread nD τ) (st0_2 t) fullShare ((pdat X 0 c).before 2 t y))
    ∗ (∃ y, owns (c : Thread nD τ) (st0_3 t) fullShare ((pdat X 0 c).before 3 t y))
    ∗ (∃ y, owns (c : Thread nD τ) (st0_4 t) fullShare ((pdat X 0 c).before 4 t y)))

def handedBack (c : Dev nD) (t : Fin cfg0.N) : sProp 𝕄 :=
  iprop((pdat X 0 c).Φ t.succ ∗ (pdat X 0 c).owesAt none t.succ
    ∗ owns (c : Thread nD τ) (st0_0 t) fullShare ((pdat X 0 c).after 0 t)
    ∗ owns (c : Thread nD τ) (st0_1 t) fullShare ((pdat X 0 c).after 1 t)
    ∗ owns (c : Thread nD τ) (st0_2 t) fullShare ((pdat X 0 c).after 2 t)
    ∗ owns (c : Thread nD τ) (st0_3 t) fullShare ((pdat X 0 c).after 3 t)
    ∗ owns (c : Thread nD τ) (st0_4 t) fullShare ((pdat X 0 c).after 4 t))

theorem wp_point (c : Dev nD) (t : Fin cfg0.N) :
    handed X c t ⊢ wp frame (wpE (defs₀ (F := F)) 𝒱₀ c none) Set.univ (bodyAt0 t) (fun _ => handedBack X c t) := by
  unfold handed handedBack bodyAt0
  simp only [before_0, before_1, before_2, before_3]
  rw [show (pdat X 0 c).Φ t.succ = (pdat X 0 c).Φ t.castSucc from rfl,
    show (pdat X 0 c).owesAt none t.succ = (pdat X 0 c).owesAt none t.castSucc from rfl, after_0, after_1, after_2, after_3, after_4]
  iintro ⟨HΦ, HO, ⟨%y0, A0⟩, ⟨%y1, A1⟩, ⟨%y2, A2⟩, ⟨%y3, A3⟩, ⟨%y4, A4⟩⟩
  iapply (wp_weights c Set.univ (grid0.coords t) _ _ _ _ _ _ _ _ _ _ (blockAt X c 0 t) (blockAt X c 1 t) (blockAt X c 2 t) (blockAt X c 3 t) _)
  isplitl [A0]; · iexact A0
  isplitl [A1]; · iexact A1
  isplitl [A2]; · iexact A2
  isplitl [A3]; · iexact A3
  isplitl [A4]; · iexists _; iexact A4
  iintro ⟨A0, A1, A2, A3, A4⟩
  isplitl [HΦ]; · iexact HΦ
  isplitl [HO]; · iexact HO
  isplitl [A0]; · iexact A0
  isplitl [A1]; · iexact A1
  isplitl [A2]; · iexact A2
  isplitl [A3]; · iexact A3
  iexact A4

theorem defs₀_tc (t : Fin cfg0.N) : defs₀ (F := F) .tc cfg0.body (cfg0.bodyArgs t (cfg0.slots t)) = bodyAt0 t := by
  unfold defs₀; rfl

theorem body_obl (c : Dev nD) : BodyObligation (pdat (F := F) X 0 c) (defs₀ (F := F)) 𝒱₀ none Set.univ := fun t => by
  rw [bigSep_W0, bigSep_W0, defs₀_tc]
  exact triple_restated (wp_point X c t) rfl .rfl fun _ => .rfl

/-! ## The call -/

abbrev adm : (p : Fin 1) → (pcfgs (F := F) p).Adm := fun p => (cfgs p).toPCfg_adm

theorem Otc_none (d : Dev nD) (n : ℕ) (g : GSem nD τ sig) : (K (F := F)).Otc (N := 1) d n g none = 0 := by
  by_contra h
  have := (K (F := F)).lev_of_Otc_pos (Nat.pos_of_ne_zero h)
  simp [SparseCore.Cfg.lev] at this

/-- The core's obligations around the call: its start signals, with every recorded wait a transfer's. -/
abbrev tcOwes (c : Dev nD) : sProp 𝕄 := iprop(∃ W, ⌜∀ p ∈ W, p.2 = none⌝ ∗ owes (T c) ((K (F := F)).Otc c 0) W)

theorem share_full (c : Dev nD) (w : Fin cfg0.W) : (pdat X 0 c).share w = fullShare := (pdat X 0 c).share_full (fun _ => rfl) w

def region : Pipeline.RegionSeg (pcfgs (F := F)) adm (pdat X) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obl X c).loose
  hwaits c := Pipeline.cellsWaits_intro (Pipeline.pin (pcfgs (F := F)) adm) (pdat X) none 0 c fun w s t => (K (F := F)).mayWait_none _ (Otc_none c 0)
  pre c := iprop((pdat X 0 c).arrays ((pdat X 0 c).arrAt · 0) ∗ tcOwes c)
  post c := iprop((pdat X 0 c).arrays ((pdat X 0 c).arrAt · cfg0.N) ∗ tcOwes c)
  X _ := iprop(emp)
  Y _ := iprop(emp)
  Z _ := iprop(emp)
  hentry c := by
    rw [Pipeline.ownSems0_none, Pipeline.prefHeld_of_none _ rfl]
    iintro ⟨⟨HA, %W, %hW, HO⟩, -, -⟩
    imodintro
    isplitl [HA]; · iexact HA
    isplitr; · iempintro
    isplitl [HO]
    · iexists W; isplitr; · ipureintro; exact fun p hp => Or.inl (hW p hp)
      iexact HO
    isplitr <;> iempintro
  hin c := by
    show iprop(emp ∗ _ ∗ Pipeline.scopedRest spec0 c) ⊢ Pipeline.scopedRest spec0 c
    iintro ⟨-, -, H⟩; iexact H
  hout c := by
    rw [Pipeline.ownSems0_none]
    show Pipeline.scopedRest spec0 c ⊢ iprop(emp ∗ emp ∗ Pipeline.scopedRest spec0 c)
    iintro H
    isplitr; · iempintro
    isplitr; · iempintro
    iexact H
  hexit c := by
    iintro ⟨HA, ⟨%W, %hW, HO⟩, -, -⟩
    imodintro
    isplitl [HA]; · iexact HA
    iexists W; isplitr
    · ipureintro
      intro p hp
      rcases hW hp with h | ⟨w, s, h⟩
      · exact h
      · rw [h]
    iexact HO

/-- The weights array once the call is over. -/
def weights (c : Dev nD) : Buf (Elt F) ((c : Thread nD τ).loc main_v2) := (pdat X 0 c).arrAt 4 cfg0.N

abbrev ghost (c : Dev nD) : sProp 𝕄 :=
  iprop(Pipeline.cellsGhost (Pipeline.pin (pcfgs (F := F)) adm) EP 0 c ∗ Pipeline.toksInit (Pipeline.pin (pcfgs (F := F)) adm) EP 0 c)

/-- The five arrays of the call, whole. -/
def fiveAt (c : Dev nD) (Y : Buf (Elt F) ((c : Thread nD τ).loc main_v2)) : sProp 𝕄 :=
  iprop(((c : Thread nD τ).loc main_v0 ↦{fullShare} X c main_v0) ∗ ((c : Thread nD τ).loc main_v1 ↦{fullShare} X c main_v1)
    ∗ ((c : Thread nD τ).loc main_arg2 ↦{fullShare} X c main_arg2) ∗ ((c : Thread nD τ).loc main_arg3 ↦{fullShare} X c main_arg3)
    ∗ ((c : Thread nD τ).loc main_v2 ↦{fullShare} Y))

theorem arrays_entry (c : Dev nD) : fiveAt X c (X c main_v2) ⊢ (pdat X 0 c).arrays ((pdat X 0 c).arrAt · 0) := by
  rw [Pipeline.arrays_eq cfgs (pdat X) 0 c launch0.arr_whole (share_full X c), bigSep_W0]
  exact .rfl

theorem arrays_exit (c : Dev nD) : (pdat X 0 c).arrays ((pdat X 0 c).arrAt · cfg0.N) ⊢ fiveAt X c (weights X c) := by
  rw [Pipeline.arrays_eq cfgs (pdat X) 0 c launch0.arr_whole (share_full X c), bigSep_W0,
    (pdat X 0 c).arrAt_in 0 rfl, (pdat X 0 c).arrAt_in 1 rfl, (pdat X 0 c).arrAt_in 2 rfl, (pdat X 0 c).arrAt_in 3 rfl]
  exact .rfl

theorem region_pre (c : Dev nD) : iprop(fiveAt X c (X c main_v2) ∗ tcOwes c) ⊢ (region X).pre c := sep_mono (arrays_entry X c) .rfl
theorem region_post (c : Dev nD) : (region X).post c ⊢ iprop(fiveAt X c (weights X c) ∗ tcOwes c) := sep_mono (arrays_exit X c) .rfl

theorem wp_region [∀ e, Nonempty (Elt F e)] (c : Dev nD) {α : Type}
    (k : PUnit → Prog (TpuEff nD τ sig (Elt F) (ΛP (F := F)) .tc) α) (Q : α → sProp 𝕄) :
    iprop((iprop(boundary (T c) ∗ fiveAt X c (weights X c) ∗ tcOwes c) -∗ wp frame (wpE (D (F := F)) 𝒱 (T c) none) Set.univ (k ⟨⟩) Q)
        ∗ boundary (T c) ∗ fiveAt X c (X c main_v2) ∗ tcOwes c ∗ levAts (K (F := F)).L (K (F := F)).lev ∗ ghost c)
      ⊢ wp frame (wpE (D (F := F)) 𝒱 (T c) none) Set.univ (.op (.customCall (Pipeline.entry 0) ()) k) Q := by
  have hwp := Pipeline.RegionSeg.wp (pcfgs (F := F)) adm (pdat X) none cellOf_inj EP defs₀ 𝒱₀ (K (F := F)).L (K (F := F)).lev
    (region X) c none (fun _ h => nomatch h) k Q
  iintro ⟨HQ, HB, HA, HO, HL, HG⟩
  iapply hwp
  isplitl [HQ]
  · iintro ⟨HB, HP⟩
    iapply HQ
    isplitl [HB]; · iexact HB
    iapply (region_post X c); iexact HP
  isplitl [HB]; · iexact HB
  isplitl [HA HO]
  · iapply (region_pre X c)
    isplitl [HA]; · iexact HA
    iexact HO
  isplitl [HL]; · iexact HL
  iexact HG

/-- Block `t` of the weights is what the body computes of the operands' blocks at `t`. -/
theorem weights_block (c : Dev nD) (t : Fin cfg0.N) :
    ((cfg0.win 4).blk t).view.read (Elt F) (weights X c)
      = (cfg0.win 4).cut (grid0.coords t) (blockOut (blockAt X c 0 t) (blockAt X c 1 t) (blockAt X c 2 t) (blockAt X c 3 t)) := by
  have hinj : ∀ t t' : Fin cfg0.N, win0_4.index t = win0_4.index t' → t = t' :=
    (by decide +kernel : ∀ t t' : Fin grid0.N, win0_4.index t = win0_4.index t' → t = t')
  have := (pdat X 0 c).read_blk_arrAt_eq_flushed 4 (fun t t' _ _ hne => (cfg0.win 4).disjoint_blk fun h => hne (hinj t t' h)) cfg0.N t t.isLt (flush0_4 t)
  refine this.trans ?_
  show (cfg0.win 4).cut (grid0.coords t) ((pdat X 0 c).after 4 t) = _
  rw [after_4]

end Cert.Proof

end
-- ==== Proof.Launch.lean ====
/-
  The launch. What travels with the SparseCore call: each core gets a read share of the ids and of the weights and its
  rows of the result, each tile a read share of the core's and its own 32 rows; the rows come back holding the scattered
  sums. Then the TensorCore's @main: the transposes, the TensorCore call, the reshapes, the SparseCore call. The run's
  conclusion: every thread ends, the arguments are unchanged, the result is the scattered sums, every semaphore is zero.
-/
module

public import proofs.«01_k».proof.Proof.Group
public import proofs.«01_k».proof.Proof.Region

@[expose] public section

set_option maxRecDepth 16384

noncomputable section

namespace Cert.Proof

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.StableHlo (held wp_hlo_within)
open Idealize.ShloMosaic.Transfers (shareTokN shareDrop)
open Cert.Proof.Body (thr flat scatAll base tileSet Done OutHeld Between Rec Rec_intro wp_tile)

variable {F : FTy → Type} [FloatOps F]

local notation "𝕄" => MT nD τ sig (HIx 1) (Elt F) ℕ UU ℕ

/-! ## The tiles' rows -/

def coordsV (c : Fin (grid1.bound 0)) (s : Fin (grid1.bound 1)) : grid1.Coords :=
  fun | 0 => c | 1 => s | ⟨_ + 2, h⟩ => absurd h (Nat.not_lt.2 (Nat.le_add_left _ _))

/-- The rows of the result that core `c` owns: those whose block of 32 has the parity of `c`. -/
def coreSet (c : Fin 2) : Finset S1024x100000.Idx := Finset.univ.filter fun j => (j 0).val / 32 % 2 = c.val

theorem row_lt (j : S1024x100000.Idx) : (j 0).val < 1024 := (j 0).isLt

theorem mem_tileSet (c : Fin 2) (s : Fin 16) (j : S1024x100000.Idx) :
    j ∈ tileSet (coordsV c s) ↔ 64 * s.val + 32 * c.val ≤ (j 0).val ∧ (j 0).val < 64 * s.val + 32 * c.val + 32 := by
  unfold tileSet base; rw [Finset.mem_filter]; exact ⟨fun h => h.2, fun h => ⟨Finset.mem_univ _, h⟩⟩

theorem core_cover : (Finset.univ : Finset (Fin 2)).biUnion coreSet = Finset.univ := by
  ext j
  simp only [Finset.mem_biUnion, Finset.mem_univ, true_and, iff_true, coreSet, Finset.mem_filter]
  exact ⟨⟨(j 0).val / 32 % 2, Nat.mod_lt _ (by decide)⟩, rfl⟩

theorem core_disjoint : ∀ c ∈ (Finset.univ : Finset (Fin 2)), ∀ c' ∈ (Finset.univ : Finset (Fin 2)), c ≠ c' → Disjoint (coreSet c) (coreSet c') := by
  intro c _ c' _ h
  rw [Finset.disjoint_left]; intro j hj hj'
  exact h (Fin.ext ((Finset.mem_filter.mp hj).2.symm.trans (Finset.mem_filter.mp hj').2))

theorem tile_cover (c : Fin 2) : (Finset.univ : Finset (Fin 16)).biUnion (fun s => tileSet (coordsV c s)) = coreSet c := by
  ext j
  have hj := row_lt j
  have hc := c.isLt
  simp only [Finset.mem_biUnion, Finset.mem_univ, true_and, mem_tileSet, coreSet, Finset.mem_filter]
  constructor
  · rintro ⟨s, h1, h2⟩; omega
  · intro h; exact ⟨⟨(j 0).val / 64, by omega⟩, by show 64 * ((j 0).val / 64) + _ ≤ _; omega, by show _ < 64 * ((j 0).val / 64) + _ + 32; omega⟩

theorem tile_disjoint (c : Fin 2) : ∀ s ∈ (Finset.univ : Finset (Fin 16)), ∀ s' ∈ (Finset.univ : Finset (Fin 16)), s ≠ s' →
    Disjoint (tileSet (coordsV c s)) (tileSet (coordsV c s')) := by
  intro s _ s' _ h
  rw [Finset.disjoint_left]; intro j hj hj'
  rw [mem_tileSet] at hj hj'
  exact h (Fin.ext (by omega))

/-! ## What travels with the call -/

abbrev iLoc (d : Dev nD) : Loc nD τ sig := (SparseCore.T d).loc main_v3
abbrev wLoc (d : Dev nD) : Loc nD τ sig := (SparseCore.T d).loc main_v4
abbrev oLoc (d : Dev nD) : Loc nD τ sig := (SparseCore.T d).loc main_v5

section Payload
variable (A : (d : Dev nD) → Buf (Elt F) (iLoc d)) (B : (d : Dev nD) → Buf (Elt F) (wLoc d)) (O₀ : (d : Dev nD) → Buf (Elt F) (oLoc d))

/-- The result the tiles leave. -/
def result (d : Dev nD) : Buf (Elt F) (oLoc d) := scatAll (F := F) (A d) (B d)

def stOf (d : Dev nD) (c : Fin 2) : sProp 𝕄 :=
  iprop((iLoc d ↦{shareTokN fullShare c.val} A d) ∗ (wLoc d ↦{shareTokN fullShare c.val} B d) ∗ (oLoc d ↦[coreSet c]{fullShare} O₀ d))
def dnOf (d : Dev nD) (c : Fin 2) : sProp 𝕄 := iprop(oLoc d ↦[coreSet c]{fullShare} result A B d)
def goOf (d : Dev nD) (c : Fin 2) (s : Fin 16) : sProp 𝕄 :=
  iprop((iLoc d ↦{shareTokN (shareTokN fullShare c.val) s.val} A d) ∗ (wLoc d ↦{shareTokN (shareTokN fullShare c.val) s.val} B d)
    ∗ (oLoc d ↦[tileSet (coordsV c s)]{fullShare} O₀ d))
def tdOf (d : Dev nD) (c : Fin 2) (s : Fin 16) : sProp 𝕄 := iprop(oLoc d ↦[tileSet (coordsV c s)]{fullShare} result A B d)

theorem nCore_zero : (K (F := F)).nCore 0 = 2 := rfl
theorem nSub_zero : (K (F := F)).nSub 0 = 16 := rfl

def P : (K (F := F)).Pay (nD := nD) (Val := Elt F) (Name := ℕ) (U := UU) where
  st q d c := match q with | 0 => stOf A B O₀ d (Fin.cast nCore_zero c)
  dn q d c := match q with | 0 => dnOf A B d (Fin.cast nCore_zero c)
  go q d c i := match q with | 0 => goOf A B O₀ d (Fin.cast nCore_zero c) (Fin.cast nSub_zero i)
  td q d c i := match q with | 0 => tdOf A B d (Fin.cast nCore_zero c) (Fin.cast nSub_zero i)
  x := fun _ _ => iprop(emp)

instance P_storable : (P A B O₀).IsStorable where
  st q d c := match q with
    | 0 => (inferInstance : BI.Storable (upEmb : UEmb _ 𝕄) iprop((iLoc d ↦{shareTokN fullShare (Fin.cast nCore_zero c : Fin 2).val} A d) ∗ (wLoc d ↦{shareTokN fullShare (Fin.cast nCore_zero c : Fin 2).val} B d) ∗ (oLoc d ↦[coreSet (Fin.cast nCore_zero c)]{fullShare} O₀ d)))
  dn q d c := match q with
    | 0 => (inferInstance : BI.Storable (upEmb : UEmb _ 𝕄) iprop(oLoc d ↦[coreSet (Fin.cast nCore_zero c)]{fullShare} result A B d))
  go q d c i := match q with
    | 0 => (inferInstance : BI.Storable (upEmb : UEmb _ 𝕄) iprop((iLoc d ↦{shareTokN (shareTokN fullShare (Fin.cast nCore_zero c : Fin 2).val) (Fin.cast nSub_zero i : Fin 16).val} A d) ∗ (wLoc d ↦{shareTokN (shareTokN fullShare (Fin.cast nCore_zero c : Fin 2).val) (Fin.cast nSub_zero i : Fin 16).val} B d) ∗ (oLoc d ↦[tileSet (coordsV (Fin.cast nCore_zero c) (Fin.cast nSub_zero i))]{fullShare} O₀ d)))
  td q d c i := match q with
    | 0 => (inferInstance : BI.Storable (upEmb : UEmb _ 𝕄) iprop(oLoc d ↦[tileSet (coordsV (Fin.cast nCore_zero c) (Fin.cast nSub_zero i))]{fullShare} result A B d))

/-! ## The split over a core's tiles -/

theorem core_tiles (d : Dev nD) (c : Fin 2) (f : Buf (Elt F) (oLoc d)) :
    (oLoc d ↦[coreSet c]{fullShare} f : sProp 𝕄) = bigSep Finset.univ fun s : Fin 16 => oLoc d ↦[tileSet (coordsV c s)]{fullShare} f := by
  rw [← pointsTo_biUnion Finset.univ (ℓ := oLoc d) (fun s : Fin 16 => tileSet (coordsV c s)) (tile_disjoint c), tile_cover]

theorem all_cores (d : Dev nD) (f : Buf (Elt F) (oLoc d)) :
    (oLoc d ↦{fullShare} f : sProp 𝕄) = bigSep Finset.univ fun c : Fin 2 => oLoc d ↦[coreSet c]{fullShare} f := by
  rw [← pointsTo_biUnion Finset.univ (ℓ := oLoc d) coreSet core_disjoint, core_cover]; try rfl

theorem st_split (d : Dev nD) (c : Fin 2) : stOf A B O₀ d c ⊢ (bigSep Finset.univ fun s : Fin 16 => goOf A B O₀ d c s) := by
  unfold stOf goOf
  rw [bigSep_sep', bigSep_sep', core_tiles]
  refine sep_mono ((Transfers.pointsTo_toks_split (shareTokN fullShare c.val) 16).trans sep_elim_right) (sep_mono ?_ (Entails.refl _))
  exact (Transfers.pointsTo_toks_split (shareTokN fullShare c.val) 16).trans sep_elim_right

theorem td_join (d : Dev nD) (c : Fin 2) : (bigSep Finset.univ fun s : Fin 16 => tdOf A B d c s) ⊢ dnOf A B d c := by
  unfold tdOf dnOf; rw [core_tiles]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P A B O₀) 0 := by
  intro d c
  show stOf A B O₀ d (Fin.cast nCore_zero c) ⊢ |={Set.univ}=> iprop((bigSep Finset.univ fun i : Fin ((K (F := F)).nSub 0) => goOf A B O₀ d (Fin.cast nCore_zero c) (Fin.cast nSub_zero i))
    ∗ ((bigSep Finset.univ fun i : Fin ((K (F := F)).nSub 0) => tdOf A B d (Fin.cast nCore_zero c) (Fin.cast nSub_zero i)) -∗ dnOf A B d (Fin.cast nCore_zero c)))
  rw [bigSep_tasks (goOf A B O₀ d (Fin.cast nCore_zero c)), bigSep_tasks (tdOf A B d (Fin.cast nCore_zero c))]
  iintro H
  imodintro
  isplitl [H]
  · iapply (st_split A B O₀ d (Fin.cast nCore_zero c)); iexact H
  · iintro H'; iapply (td_join A B d (Fin.cast nCore_zero c)); iexact H'

/-! ## The tile's obligation -/

section Tile
variable (d : Dev nD) (i : grid1.Coords)

theorem ownSems0_V :
    (ownSems0 (thr d i) : sProp 𝕄)
      = iprop(semVal (thr d i, SemLoc.dma cc1_scoped0.sem) 0 ∗ semVal (thr d i, SemLoc.dma cc1_scoped1.sem) 0
          ∗ semVal (thr d i, SemLoc.dma cc1_scoped2.sem) 0 ∗ semVal (thr d i, SemLoc.dma cc1_scoped3.sem) 0
          ∗ bigSep (((((ownCells (thr d i)).erase (thr d i, SemLoc.dma cc1_scoped0.sem)).erase (thr d i, SemLoc.dma cc1_scoped1.sem)).erase
              (thr d i, SemLoc.dma cc1_scoped2.sem)).erase (thr d i, SemLoc.dma cc1_scoped3.sem)) fun g => semVal g 0) := by
  have hne : ∀ {a b : SemLoc sig}, a ≠ b → ((thr d i, a) : GSem nD τ sig) ≠ (thr d i, b) := fun h e => h (Prod.mk.inj e).2
  have hm : ∀ a : SemLoc sig, a.isScoped .scVector = true → ((thr d i, a) : GSem nD τ sig) ∈ ownCells (thr d i) :=
    fun a h => mem_ownCells.mpr ⟨rfl, h⟩
  unfold SparseCore.Cfg.ownSems0
  rw [SparseCore.bigSep_erase' (hm (SemLoc.dma cc1_scoped0.sem) (by decide)),
    SparseCore.bigSep_erase' (Finset.mem_erase.mpr ⟨hne (a := SemLoc.dma cc1_scoped1.sem) (by decide), hm _ (by decide)⟩),
    SparseCore.bigSep_erase' (Finset.mem_erase.mpr ⟨hne (a := SemLoc.dma cc1_scoped2.sem) (by decide),
      Finset.mem_erase.mpr ⟨hne (by decide), hm _ (by decide)⟩⟩),
    SparseCore.bigSep_erase' (Finset.mem_erase.mpr ⟨hne (a := SemLoc.dma cc1_scoped3.sem) (by decide),
      Finset.mem_erase.mpr ⟨hne (by decide), Finset.mem_erase.mpr ⟨hne (by decide), hm _ (by decide)⟩⟩⟩)]

abbrev pr (i : grid1.Coords) : Proc τ := .scVector ((i 0).castLE hcore1) ((i 1).castLE hsub1)

theorem ownBufs_V :
    (ownBufs (thr d i) : sProp 𝕄)
      = iprop((∃ f, (thr d i).loc cc1_scratch0 ↦{fullShare} f) ∗ (∃ f, (thr d i).loc cc1_scratch1 ↦{fullShare} f)
          ∗ (∃ f, (thr d i).loc cc1_scratch2 ↦{fullShare} f) ∗ (∃ f, (thr d i).loc cc1_scratch3 ↦{fullShare} f)
          ∗ bigSep (((((ownRefs (τ := τ) (pr i)).erase ((pr i).devRef cc1_scratch0)).erase ((pr i).devRef cc1_scratch1)).erase
              ((pr i).devRef cc1_scratch2)).erase ((pr i).devRef cc1_scratch3))
              fun b => iprop(∃ f, ((d, b) : Loc nD τ sig) ↦{fullShare} f)) := by
  have hne : ∀ {a b : Ref sig .scVector}, a ≠ b → (pr i).devRef a ≠ (pr i).devRef b := fun h e => h (Proc.devRef_injective _ e)
  unfold SparseCore.Cfg.ownBufs
  refine (SparseCore.bigSep_erase' (SparseCore.Cfg.mem_ownRefs_of_owner (p := pr i) (b := (pr i).devRef cc1_scratch0) rfl)).trans ?_
  rw [SparseCore.bigSep_erase' (Finset.mem_erase.mpr ⟨hne (a := cc1_scratch1) (by decide),
      SparseCore.Cfg.mem_ownRefs_of_owner (p := pr i) (b := (pr i).devRef cc1_scratch1) rfl⟩),
    SparseCore.bigSep_erase' (Finset.mem_erase.mpr ⟨hne (a := cc1_scratch2) (by decide), Finset.mem_erase.mpr ⟨hne (by decide),
      SparseCore.Cfg.mem_ownRefs_of_owner (p := pr i) (b := (pr i).devRef cc1_scratch2) rfl⟩⟩),
    SparseCore.bigSep_erase' (Finset.mem_erase.mpr ⟨hne (a := cc1_scratch3) (by decide), Finset.mem_erase.mpr ⟨hne (by decide),
      Finset.mem_erase.mpr ⟨hne (by decide), SparseCore.Cfg.mem_ownRefs_of_owner (p := pr i) (b := (pr i).devRef cc1_scratch3) rfl⟩⟩⟩)]

/-- The numbers as the id words of a tile: every id below 100000. -/
def IdsOK : Prop := ∀ (d : Dev nD) (n : ℕ), (flat (α := BitVec 32) (A d) n).toNat < 100000

theorem setOn_whole (M : Finset S1024x100000.Idx) : (Memref.whole main_v5_scv).view.setOn M = M := Finset.map_refl

theorem out_held (c : Fin 2) (s : Fin 16) :
    (oLoc d ↦[tileSet (coordsV c s)]{fullShare} O₀ d : sProp 𝕄)
      ⊢ OutHeld d (coordsV c s) (Memref.whole main_v5_scv) (result A B d) (fun _ => False) := by
  unfold OutHeld
  rw [setOn_whole]
  iintro H
  iexists (O₀ d)
  isplitr
  · ipureintro; exact fun j h => h.elim
  · iexact H

theorem out_done (c : Fin 2) (s : Fin 16) :
    OutHeld d (coordsV c s) (Memref.whole main_v5_scv) (result A B d) (Done (coordsV c s) 4 0)
      ⊢ (oLoc d ↦[tileSet (coordsV c s)]{fullShare} result A B d : sProp 𝕄) := by
  unfold OutHeld
  rw [setOn_whole]
  iintro ⟨%f, %hf, H⟩
  ihave H' := (Entails.of_eq (pointsTo_congr (ℓ := oLoc d) (I := tileSet (coordsV c s)) (q := fullShare) (f := f) (g := result A B d)
    fun j hj => hf j (by
      rw [mem_tileSet] at hj
      unfold Done base
      have h0 : ((coordsV c s) 0).val = c.val := rfl
      have h1 : ((coordsV c s) 1).val = s.val := rfl
      omega))) $$ H
  iexact H'

theorem tile_body (hF : (K (F := F)).Facts) (hA : IdsOK A) (c : Fin 2) (s : Fin 16) (O : CellTallies nD τ sig (HIx 1)) (W : Waits sig (HIx 1)) (hO : ∀ g, O g none = 0) :
    iprop(levAts (K (F := F)).L (K (F := F)).lev ∗ emp ∗ goOf A B O₀ d c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc1_sc_kernel (coordsV c s) (Memref.whole main_v3_scv) (Memref.isWhole_whole _) (Memref.whole main_v4_scv) (Memref.isWhole_whole _)
            (Memref.whole main_v5_scv) (Memref.isWhole_whole _) (Memref.whole cc1_scratch0) (Memref.isWhole_whole _) (Memref.whole cc1_scratch1) (Memref.isWhole_whole _)
            (Memref.whole cc1_scratch2) (Memref.isWhole_whole _) (Memref.whole cc1_scratch3) (Memref.isWhole_whole _) cc1_scoped0 cc1_scoped1 cc1_scoped2 cc1_scoped3)
          fun _ => iprop(tdOf A B d c s ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V hF d _ _, SparseCore.Cfg.scopedSems0_V (Val := Elt F) d _ _, ownSems0_V, ownBufs_V]
  unfold goOf tdOf
  have hrun := wp_tile (F := F) (O := O) (Wt := W) (q := shareTokN (shareTokN fullShare c.val) s.val) (q' := shareTokN (shareTokN fullShare c.val) s.val)
    (arg2 := Memref.whole main_v3_scv) (harg2 := Memref.isWhole_whole _) (arg3 := Memref.whole main_v4_scv) (harg3 := Memref.isWhole_whole _)
    (arg4 := Memref.whole main_v5_scv) (harg4 := Memref.isWhole_whole _) (arg5 := Memref.whole cc1_scratch0) (harg5 := Memref.isWhole_whole _)
    (arg6 := Memref.whole cc1_scratch1) (harg6 := Memref.isWhole_whole _) (arg7 := Memref.whole cc1_scratch2) (harg7 := Memref.isWhole_whole _)
    (arg8 := Memref.whole cc1_scratch3) (harg8 := Memref.isWhole_whole _) (r0 := cc1_scoped0) (r1 := cc1_scoped1) (r2 := cc1_scoped2) (r3 := cc1_scoped3)
    (A := A d) (B := B d) d (coordsV c s) (hA d)
  iintro ⟨#Hlv, -, ⟨Hi, Hw, Ho⟩, ⟨⟨%f5, H5⟩, ⟨%f6, H6⟩, ⟨%f7, H7⟩, ⟨%f8, H8⟩, Hbufs⟩, ⟨Hs0, Hs1, Hs2, Hs3, Hsems⟩, HO⟩
  ihave Hmw := (show levAts (K (F := F)).L (K (F := F)).lev ⊢ Transfers.MayWaits (thr d (coordsV c s)) (default : HIx 1) O from
    (K (F := F)).mayWaits_none (thr := thr d (coordsV c s)) hO) $$ Hlv
  ihave Ho' := (out_held A B O₀ d c s) $$ Ho
  ihave Hw0 := hrun $$ [Hmw Hi Hw H5 H6 H7 H8 Ho' Hs0 Hs1 Hs2 Hs3 HO]
  · isplitl [Hmw]; · iexact Hmw
    isplitl [Hi]; · rw [owns_whole]; iexact Hi
    isplitl [Hw]; · rw [owns_whole]; iexact Hw
    isplitl [H7]; · iexists f7; rw [owns_whole]; iexact H7
    isplitl [H8]; · iexists f8; rw [owns_whole]; iexact H8
    isplitl [H5]; · iexists f5; rw [owns_whole]; iexact H5
    isplitl [H6]; · iexists f6; rw [owns_whole]; iexact H6
    isplitl [Ho']; · iexact Ho'
    isplitl [Hs0]; · iexact Hs0
    isplitl [Hs1]; · iexact Hs1
    isplitl [Hs2]; · iexact Hs2
    isplitl [Hs3]; · iexact Hs3
    iapply (Rec_intro (fun p hp => Or.inl hp)); iexact HO
  iapply (wp_wand frame _ _) $$ Hw0
  iintro %u HB
  unfold Between
  icases HB with ⟨-, -, -, ⟨%X7, H7⟩, ⟨%X8, H8⟩, H5, H6, Ho, Hs0, Hs1, Hs2, Hs3, HO⟩
  isplitl [Ho]; · iapply (out_done A B d c s); iexact Ho
  isplitl [H5 H6 H7 H8 Hbufs]
  · isplitl [H5]; · iexists (Body.zeros 8192); iapply (Entails.of_eq (owns_whole (thr d (coordsV c s)) cc1_scratch0 fullShare (Body.zeros 8192))); iexact H5
    isplitl [H6]; · iexists (Body.zeros 1696); iapply (Entails.of_eq (owns_whole (thr d (coordsV c s)) cc1_scratch1 fullShare (Body.zeros 1696))); iexact H6
    isplitl [H7]; · iexists X7; iapply (Entails.of_eq (owns_whole (thr d (coordsV c s)) cc1_scratch2 fullShare X7)); iexact H7
    isplitl [H8]; · iexists X8; iapply (Entails.of_eq (owns_whole (thr d (coordsV c s)) cc1_scratch3 fullShare X8)); iexact H8
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  unfold Rec; iexact HO

theorem defs₀_vector (c : Fin τ.nSC) (s : Fin τ.nSub) :
    defs₀ (F := F) (.scVector c s) 1 ()
      = SparseCore.onTile hcore1 hsub1 (fun c s => cc1_sc_kernel (coordsV c s) (Memref.whole main_v3_scv) (Memref.isWhole_whole _) (Memref.whole main_v4_scv) (Memref.isWhole_whole _)
          (Memref.whole main_v5_scv) (Memref.isWhole_whole _) (Memref.whole cc1_scratch0) (Memref.isWhole_whole _) (Memref.whole cc1_scratch1) (Memref.isWhole_whole _)
          (Memref.whole cc1_scratch2) (Memref.isWhole_whole _) (Memref.whole cc1_scratch3) (Memref.isWhole_whole _) cc1_scoped0 cc1_scoped1 cc1_scoped2 cc1_scoped3) ⟨⟩ c s := rfl

theorem obl_post {thr : Thread nD τ} {P₁ P₂ P₃ : sProp 𝕄} {O : CellTallies nD τ sig (HIx 1)} {W : Waits sig (HIx 1)} {q : Fin 1} :
    iprop(P₁ ∗ P₂ ∗ P₃ ∗ ∃ W', ⌜∀ p ∈ W', p ∈ W ∨ p.2 = none⌝ ∗ owes thr O W')
      ⊢ iprop(P₁ ∗ P₂ ∗ P₃ ∗ ∃ W', ⌜∀ p ∈ W', p ∈ W ∨ p.2 = none ∨ p.2 = some q⌝ ∗ owes thr O W') := by
  iintro ⟨H₁, H₂, H₃, %W', %hW', HO⟩
  isplitl [H₁]; · iexact H₁
  isplitl [H₂]; · iexact H₂
  isplitl [H₃]; · iexact H₃
  iexists W'; isplitr
  · ipureintro; exact fun p hp => (hW' p hp).imp_right Or.inl
  · iexact HO

theorem tileObl (hF : (K (F := F)).Facts) (hA : IdsOK A) : (K (F := F)).TileObl (D (F := F)) 𝒱 (P A B O₀) v₀ 0 := by
  intro d c i O W hO _ _
  simp only [show (P A B O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body A B O₀ d hF hA (Fin.cast nCore_zero c) (Fin.cast nSub_zero i) O W hO).trans (wp_mono frame _ _ fun _ => obl_post)

end Tile

end Payload

end Cert.Proof

end
-- ==== Proof.Main.lean ====
/-
  The TensorCore's @main and the program's run: the two transposes, the TensorCore call, the two reshapes, the SparseCore
  call; then the launch theorem.
-/
module

public import proofs.«01_k».proof.Proof.Launch

@[expose] public section

set_option maxRecDepth 16384

noncomputable section

namespace Cert.Proof

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.StableHlo (held wp_hlo_within)
open Idealize.ShloMosaic.Transfers (shareTokN shareDrop)
open Cert.Proof.Body (flat scatAll)

variable {F : FTy → Type} [FloatOps F]

local notation "𝕄" => MT nD τ sig (HIx 1) (Elt F) ℕ UU ℕ

/-! ## The contents of the arrays, step by step -/

abbrev opT0 : HloOp τ sig (Elt F) := StableHlo.unary main_arg0 main_v0 ((transpose S200x64x1024 [1, 2, 0] · transposes_S1024x200x64_S200x64x1024_1_2_0) : (⟨S1024x200x64, .f32⟩ : BufTy).Contents (Elt F) → (⟨S200x64x1024, .f32⟩ : BufTy).Contents (Elt F))
abbrev opT1 : HloOp τ sig (Elt F) := StableHlo.unary main_arg1 main_v1 ((transpose S200x1024 [1, 0] · transposes_S1024x200_S200x1024_1_0) : (⟨S1024x200, .i32⟩ : BufTy).Contents (Elt F) → (⟨S200x1024, .i32⟩ : BufTy).Contents (Elt F))
abbrev opR3 : HloOp τ sig (Elt F) := StableHlo.reshape main_arg1 main_v3 (rfl : (.i32 : EltTy) = .i32) shapeCasts_S1024x200_S204800
abbrev opR4 : HloOp τ sig (Elt F) := StableHlo.reshape main_v2 main_v4 (rfl : (.f32 : EltTy) = .f32) shapeCasts_S1024x200_S204800

abbrev dr (b : Ref sig .tc) : DevRef τ sig := Proc.devRef .tc b

variable (m : (ℓ : Loc nD τ sig) → Buf (Elt F) ℓ) (ρ : Dev nD → PrngReg)

def V0 (d : Dev nD) : Valuation τ sig (Elt F) := fun b => m (d, b)
def V2 (d : Dev nD) : Valuation τ sig (Elt F) := opT1.result (opT0.result (V0 m d))
/-- The arrays as the TensorCore call finds them. -/
def before : Bufs (F := F) := fun c b => V2 m c (dr b)
def V3 (d : Dev nD) : Valuation τ sig (Elt F) := Function.update (V2 m d) (dr main_v2) (weights (before m) d)
def V5 (d : Dev nD) : Valuation τ sig (Elt F) := opR4.result (opR3.result (V3 m d))

/-- The flat ids, the flat weights and the result array as the SparseCore call finds them. -/
def idsOf (d : Dev nD) : Buf (Elt F) (iLoc d) := V5 m d (dr main_v3)
def wtsOf (d : Dev nD) : Buf (Elt F) (wLoc d) := V5 m d (dr main_v4)
def outOf (d : Dev nD) : Buf (Elt F) (oLoc d) := V5 m d (dr main_v5)

theorem V0_eq (d : Dev nD) (b : Ref sig .tc) : V0 m d (dr b) = m ((SparseCore.T d).loc b) := rfl

theorem V2_ne (d : Dev nD) {r : Ref sig .tc} (h0 : r ≠ main_v0) (h1 : r ≠ main_v1) : V2 m d (dr r) = m ((SparseCore.T d).loc r) := by
  unfold V2
  exact (StableHlo.unary_result_ne (x := main_arg1) (y := main_v1) _ _ _ _ h1).trans (StableHlo.unary_result_ne (x := main_arg0) (y := main_v0) _ _ _ _ h0)

theorem V5_ne (d : Dev nD) {r : Ref sig .tc} (h0 : r ≠ main_v0) (h1 : r ≠ main_v1) (h2 : r ≠ main_v2) (h3 : r ≠ main_v3) (h4 : r ≠ main_v4) :
    V5 m d (dr r) = m ((SparseCore.T d).loc r) := by
  unfold V5
  refine (StableHlo.reshape_result_ne (x := main_v2) (y := main_v4) _ _ _ _ _ h4).trans ?_
  refine (StableHlo.reshape_result_ne (x := main_arg1) (y := main_v3) _ _ _ _ _ h3).trans ?_
  unfold V3
  exact (Function.update_of_ne (StableHlo.devRef_ne_of_ne h2) _ _).trans (V2_ne m d h0 h1)

/-! ## The arrays as one held set -/

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1)
      ∗ ((SparseCore.T d).loc main_v2 ↦{fullShare} W main_v2) ∗ ((SparseCore.T d).loc main_v3 ↦{fullShare} W main_v3)
      ∗ ((SparseCore.T d).loc main_v4 ↦{fullShare} W main_v4) ∗ (SparseCore.T d).loc main_v5 ↦{fullShare} W main_v5) := by
  unfold unscopedBufs
  rw [show (Finset.univ.filter fun b : Ref sig .tc => ¬ b.isScoped) = {main_arg0, main_arg1, main_arg2, main_arg3, main_v0, main_v1, main_v2, main_v3, main_v4, main_v5} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

theorem held_eq (d : Dev nD) (W : Valuation τ sig (Elt F)) :
    (held (SparseCore.T d) (Pipeline.ucRefs τ sig) W : sProp 𝕄) = iprop(((SparseCore.T d).loc main_arg0 ↦{fullShare} W (dr main_arg0)) ∗ ((SparseCore.T d).loc main_arg1 ↦{fullShare} W (dr main_arg1))
      ∗ ((SparseCore.T d).loc main_arg2 ↦{fullShare} W (dr main_arg2)) ∗ ((SparseCore.T d).loc main_arg3 ↦{fullShare} W (dr main_arg3))
      ∗ ((SparseCore.T d).loc main_v0 ↦{fullShare} W (dr main_v0)) ∗ ((SparseCore.T d).loc main_v1 ↦{fullShare} W (dr main_v1))
      ∗ ((SparseCore.T d).loc main_v2 ↦{fullShare} W (dr main_v2)) ∗ ((SparseCore.T d).loc main_v3 ↦{fullShare} W (dr main_v3))
      ∗ ((SparseCore.T d).loc main_v4 ↦{fullShare} W (dr main_v4)) ∗ (SparseCore.T d).loc main_v5 ↦{fullShare} W (dr main_v5)) :=
  (Pipeline.unscopedBufs_held d W).symm.trans (unscopedBufs_eq d fun b => W (dr b))

theorem unscoped_held (d : Dev nD) : (unscopedBufs d (fun b => m ((SparseCore.T d).loc b)) : sProp 𝕄) = held (SparseCore.T d) (Pipeline.ucRefs τ sig) (V0 m d) :=
  Pipeline.unscopedBufs_held d (V0 m d)

/-! ## The TensorCore call inside @main -/

theorem wp_call0 [∀ e, Nonempty (Elt F e)] (X : Bufs (F := F)) (d : Dev nD) (Φ : PUnit → sProp 𝕄) :
    iprop((iprop(boundary (SparseCore.T d) ∗ fiveAt X d (weights X d) ∗ tcOwes d) -∗ Φ ⟨⟩)
        ∗ boundary (SparseCore.T d) ∗ fiveAt X d (X d main_v2) ∗ tcOwes d ∗ levAts (K (F := F)).L (K (F := F)).lev ∗ ghost d)
      ⊢ wp frame (wpE ((K (F := F)).defs (D (F := F))) 𝒱 (SparseCore.T d) none) Set.univ
          (Prog.lift (.customCall (SparseCore.inner (Pipeline.entry 0)) ())) Φ := by
  have hwp := wp_region X d (fun _ => .ret ⟨⟩) Φ
  have hl := (K (F := F)).wp_liftProg (D (F := F)) 𝒱 (SparseCore.T d) Set.univ none (.op (.customCall (Pipeline.entry 0) ()) (fun _ => .ret ⟨⟩)) Φ
  refine BI.Entails.trans ?_ hl
  change _ ⊢ wp _ _ _ _ _
  iintro ⟨Hk, Hrest⟩
  iapply hwp
  isplitl [Hk]
  · iintro H'
    rw [wp_ret]; imodintro
    iapply Hk; iexact H'
  · iexact Hrest

theorem tcSt_open (d : Dev nD) : (K (F := F)).tcSt EH d 0 ⊢ iprop(tcOwes (F := F) d ∗ (tcOwes (F := F) d -∗ (K (F := F)).tcSt EH d 0)) := by
  unfold SparseCore.Cfg.tcSt tcOwes
  iintro ⟨⟨%W, %hW, HO⟩, Hrest⟩
  isplitl [HO]
  · iexists W; isplitr
    · ipureintro
      intro p hp
      cases hq : p.2 with
      | none => rfl
      | some q =>
        have := hW p hp
        have h0 := (K (F := F)).lev_some_pos (SparseCore.T d, p.1) q
        rw [hq] at this
        change _ ≤ 0 at this
        omega
    · iexact HO
  · iintro ⟨%W', %hW', HO⟩
    isplitl [HO]
    · iexists W'; isplitr
      · ipureintro
        intro p hp
        rw [hW' p hp]; exact Nat.zero_le _
      · iexact HO
    · iexact Hrest

/-! ## What the SparseCore call takes and gives -/

section Payload
variable (A : (d : Dev nD) → Buf (Elt F) (iLoc d)) (B : (d : Dev nD) → Buf (Elt F) (wLoc d)) (O₀ : (d : Dev nD) → Buf (Elt F) (oLoc d))

theorem st_all (d : Dev nD) : iprop((iLoc d ↦{fullShare} A d) ∗ (wLoc d ↦{fullShare} B d) ∗ (oLoc d ↦{fullShare} O₀ d))
    ⊢ (bigSep Finset.univ fun c : Fin ((K (F := F)).nCore 0) => (P A B O₀).st 0 d c) := by
  show _ ⊢ (bigSep Finset.univ fun c : Fin ((K (F := F)).nCore 0) => stOf A B O₀ d (Fin.cast nCore_zero c))
  rw [bigSep_cores (stOf A B O₀ d)]
  unfold stOf
  rw [bigSep_sep', bigSep_sep', all_cores]
  refine sep_mono ((Transfers.pointsTo_toks_split fullShare 2).trans sep_elim_right) (sep_mono ?_ (Entails.refl _))
  exact (Transfers.pointsTo_toks_split fullShare 2).trans sep_elim_right

theorem dn_all (d : Dev nD) : (bigSep Finset.univ fun c : Fin ((K (F := F)).nCore 0) => (P A B O₀).dn 0 d c) ⊢ (oLoc d ↦{fullShare} result A B d : sProp 𝕄) := by
  show (bigSep Finset.univ fun c : Fin ((K (F := F)).nCore 0) => dnOf A B d (Fin.cast nCore_zero c)) ⊢ _
  rw [bigSep_cores (dnOf A B d)]
  unfold dnOf
  rw [← all_cores]

end Payload

/-! ## @main -/

abbrev FIN (d : Dev nD) : sProp 𝕄 :=
  iprop(((SparseCore.T d).loc main_arg0 ↦{fullShare} V5 m d (dr main_arg0)) ∗ ((SparseCore.T d).loc main_arg1 ↦{fullShare} V5 m d (dr main_arg1))
    ∗ ((SparseCore.T d).loc main_arg2 ↦{fullShare} V5 m d (dr main_arg2)) ∗ ((SparseCore.T d).loc main_arg3 ↦{fullShare} V5 m d (dr main_arg3))
    ∗ (oLoc d ↦{fullShare} result (idsOf m) (wtsOf m) d))

theorem held_mid (d : Dev nD) : (held (SparseCore.T d) (Pipeline.ucRefs τ sig) (opT1.result (opT0.result (V0 m d))) : sProp 𝕄)
    ⊢ iprop(fiveAt (before m) d (before m d main_v2) ∗ (fiveAt (before m) d (weights (before m) d) -∗ held (SparseCore.T d) (Pipeline.ucRefs τ sig) (V3 m d))) := by
  change (held (SparseCore.T d) (Pipeline.ucRefs τ sig) (V2 m d) : sProp 𝕄) ⊢ _
  have hne : ∀ {r : Ref sig .tc}, r ≠ main_v2 → V3 m d (dr r) = V2 m d (dr r) := fun h => by
    unfold V3; exact Function.update_of_ne (StableHlo.devRef_ne_of_ne h) _ _
  have h2 : V3 m d (dr main_v2) = weights (before m) d := by unfold V3; exact Function.update_self _ _ _
  rw [held_eq, held_eq, hne (r := main_arg0) (by decide), hne (r := main_arg1) (by decide), hne (r := main_arg2) (by decide), hne (r := main_arg3) (by decide), hne (r := main_v0) (by decide), hne (r := main_v1) (by decide), hne (r := main_v3) (by decide), hne (r := main_v4) (by decide), hne (r := main_v5) (by decide), h2]
  unfold fiveAt before
  iintro ⟨Ha0, Ha1, Ha2, Ha3, H0, H1, H2, H3, H4, H5⟩
  isplitl [H0 H1 Ha2 Ha3 H2]
  · isplitl [H0]; · iexact H0
    isplitl [H1]; · iexact H1
    isplitl [Ha2]; · iexact Ha2
    isplitl [Ha3]; · iexact Ha3
    iexact H2
  · iintro ⟨H0, H1, Ha2, Ha3, H2⟩
    isplitl [Ha0]; · iexact Ha0
    isplitl [Ha1]; · iexact Ha1
    isplitl [Ha2]; · iexact Ha2
    isplitl [Ha3]; · iexact Ha3
    isplitl [H0]; · iexact H0
    isplitl [H1]; · iexact H1
    isplitl [H2]; · iexact H2
    isplitl [H3]; · iexact H3
    isplitl [H4]; · iexact H4
    iexact H5

theorem held_end (d : Dev nD) : (held (SparseCore.T d) (Pipeline.ucRefs τ sig) (opR4.result (opR3.result (V3 m d))) : sProp 𝕄)
    ⊢ iprop((bigSep Finset.univ fun c : Fin ((K (F := F)).nCore 0) => (P (idsOf m) (wtsOf m) (outOf m)).st 0 d c)
      ∗ (bigSep Finset.univ (fun c : Fin ((K (F := F)).nCore 0) => (P (idsOf m) (wtsOf m) (outOf m)).dn 0 d c) -∗ FIN m d)) := by
  change (held (SparseCore.T d) (Pipeline.ucRefs τ sig) (V5 m d) : sProp 𝕄) ⊢ _
  rw [held_eq]
  iintro ⟨Ha0, Ha1, Ha2, Ha3, -, -, -, H3, H4, H5⟩
  isplitl [H3 H4 H5]
  · iapply (st_all (idsOf m) (wtsOf m) (outOf m) d)
    isplitl [H3]; · iexact H3
    isplitl [H4]; · iexact H4
    iexact H5
  · iintro H
    isplitl [Ha0]; · iexact Ha0
    isplitl [Ha1]; · iexact Ha1
    isplitl [Ha2]; · iexact Ha2
    isplitl [Ha3]; · iexact Ha3
    iapply (dn_all (idsOf m) (wtsOf m) (outOf m) d); iexact H

theorem hmain [∀ e, Nonempty (Elt F e)] (κ : GSem nD τ sig → ℕ) (d : Dev nD) :
    iprop((K (F := F)).ctx EH (P (idsOf m) (wtsOf m) (outOf m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  iapply (wp_hlo_within 𝒱 (SparseCore.T d) none Set.univ (op := opT0) (S := Pipeline.ucRefs τ sig) (Pipeline.sub_ucRefs _ (by simp)) (V := V0 m d)) $$ [Hb Hheld]
  · isplitl [Hb] <;> iassumption
  iintro ⟨Hb, Hheld⟩
  rw [wp_ret]; imodintro
  iapply (wp_hlo_within 𝒱 (SparseCore.T d) none Set.univ (op := opT1) (S := Pipeline.ucRefs τ sig) (Pipeline.sub_ucRefs _ (by simp)) (V := opT0.result (V0 m d))) $$ [Hb Hheld]
  · isplitl [Hb] <;> iassumption
  iintro ⟨Hb, Hheld⟩
  rw [wp_ret]; imodintro
  ihave Hmid := (held_mid m d) $$ Hheld
  icases Hmid with ⟨Hfive, Hback⟩
  ihave Ho := (tcSt_open d) $$ Hst
  icases Ho with ⟨HO, Hst⟩
  iapply (wp_call0 (before m) d)
  isplitr [Hb Hfive HO HG]
  swap
  · isplitl [Hb]; · iexact Hb
    isplitl [Hfive]; · iexact Hfive
    isplitl [HO]; · iexact HO
    isplitr [HG]
    · iapply ((K (F := F)).ctx_levAts (EH := EH) (P := P (idsOf m) (wtsOf m) (outOf m)) κ); iexact Hctx
    · iexact HG
  iintro ⟨Hb, Hfive, HO⟩
  ihave Hst' := Hst $$ HO
  ihave Hheld := Hback $$ Hfive
  iapply (wp_hlo_within 𝒱 (SparseCore.T d) none Set.univ (op := opR3) (S := Pipeline.ucRefs τ sig) (Pipeline.sub_ucRefs _ (by simp)) (V := V3 m d)) $$ [Hb Hheld]
  · isplitl [Hb] <;> iassumption
  iintro ⟨Hb, Hheld⟩
  rw [wp_ret]; imodintro
  iapply (wp_hlo_within 𝒱 (SparseCore.T d) none Set.univ (op := opR4) (S := Pipeline.ucRefs τ sig) (Pipeline.sub_ucRefs _ (by simp)) (V := opR3.result (V3 m d))) $$ [Hb Hheld]
  · isplitl [Hb] <;> iassumption
  iintro ⟨Hb, Hheld⟩
  rw [wp_ret]; imodintro
  ihave Hend := (held_end m d) $$ Hheld
  icases Hend with ⟨Hgo, Hback⟩
  iapply ((K (F := F)).wp_run (D (F := F)) 𝒱 (EH := EH) (P := P (idsOf m) (wtsOf m) (outOf m)) κ d 0) $$ [Hst' Hgo Hback Hb Hts]
  isplitr; · iexact Hctx
  isplitl [Hst']; · iexact Hst'
  isplitl [Hgo]; · iexact Hgo
  iintro ⟨Hst, Hdn⟩
  ihave Hfin := Hback $$ Hdn
  imodintro
  isplitl [Hst]; · iexact Hst
  isplitl [Hfin]; · iexact Hfin
  isplitl [Hb] <;> iassumption

theorem bigSep_emp' {I : Type} (s : Finset I) : (bigSep s fun _ => iprop(emp)) = (iprop(emp) : sProp 𝕄) := bigSep_emp_const s

/-! ## The launch's ghost state, the final reads, the run -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem ghosts : BI.own ((EP (F := F)) (initOf (Pipeline.cells (Pipeline.pin (pcfgs (F := F)) adm) cellOf_inj) (Pipeline.launchToks (Pipeline.pin (pcfgs (F := F)) adm) cellOf_inj)))
    ⊢ iprop(|==> (bigSep Finset.univ fun d : Dev nD => ghost (F := F) d)) := by
  have h := Pipeline.fund_ghost (Pipeline.pin (pcfgs (F := F)) adm) (EP (F := F)) cellOf_inj
  have e : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
      = bigSep Finset.univ fun d : Dev nD => ghost (F := F) d := by
    rw [← bigSep_sep']
    exact bigSep_congr fun c _ => congrArg₂ (fun a b : sProp 𝕄 => iprop(a ∗ b)) (bigSep_univ_of_subsingleton (0 : Fin 1)) (bigSep_univ_of_subsingleton (0 : Fin 1))
  rw [e] at h
  exact h

theorem hu₀ (Py : (K (F := F)).Pay (nD := nD) (Val := Elt F) (Name := ℕ) (U := UU)) (hx : Py.x = fun _ _ => iprop(emp)) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => Py.x q thr) := by
  have hp := own_pair_emb (M' := MT nD τ sig (HIx 1) (Elt F) ℕ UU ℕ) embR (initOf (Pipeline.cells (Pipeline.pin (pcfgs (F := F)) adm) cellOf_inj) (Pipeline.launchToks (Pipeline.pin (pcfgs (F := F)) adm) cellOf_inj)) (1 : Counters)
  have hg : BI.own (((Emb.inl : Emb UP (UP × Counters)).trans (embR (A := UH) (B := UP × Counters) : Emb _ (MT nD τ sig (HIx 1) (Elt F) ℕ UU ℕ)))
      (initOf (Pipeline.cells (Pipeline.pin (pcfgs (F := F)) adm) cellOf_inj) (Pipeline.launchToks (Pipeline.pin (pcfgs (F := F)) adm) cellOf_inj)))
      ⊢ iprop(|==> (bigSep Finset.univ fun d : Dev nD => ghost (F := F) d)) := ghosts (F := F)
  unfold u₀
  iintro Hu
  ihave H := (ownU_pair (initOf (K (F := F)).hsCells (K (F := F)).hsToks) _) $$ Hu
  icases H with ⟨HH, HR⟩
  ihave H := hp $$ HR
  icases H with ⟨HE, -⟩
  imod hg $$ HE with HG
  imodintro
  isplitl [HH]; · iexact HH
  isplitl [HG]; · iexact HG
  rw [show (bigSep Finset.univ fun thr : Thread nD τ => bigSep Finset.univ fun q : Fin 1 => Py.x q thr) = bigSep Finset.univ fun _ => iprop(emp) from
    bigSep_congr fun _ _ => (bigSep_univ_of_subsingleton (0 : Fin 1)).trans (by rw [hx]), bigSep_emp']
  iempintro

def fq (d : Dev nD) (s' : Phys nD τ sig (Elt F)) : Prop :=
  s'.mem.mem ((SparseCore.T d).loc main_arg0) = V5 m d (dr main_arg0) ∧ s'.mem.mem ((SparseCore.T d).loc main_arg1) = V5 m d (dr main_arg1)
    ∧ s'.mem.mem ((SparseCore.T d).loc main_arg2) = V5 m d (dr main_arg2) ∧ s'.mem.mem ((SparseCore.T d).loc main_arg3) = V5 m d (dr main_arg3)
    ∧ s'.mem.mem (oLoc d) = result (idsOf m) (wtsOf m) d

theorem read_off {ℓ : Loc nD τ sig} {f : Buf (Elt F) ℓ} {s' : Phys nD τ sig (Elt F)} {R : sProp 𝕄} {φ : Prop} (h : iprop(R ∗ SI s') ⊢ (⌜φ⌝ : sProp 𝕄)) :
    iprop(((ℓ ↦{fullShare} f) ∗ R) ∗ SI s') ⊢ (⌜s'.mem.mem ℓ = f ∧ φ⌝ : sProp 𝕄) := by
  iintro ⟨⟨Hi, HR⟩, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  ihave H := h $$ [HR HSI]
  · isplitl [HR] <;> iassumption
  icases H with %h2
  ipureintro; exact ⟨funext fun i => h1 i (Finset.mem_univ i), h2⟩

theorem hfin (d : Dev nD) (s' : Phys nD τ sig (Elt F)) : iprop(FIN m d ∗ SI s') ⊢ (⌜fq m d s'⌝ : sProp 𝕄) := by
  refine read_off (read_off (read_off (read_off ?_)))
  iintro ⟨Hi, HSI⟩
  ihave H := (SI_pointsTo_agree (st := s') (ℓ := oLoc d) (I := Finset.univ) (q := fullShare) (f := result (idsOf m) (wtsOf m) d)) $$ [HSI Hi]
  · isplitl [HSI] <;> iassumption
  icases H with %h2
  ipureintro; exact funext fun i => h2 i (Finset.mem_univ i)

/-- Every thread ends; the arguments are unchanged, the result holds the scattered sums, every semaphore is zero. -/
def QC : PUnit × MemSt nD τ sig (Elt F) → Prop := fun r =>
  (∀ d : Dev nD, r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2) ∧ r.2.mem ((SparseCore.T d).loc main_arg3) = m ((SparseCore.T d).loc main_arg3)
    ∧ r.2.mem (oLoc d) = result (idsOf m) (wtsOf m) d) ∧ r.2.sem = fun _ => 0

/-- The ids of the launch memory are below 100000. -/
def PreOK : Prop := ∀ (d : Dev nD) j, (m ((SparseCore.T d).loc main_arg1) j : BitVec 32).toNat < 100000

theorem V3_ids (d : Dev nD) : V3 m d (dr main_arg1) = m ((SparseCore.T d).loc main_arg1) := by
  unfold V3
  exact (Function.update_of_ne (StableHlo.devRef_ne_of_ne (by decide)) _ _).trans (V2_ne m d (by decide) (by decide))

theorem idsOf_eq (d : Dev nD) : idsOf m d = shapeCast S204800 (m ((SparseCore.T d).loc main_arg1) : S1024x200.Idx → BitVec 32) shapeCasts_S1024x200_S204800 := by
  unfold idsOf V5
  refine (StableHlo.reshape_result_ne (x := main_v2) (y := main_v4) _ _ _ _ _ (by decide)).trans ?_
  refine (StableHlo.reshape_result main_arg1 main_v3 _ _ _ _ _).trans ?_
  rw [V3_ids]; rfl

theorem wtsOf_eq (d : Dev nD) : wtsOf m d = shapeCast S204800 (weights (before m) d : S1024x200.Idx → F .f32) shapeCasts_S1024x200_S204800 := by
  unfold wtsOf V5
  refine (StableHlo.reshape_result main_v2 main_v4 _ _ _ _ _).trans ?_
  rw [StableHlo.reshape_result_ne (x := main_arg1) (y := main_v3) _ _ _ _ _ (by decide)]
  unfold V3
  rw [Function.update_self]; rfl

theorem idsOK (h : PreOK m) : IdsOK (F := F) (idsOf m) := by
  intro d n
  rw [idsOf_eq]
  exact h d _

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (idsOf m) (wtsOf m) (outOf m)) (A := ∅) facts v₀
    (fun q hq => match q with | 0 => nomatch hq)
    (fun q _ => match q with | 0 => tileObl _ _ _ facts (idsOK m hpre))
    (fun q _ => match q with | 0 => SparseCore.Cfg.VecSplit.of_plain (vecSplit _ _ _))
    m ρ main (fun d => ghost d) (FIN m) (u₀ (F := F)) (sep_elim_left.trans (hu₀ _ rfl)) (hmain m ρ) (fq m) (hfin m) (QC m)
    (fun _ h hz => ⟨fun d => ⟨(h d).1.trans (V5_ne m d (by decide) (by decide) (by decide) (by decide) (by decide)),
      (h d).2.1.trans (V5_ne m d (by decide) (by decide) (by decide) (by decide) (by decide)),
      (h d).2.2.1.trans (V5_ne m d (by decide) (by decide) (by decide) (by decide) (by decide)),
      (h d).2.2.2.1.trans (V5_ne m d (by decide) (by decide) (by decide) (by decide) (by decide)), (h d).2.2.2.2⟩, hz⟩)

end Cert.Proof

end
-- ==== Proof.Frames.lean ====
/-
  The three frames. The precondition gives that every id is below 100000, which the kernel's run asks; the kernel's text
  and its idealization's are the same, so the one run serves both; the reference is a straight line of operations.
-/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_in_range
public import Idealize.ShloMosaic.Lib.ReduceAll

@[expose] public section

noncomputable section

namespace Cert.Proof

open Idealize.ShloMosaic Idealize.SL.Sem

/-- A word that is at least 0 and below 100000 as a signed word is below 100000 as a natural number. -/
theorem word_lt (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- What the precondition says of the ids. -/
theorem ids_lt {F : FTy → Type} [FloatOps F] {a0 : FVec F Cert.Pre_in_range.S1024x200x64 .f32} {ids : IVec Cert.Pre_in_range.S1024x200 32}
    {a2 : FVec F Cert.Pre_in_range.S64 .f32} {a3 : FVec F Cert.Pre_in_range.S1 .f32}
    (h : Cert.Pre_in_range.fn (F := F) a0 ids a2 a3 = fun _ => 1#1) (j) : (ids j).toNat < 100000 := by
  have e := congrFun h (Shape.Idx.first Cert.Pre_in_range.Facts.h_S_)
  dsimp only [Cert.Pre_in_range.fn] at e
  have : Subsingleton Cert.Pre_in_range.S_.Idx := ⟨fun a b => funext fun k => k.elim0⟩
  have e' := Host.reduce_andi_all _ _ _ _ _ e j
  exact word_lt _ e'

theorem frame_ideal : Cert.quiescent_KernelIdeal := fun m ρ hpre =>
  (θ_run Cert.KernelIdeal.defs _ _).mono (fun _ h => ⟨fun c => ⟨(h.1 c).1, (h.1 c).2.1, (h.1 c).2.2.1, (h.1 c).2.2.2.1⟩, h.2⟩)
    (run_main (F := Ideal) m ρ fun d j => ids_lt (hpre d) j)

/-- The two programs' bodies are the same, one by one. -/
theorem defs₀_eq : Cert.Kernel.defs₀ (F := Bits) = Cert.KernelIdeal.defs₀ (F := Bits) := by
  funext p ℓ a
  match p, ℓ, a with
  | .tc, 0, (t, s) => rfl
  | .tc, 1, a => rfl
  | .scScalar c, 0, a => rfl
  | .scScalar c, 1, a => rfl
  | .scVector c s, 0, a => rfl
  | .scVector c s, 1, a => rfl

theorem defs_eq : Cert.Kernel.defs (F := Bits) = Cert.KernelIdeal.defs (F := Bits) :=
  congrArg (fun d => Cert.KernelIdeal.sc.defs (Pipeline.defs Cert.KernelIdeal.pcfgs d)) defs₀_eq

theorem frame_kernel : Cert.quiescent_Kernel := by
  intro m ρ hpre
  rw [defs_eq]
  exact (θ_run Cert.KernelIdeal.defs _ _).mono (fun _ h => ⟨fun c => ⟨(h.1 c).1, (h.1 c).2.1, (h.1 c).2.2.1, (h.1 c).2.2.2.1⟩, h.2⟩)
    (run_main (F := Bits) m ρ fun d j => ids_lt (hpre d) j)

theorem frame_reference : Cert.quiescent_ReferenceIdeal := by
  intro m ρ _
  exact (θ_run Cert.ReferenceIdeal.defs _ _).mono (fun r h => ⟨fun c => ⟨(h c).2.1, (h c).2.2.1, (h c).2.2.2.1, (h c).2.2.2.2⟩,
      sem_eq_zero_of_no_sems (by decide) r.2⟩)
    (Cert.ReferenceIdeal.Value.run (F := Ideal) m ρ)

end Cert.Proof

end
-- ==== Proof.Value.lean ====
/-
  The values of the ideal instance: the TensorCore call's weights are the reference's softmax, block by block, and the
  SparseCore's sums are the reference's scatter, so the two programs' results are equal.
-/
module

public import proofs.«01_k».proof.Proof.Main
public import proofs.«01_k».proof.Proof.Gen.ReferenceIdeal.Run
public import Idealize.ShloMosaic.Lib.Pointwise
public import Idealize.ShloMosaic.Lib.Tactic.CleanTypes
public import Idealize.ShloMosaic.Lib.Routing.OpsPair

@[expose] public section

noncomputable section

namespace Cert.Proof

open Idealize.ShloMosaic Idealize.SL.Sem

/-! ## The softmax of one row -/

/-- The score of place `j`: −∞ where the id is one of the two reserved ones. -/
def score (h : Fin 200 → Fin 64 → EReal) (id : Fin 200 → BitVec 32) (w : Fin 64 → EReal) (b : EReal) (j : Fin 200) : EReal :=
  Scalar.select (IntOp.andi (IntOp.cmpi .ne (id j) 99998#32) (IntOp.cmpi .ne (id j) 99999#32))
    (∑ k, Ideal.tanh (h j k + h 0 k) * w k + b) (Ideal.ofBits .f32 0xFF800000#32)

/-- Its exponential, the row's maximum subtracted first. -/
def expo (h : Fin 200 → Fin 64 → EReal) (id : Fin 200 → BitVec 32) (w : Fin 64 → EReal) (b : EReal) (j : Fin 200) : EReal :=
  Ideal.exp (score h id w b j - max (Ideal.ofBits .f32 0xFF800000#32)
    (Finset.fold max (Ideal.ofBits .f32 0xFF800000#32) (fun x => score h id w b x) Finset.univ))

/-- The attention weight of place `j`. -/
def soft (h : Fin 200 → Fin 64 → EReal) (id : Fin 200 → BitVec 32) (w : Fin 64 → EReal) (b : EReal) (j : Fin 200) : EReal :=
  Ideal.div (expo h id w b j) (∑ x, expo h id w b x)

section Kernel
open Cert.KernelIdeal

set_option maxRecDepth 16384 in
theorem pay_at (v0 : Vec Ideal S200x64x128 .f32) (v6 : Vec Ideal S64 .f32) (v11 : Vec Ideal S1 .f32)
    (v15 : Vec Ideal S200x128 .i32) (r : Fin 128) (j : Fin 200) : Gen.k0_pay1 (F := Ideal) v0 v6 v11 v15 (ix2 r j)
      = soft (fun j k => v0 (ix3 j k r)) (fun j => v15 (ix2 j r)) (fun k => v6 (ix1 k)) (v11 (ix1 0)) j := by
  pointwise [Gen.k0_pay1]
  rfl

end Kernel

section Reference
open Cert.ReferenceIdeal Cert.ReferenceIdeal.Gen

variable (a0 : FVec Ideal S1024x200x64 .f32) (a1 : IVec S1024x200 32) (a2 : FVec Ideal S64 .f32) (a3 : FVec Ideal S1 .f32)

/-- The reference's scores. -/
def refScores : FVec Ideal S1024x200 .f32 :=
  select (andi (cmpi .ne a1 (broadcastInDim S1024x200 ![] bcast_S_S1024x200 (constantI S_ 32 99998#32))) (cmpi .ne a1 (broadcastInDim S1024x200 ![] bcast_S_S1024x200 (constantI S_ 32 99999#32)))) (addf (Host.dotGeneral dot_S1024x200x64_S64_S1024x200_2_0_01_n_n_n none (Host.tanh (addf a0 (broadcastInDim S1024x200x64 ![0, 1, 2] bcast_S1024x1x64_S1024x200x64_0_1_2 (extractStridedSlice S1024x1x64 ![0, 0, 0] a0 slices_S1024x200x64_S1024x1x64_0_0_0)))) a2) (broadcastInDim S1024x200 ![0, 1] bcast_S1x1_S1024x200_0_1 (broadcastInDim S1x1 ![1] bcast_S1_S1x1_1 a3))) (broadcastInDim S1024x200 ![] bcast_S_S1024x200 (id (constant S_ .f32 0xFF800000#32)))

/-- Their exponentials, each row's maximum subtracted first. -/
def refExps : FVec Ideal S1024x200 .f32 :=
  Host.exp (subf (refScores a0 a1 a2 a3) (broadcastInDim S1024x200 ![0, 1] bcast_S1024x1_S1024x200_0_1 (broadcastInDim S1024x1 ![0] bcast_S1024_S1024x1_0 (maximumf (broadcastInDim S1024 ![] bcast_S_S1024 (constant S_ .f32 0xFF800000#32)) (Host.reduce FloatOps.maximumf (refScores a0 a1 a2 a3) (constant S_ .f32 0xFF800000#32) reducesTo_S1024x200_S1024_d1 h_S_)))))

/-- The reference's attention weights. -/
def refWeights : FVec Ideal S1024x200 .f32 :=
  Host.divf (refExps a0 a1 a2 a3) (broadcastInDim S1024x200 ![0, 1] bcast_S1024x1_S1024x200_0_1 (broadcastInDim S1024x1 ![0] bcast_S1024_S1024x1_0 (Host.reduceAdd (refExps a0 a1 a2 a3) (constant S_ .f32 0x00000000#32) reducesTo_S1024x200_S1024_d1 h_S_)))

/-- The row and the column of each weight. -/
def refPlaces : IVec S1024x200x2 32 :=
  concatenate S1024x200x2 2 [⟨S1024x200x1, (broadcastInDim S1024x200x1 ![0, 1] bcast_S1024x200_S1024x200x1_0_1 (broadcastInDim S1024x200 ![0, 1] bcast_S1024x1_S1024x200_0_1 (select (cmpi .slt (broadcastInDim S1024x1 ![0] bcast_S1024_S1024x1_0 (iotaInDim S1024 32 0)) (broadcastInDim S1024x1 ![] bcast_S_S1024x1 (constantI S_ 32 0#32))) (addi (broadcastInDim S1024x1 ![0] bcast_S1024_S1024x1_0 (iotaInDim S1024 32 0)) (broadcastInDim S1024x1 ![] bcast_S_S1024x1 (constantI S_ 32 1024#32))) (broadcastInDim S1024x1 ![0] bcast_S1024_S1024x1_0 (iotaInDim S1024 32 0)))))⟩, ⟨S1024x200x1, (broadcastInDim S1024x200x1 ![0, 1] bcast_S1024x200_S1024x200x1_0_1 (select (cmpi .slt a1 (broadcastInDim S1024x200 ![] bcast_S_S1024x200 (constantI S_ 32 0#32))) (addi a1 (broadcastInDim S1024x200 ![] bcast_S_S1024x200 (constantI S_ 32 100000#32))) a1))⟩] concatenates_S1024x200x1_S1024x200x1_S1024x200x2_d2

theorem res_eq (m : (ℓ : Loc nD τ sig) → Buf (Elt Ideal) ℓ) (c : Dev nD) :
    Cert.ReferenceIdeal.Value.res_main_v42 m c
      = Ideal.hostScatterAdd scatter_S1024x100000_S1024x200x2_S1024x200_n_01_01_2
          (broadcastInDim S1024x100000 ![] bcast_S_S1024x100000 (constant S_ .f32 0x00000000#32) : FVec Ideal S1024x100000 .f32)
          (refPlaces (m ((c.tc : Thread nD τ).loc main_arg1)))
          (refWeights (m ((c.tc : Thread nD τ).loc main_arg0)) (m ((c.tc : Thread nD τ).loc main_arg1)) (m ((c.tc : Thread nD τ).loc main_arg2))
            (m ((c.tc : Thread nD τ).loc main_arg3))) := rfl

set_option maxRecDepth 16384 in
theorem refScores_at (r : Fin 1024) (j : Fin 200) : refScores a0 a1 a2 a3 (ix2 r j)
    = score (fun j k => a0 (ix3 r j k)) (fun j => a1 (ix2 r j)) (fun k => a2 (ix1 k)) (a3 (ix1 0)) j := by
  pointwise [refScores]
  rfl

set_option maxRecDepth 16384 in
theorem refExps_at (r : Fin 1024) (j : Fin 200) : refExps a0 a1 a2 a3 (ix2 r j)
    = expo (fun j k => a0 (ix3 r j k)) (fun j => a1 (ix2 r j)) (fun k => a2 (ix1 k)) (a3 (ix1 0)) j := by
  pointwise [refExps]
  simp only [refScores_at]
  rfl

set_option maxRecDepth 16384 in
theorem refWeights_at (r : Fin 1024) (j : Fin 200) : refWeights a0 a1 a2 a3 (ix2 r j)
    = soft (fun j k => a0 (ix3 r j k)) (fun j => a1 (ix2 r j)) (fun k => a2 (ix1 k)) (a3 (ix1 0)) j := by
  pointwise [refWeights]
  simp only [refExps_at]
  rfl

set_option maxRecDepth 16384 in
theorem refPlaces_row (r : Fin 1024) (j : Fin 200) : refPlaces a1 (ix3 r j 0) = BitVec.ofNat 32 r.val := by
  pointwise [refPlaces]
  refine Routing.wrap_of_lt _ _ ?_
  have := r.isLt
  simp only [BitVec.toNat_ofNat]
  omega

set_option maxRecDepth 16384 in
theorem refPlaces_col (r : Fin 1024) (j : Fin 200) (h : (a1 (ix2 r j)).toNat < 100000) : refPlaces a1 (ix3 r j 1) = a1 (ix2 r j) := by
  pointwise [refPlaces]
  exact Routing.wrap_of_lt _ _ (by omega)

theorem lands (h : ∀ i, (a1 i).toNat < 100000) (r : Fin 1024) (c : Fin 100000) (x : Fin 1024) (j : Fin 200) :
    scatter_S1024x100000_S1024x200x2_S1024x200_n_01_01_2.resultIdx? (ix2 x j) (refPlaces a1) = some (ix2 r c)
      ↔ x = r ∧ (a1 (ix2 x j)).toNat = c.val := by
  refine (Routing.scatter_lands2 scatter_S1024x100000_S1024x200x2_S1024x200_n_01_01_2 rfl rfl rfl (refPlaces a1) x j r c).trans ?_
  have e0 := refPlaces_row a1 x j
  have e1 := refPlaces_col a1 x j (h _)
  have hx := x.isLt
  have ha := h (ix2 x j)
  refine and_congr ?_ ?_
  · refine (Eq.congr_left (congrArg BitVec.toInt e0)).trans ?_
    rw [BitVec.toInt_eq_toNat_cond, BitVec.toNat_ofNat, Fin.ext_iff]
    omega
  · refine (Eq.congr_left (congrArg BitVec.toInt e1)).trans ?_
    rw [BitVec.toInt_eq_toNat_cond]
    omega

/-- The reference's scatter, at one element: the row's weights whose id is the column, added up. -/
theorem scatter_at (h : ∀ i, (a1 i).toNat < 100000) (W : FVec Ideal S1024x200 .f32) (r : Fin 1024) (c : Fin 100000) :
    Ideal.hostScatterAdd scatter_S1024x100000_S1024x200x2_S1024x200_n_01_01_2
        (broadcastInDim S1024x100000 ![] bcast_S_S1024x100000 (constant S_ .f32 0x00000000#32) : FVec Ideal S1024x100000 .f32)
        (refPlaces a1) W (ix2 r c)
      = ∑ j : Fin 200, if (a1 (ix2 r j)).toNat = c.val then (W (ix2 r j) : EReal) else 0 := by
  unfold Ideal.hostScatterAdd
  rw [Finset.sum_filter, sum_idx2]
  simp only [lands a1 h r c]
  rw [Finset.sum_eq_single r]
  · pointwise
  · intro x _ hx
    simp [hx]
  · intro hr
    exact absurd (Finset.mem_univ r) hr

end Reference

end Cert.Proof
-- ==== Proof.Equal.lean ====
/-
  The two results are equal: the kernel's weights at an index, its sums at an index, and the claim.
-/
module

public import proofs.«01_k».proof.Defs
public import proofs.«01_k».proof.Proof.Frames
public import proofs.«01_k».proof.Proof.Value
public import Idealize.ShloMosaic.Lib.Pipeline.ValueKit.Geometry
public import Idealize.ShloMosaic.Lib.Pipeline.ValueKit.Acc

@[expose] public section

noncomputable section

namespace Cert.Proof

open Cert.Proof.Body Cert.KernelIdeal Cert.KernelIdeal.Gen Idealize.ShloMosaic Idealize.ShloMosaic.TcCoe Idealize.SL.Sem Idealize.ShloMosaic.Pipeline

/-! ## The blocks -/

section Blocks

variable (X : Bufs (F := Ideal)) (c : Dev nD) (t : Fin cfg0.N)

theorem index_0 : ∀ t : Fin cfg0.N, win0_0.index t = ![0, 0, t.val] := (by decide +kernel : ∀ t : Fin grid0.N, _)
theorem index_1 : ∀ t : Fin cfg0.N, win0_1.index t = ![0, t.val] := (by decide +kernel : ∀ t : Fin grid0.N, _)
theorem index_2 : ∀ t : Fin cfg0.N, win0_2.index t = ![0] := (by decide +kernel : ∀ t : Fin grid0.N, _)
theorem index_3 : ∀ t : Fin cfg0.N, win0_3.index t = ![0] := (by decide +kernel : ∀ t : Fin grid0.N, _)
theorem index_4 : ∀ t : Fin cfg0.N, win0_4.index t = ![t.val, 0] := (by decide +kernel : ∀ t : Fin grid0.N, _)

theorem point_lt (t : Fin cfg0.N) (r : Fin 128) : 128 * t.val + r.val < 1024 := by
  have h : t.val < 8 := t.isLt
  have := r.isLt
  omega

theorem blockAt_0 (j : Fin 200) (k : Fin 64) (r : Fin 128) :
    (blockAt X c 0 t : Vec Ideal S200x64x128 .f32) (ix3 j k r) = (X c main_v0 : Vec Ideal S200x64x1024 .f32) (ix3 j k ⟨128 * t.val + r.val, point_lt t r⟩) := by
  unfold blockAt
  blk_simp
  refine congrArg (X c main_v0) ?_
  blk_ext [index_0]

theorem blockAt_1 (j : Fin 200) (r : Fin 128) :
    (blockAt X c 1 t : Vec Ideal S200x128 .i32) (ix2 j r) = (X c main_v1 : Vec Ideal S200x1024 .i32) (ix2 j ⟨128 * t.val + r.val, point_lt t r⟩) := by
  unfold blockAt
  blk_simp
  refine congrArg (X c main_v1) ?_
  blk_ext [index_1]

theorem blockAt_2 (k : Fin 64) : (blockAt X c 2 t : Vec Ideal S64 .f32) (ix1 k) = (X c main_arg2 : Vec Ideal S64 .f32) (ix1 k) := by
  unfold blockAt
  blk_simp
  refine congrArg (X c main_arg2) ?_
  blk_ext [index_2]

theorem blockAt_3 (k : Fin 1) : (blockAt X c 3 t : Vec Ideal S1 .f32) (ix1 k) = (X c main_arg3 : Vec Ideal S1 .f32) (ix1 k) := by
  unfold blockAt
  blk_simp
  refine congrArg (X c main_arg3) ?_
  blk_ext [index_3]

theorem blockOut_at (h : Vec Ideal S200x64x128 .f32) (ids : Vec Ideal S200x128 .i32) (w : Vec Ideal S64 .f32) (b : Vec Ideal S1 .f32)
    (r : Fin 128) (j : Fin 200) : blockOut h ids w b (ix2 r j)
      = soft (fun j k => h (ix3 j k r)) (fun j => ids (ix2 j r)) (fun k => w (ix1 k)) (b (ix1 0)) j := by
  unfold blockOut
  frame_out
  rw [pay_at]

theorem weights_at (r : Fin 128) (j : Fin 200) : (weights X c : Vec Ideal S1024x200 .f32) (ix2 ⟨128 * t.val + r.val, point_lt t r⟩ j)
    = soft (fun j k => (X c main_v0 : Vec Ideal S200x64x1024 .f32) (ix3 j k ⟨128 * t.val + r.val, point_lt t r⟩))
        (fun j => (X c main_v1 : Vec Ideal S200x1024 .i32) (ix2 j ⟨128 * t.val + r.val, point_lt t r⟩))
        (fun k => (X c main_arg2 : Vec Ideal S64 .f32) (ix1 k)) ((X c main_arg3 : Vec Ideal S1 .f32) (ix1 0)) j := by
  have e := congrFun (weights_block X c t) (ix2 r j)
  have e2 := blockOut_at (blockAt X c 0 t) (blockAt X c 1 t) (blockAt X c 2 t) (blockAt X c 3 t) r j
  simp only [blockAt_0, blockAt_1, blockAt_2, blockAt_3] at e2
  refine Eq.trans ?_ (e.trans e2)
  blk_simp
  refine congrArg (weights X c) ?_
  blk_ext [index_4]

end Blocks

/-! ## The sums -/

theorem foldl_sum (n : ℕ) (p : ℕ → Prop) [DecidablePred p] (g : ℕ → EReal) :
    (List.range n).foldl (fun a k => if p k then a + g k else a) 0 = ∑ k ∈ Finset.range n, if p k then g k else 0 := by
  induction n with
  | zero => rfl
  | succ n ih =>
    rw [List.range_succ, List.foldl_append, ih, Finset.sum_range_succ]
    simp only [List.foldl_cons, List.foldl_nil]
    split <;> simp

/-- A word of a table laid flat. -/
theorem flat_at {α : Type} (x : S1024x200.Idx → α) (r : Fin 1024) (j : Fin 200) :
    flat (shapeCast S204800 x shapeCasts_S1024x200_S204800) (200 * r.val + j.val) = x (ix2 r j) := by
  unfold flat
  refine shapeCast_apply x _ _ (ix2 r j) ?_
  rw [Shape.rowMajor_val_one, Shape.rowMajor_val_two]
  have := r.isLt
  have := j.isLt
  show r.val * 200 + j.val = (200 * r.val + j.val) % 204800
  omega

/-- The kernel's sums, at one element. -/
theorem scat_at (A : S1024x200.Idx → BitVec 32) (B : S1024x200.Idx → EReal) (r : Fin 1024) (c : Fin 100000) :
    scat (F := Ideal) (shapeCast S204800 A shapeCasts_S1024x200_S204800) (shapeCast S204800 B shapeCasts_S1024x200_S204800) r.val c.val
      = ∑ j : Fin 200, if (A (ix2 r j)).toNat = c.val then B (ix2 r j) else 0 := by
  have hz : (zeroF : Ideal .f32) = (0 : EReal) := Ideal.ofBits_zero_f32
  unfold scat
  rw [hz]
  refine (foldl_sum 200 _ (fun p => flat (shapeCast S204800 B shapeCasts_S1024x200_S204800) (200 * r.val + p))).trans ?_
  rw [Finset.sum_range]
  refine Finset.sum_congr rfl fun j _ => ?_
  rw [flat_at, flat_at]

/-! ## The claim -/

section Claim

variable (m : (ℓ : Loc nD τ sig) → Buf (Elt Ideal) ℓ) (c : Dev nD)

theorem before_v0 : before m c main_v0 = transpose S200x64x1024 [1, 2, 0] (m ((SparseCore.T c).loc main_arg0) : S1024x200x64.Idx → Ideal .f32) transposes_S1024x200x64_S200x64x1024_1_2_0 := by
  unfold before V2
  refine (StableHlo.unary_result_ne (x := main_arg1) (y := main_v1) _ _ _ _ (by decide)).trans ?_
  refine (StableHlo.unary_result main_arg0 main_v0 _ _ _ _).trans ?_
  rfl

theorem before_v1 : before m c main_v1 = transpose S200x1024 [1, 0] (m ((SparseCore.T c).loc main_arg1) : S1024x200.Idx → BitVec 32) transposes_S1024x200_S200x1024_1_0 := by
  unfold before V2
  refine (StableHlo.unary_result main_arg1 main_v1 _ _ _ _).trans ?_
  rw [StableHlo.unary_result_ne (x := main_arg0) (y := main_v0) _ _ _ _ (by decide)]
  rfl

/-- The kernel's weights are the softmax of the arguments' rows. -/
theorem weights_row (r : Fin 1024) (j : Fin 200) : (weights (before m) c : Vec Ideal S1024x200 .f32) (ix2 r j)
    = soft (fun j k => (m ((SparseCore.T c).loc main_arg0) : Vec Ideal S1024x200x64 .f32) (ix3 r j k))
        (fun j => (m ((SparseCore.T c).loc main_arg1) : Vec Ideal S1024x200 .i32) (ix2 r j))
        (fun k => (m ((SparseCore.T c).loc main_arg2) : Vec Ideal S64 .f32) (ix1 k)) ((m ((SparseCore.T c).loc main_arg3) : Vec Ideal S1 .f32) (ix1 0)) j := by
  have hr := r.isLt
  have e := weights_at (before m) c ⟨r.val / 128, show r.val / 128 < 8 by omega⟩ ⟨r.val % 128, Nat.mod_lt _ (by decide)⟩ j
  have er : (⟨128 * (r.val / 128) + r.val % 128, by omega⟩ : Fin 1024) = r := Fin.ext (Nat.div_add_mod _ _)
  simp only [er] at e
  have e2 : before m c main_arg2 = m ((SparseCore.T c).loc main_arg2) := V2_ne m c (by decide) (by decide)
  have e3 : before m c main_arg3 = m ((SparseCore.T c).loc main_arg3) := V2_ne m c (by decide) (by decide)
  rw [before_v0, before_v1, e2, e3] at e
  refine e.trans ?_
  pointwise

end Claim

theorem algebraic : Cert.algebraic_KernelIdeal_ReferenceIdeal := by
  intro m g m' g' hpre hm
  refine ⟨fun c => result (idsOf m) (wtsOf m) c, ?_, ?_⟩
  · exact (θ_run Cert.KernelIdeal.defs _ _).mono (fun _ h c => ⟨(h.1 c).2.2.2.2, (h.1 c).1, (h.1 c).2.1, (h.1 c).2.2.1, (h.1 c).2.2.2.1⟩)
      (run_main (F := Ideal) m g fun d j => ids_lt (hpre d) j)
  · refine (θ_run Cert.ReferenceIdeal.defs _ _).mono (fun r h c => ⟨(h c).1.trans ?_, (h c).2⟩) (Cert.ReferenceIdeal.Value.run (F := Ideal) m' g')
    obtain ⟨h0, h1, h2, h3⟩ := hm c
    rw [res_eq, h0, h1, h2, h3]
    funext y
    obtain ⟨r, v, rfl⟩ : ∃ (r : Fin 1024) (v : Fin 100000), y = ix2 r v := ⟨y 0, y 1, eq_ix2 y⟩
    refine (scatter_at _ (fun i => ids_lt (hpre c) i) _ r v).trans ?_
    refine Eq.trans ?_ (show scat (F := Ideal) (idsOf m c) (wtsOf m c) r.val v.val = result (idsOf m) (wtsOf m) c (ix2 r v) from rfl)
    rw [idsOf_eq, wtsOf_eq]
    refine Eq.trans ?_ (scat_at _ _ r v).symm
    refine Finset.sum_congr rfl fun j _ => ?_
    refine if_congr Iff.rfl ?_ rfl
    exact (refWeights_at _ _ _ _ r j).trans (weights_row m c r j).symm

end Cert.Proof
-- ==== Proof.lean ====
/- The proof of the certificate's claims: the frames and the value, from their modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_ideal, frame_reference, trivial, algebraic⟩

end Cert.Proof

end
